-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_queries_and_keys_finite [hPre_queries_and_keys_finite : Cert.Pre_queries_and_keys_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_queries_and_keys_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_queries_and_keys_finite [hPre_queries_and_keys_finite : Cert.Pre_queries_and_keys_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_queries_and_keys_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_queries_and_keys_finite [hKernel7Ideal : Cert.Kernel7Ideal.Facts] [hPre_queries_and_keys_finite : Cert.Pre_queries_and_keys_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_queries_and_keys_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_queries_and_keys_finite [hReference7Ideal : Cert.Reference7Ideal.Facts] [hPre_queries_and_keys_finite : Cert.Pre_queries_and_keys_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_queries_and_keys_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "alpha" .f32 0x3FD744FD#32 ((Real.sqrt (Real.sqrt 8) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)) (v2 : (c : Dev Cert.Kernel4Ideal.nD) → Buf (Elt Ideal) ((c.tc : Thread Cert.Kernel4Ideal.nD Cert.Kernel4Ideal.τ).loc Cert.Kernel4Ideal.main_v32_2)) (v3 : (c : Dev Cert.Kernel4Ideal.nD) → Buf (Elt Ideal) ((c.tc : Thread Cert.Kernel4Ideal.nD Cert.Kernel4Ideal.τ).loc Cert.Kernel4Ideal.main_v32_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_v32_2) = v2 c
          ∧ r.2.mem ((c.tc : Thread Cert.Kernel4Ideal.nD Cert.Kernel4Ideal.τ).loc Cert.Kernel4Ideal.main_v32_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_v69) = v2 c
          ∧ r.2.mem ((c.tc : Thread Cert.Reference4Ideal.nD Cert.Reference4Ideal.τ).loc Cert.Reference4Ideal.main_v70) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v38_0)) (v1 : (c : Dev Cert.Kernel5Ideal.nD) → Buf (Elt Ideal) ((c.tc : Thread Cert.Kernel5Ideal.nD Cert.Kernel5Ideal.τ).loc Cert.Kernel5Ideal.main_v38_1)) (v2 : (c : Dev Cert.Kernel5Ideal.nD) → Buf (Elt Ideal) ((c.tc : Thread Cert.Kernel5Ideal.nD Cert.Kernel5Ideal.τ).loc Cert.Kernel5Ideal.main_v38_2)) (v3 : (c : Dev Cert.Kernel5Ideal.nD) → Buf (Elt Ideal) ((c.tc : Thread Cert.Kernel5Ideal.nD Cert.Kernel5Ideal.τ).loc Cert.Kernel5Ideal.main_v38_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38_0) = v0 c
          ∧ r.2.mem ((c.tc : Thread Cert.Kernel5Ideal.nD Cert.Kernel5Ideal.τ).loc Cert.Kernel5Ideal.main_v38_1) = v1 c
          ∧ r.2.mem ((c.tc : Thread Cert.Kernel5Ideal.nD Cert.Kernel5Ideal.τ).loc Cert.Kernel5Ideal.main_v38_2) = v2 c
          ∧ r.2.mem ((c.tc : Thread Cert.Kernel5Ideal.nD Cert.Kernel5Ideal.τ).loc Cert.Kernel5Ideal.main_v38_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_v69) = v2 c
          ∧ r.2.mem ((c.tc : Thread Cert.Reference5Ideal.nD Cert.Reference5Ideal.τ).loc Cert.Reference5Ideal.main_v70) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "alpha" .f32 0x3FD744FD#32 ((Real.sqrt (Real.sqrt 8) : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  IdealRules.named_const.Statement Cert.Kernel7Ideal.κ "scale" .f32 0x3D3504F3#32 (((Real.sqrt 512)⁻¹ : ℝ) : EReal)
  ∧ IdealRules.named_const.Statement Cert.Kernel7Ideal.κ "alpha" .f32 0x3FD744FD#32 ((Real.sqrt (Real.sqrt 8) : ℝ) : EReal)

def algebraic_Kernel7Ideal_Reference7Ideal_pre_queries_and_keys_finite [hKernel7Ideal : Cert.Kernel7Ideal.Facts] [hReference7Ideal : Cert.Reference7Ideal.Facts] [hPre_queries_and_keys_finite : Cert.Pre_queries_and_keys_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_queries_and_keys_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_queries_and_keys_finite : Cert.Pre_queries_and_keys_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_queries_and_keys_finite (hKernel7Ideal := hKernel7Ideal) (hPre_queries_and_keys_finite := hPre_queries_and_keys_finite)
    ∧ quiescent_Reference7Ideal (hReference7Ideal := hReference7Ideal)
    ∧ quiescent_Reference7Ideal_pre_queries_and_keys_finite (hReference7Ideal := hReference7Ideal) (hPre_queries_and_keys_finite := hPre_queries_and_keys_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_queries_and_keys_finite (hKernel7Ideal := hKernel7Ideal) (hReference7Ideal := hReference7Ideal) (hPre_queries_and_keys_finite := hPre_queries_and_keys_finite)
-- ==== Pre_queries_and_keys_finite.lean ====
abbrev S8192x2048 : Shape := ⟨2, ![8192, 2048]⟩
abbrev S4x256x2048 : Shape := ⟨3, ![4, 256, 2048]⟩
abbrev S2048x2048 : Shape := ⟨2, ![2048, 2048]⟩
abbrev S2048 : Shape := ⟨1, ![2048]⟩
abbrev S4x8x256x2048 : Shape := ⟨4, ![4, 8, 256, 2048]⟩
abbrev S_ : Shape := ⟨0, ![]⟩
abbrev S4x1x256x2048 : Shape := ⟨4, ![4, 1, 256, 2048]⟩

class Facts : Prop where
  bitsLt_bf16_f32 : FTy.bits .bf16 < FTy.bits .f32
  shapeCasts_S8192x2048_S4x8x256x2048 : S8192x2048.ShapeCasts S4x8x256x2048
  bcast_S_S4x8x256x2048 : S_.BroadcastsInDim S4x8x256x2048 (![] : Fin 0 → Fin S4x8x256x2048.rank)
  bcast_S_S4x256x2048 : S_.BroadcastsInDim S4x256x2048 (![] : Fin 0 → Fin S4x256x2048.rank)
  bcast_S4x256x2048_S4x1x256x2048_0_2_3 : S4x256x2048.BroadcastsInDim S4x1x256x2048 (![0, 2, 3] : Fin 3 → Fin S4x1x256x2048.rank)
  bcast_S4x1x256x2048_S4x8x256x2048_0_1_2_3 : S4x1x256x2048.BroadcastsInDim S4x8x256x2048 (![0, 1, 2, 3] : Fin 4 → Fin S4x8x256x2048.rank)

variable [Facts]

def fn {F : FTy → Type} [FloatOps F] (main_arg0 : FVec F S8192x2048 .bf16) (main_arg1 : FVec F S4x256x2048 .f32) (main_arg2 : FVec F S4x256x2048 .f32) (main_arg3 : FVec F S2048x2048 .f32) (main_arg4 : FVec F S8192x2048 .f32) (main_arg5 : FVec F S2048 .f32) (main_arg6 : FVec F S2048 .f32) : IVec S4x8x256x2048 1 :=
  let main_v0 : FVec F S8192x2048 .f32 := (extf .f32 · bitsLt_bf16_f32) main_arg0
  let main_v1 : FVec F S4x8x256x2048 .f32 := shapeCast S4x8x256x2048 main_v0 shapeCasts_S8192x2048_S4x8x256x2048
  let main_v2 : FVec F S4x8x256x2048 .f32 := subf main_v1 main_v1
  let main_cst : FVec F S_ .f32 := constant S_ .f32 0x00000000#32
  let main_v3 : FVec F S4x8x256x2048 .f32 := broadcastInDim S4x8x256x2048 ![] bcast_S_S4x8x256x2048 main_cst
  let main_v4 : IVec S4x8x256x2048 1 := cmpf .oeq main_v2 main_v3
  let main_v5 : FVec F S4x256x2048 .f32 := subf main_arg1 main_arg1
  let main_cst_0 : FVec F S_ .f32 := constant S_ .f32 0x00000000#32
  let main_v6 : FVec F S4x256x2048 .f32 := broadcastInDim S4x256x2048 ![] bcast_S_S4x256x2048 main_cst_0
  let main_v7 : IVec S4x256x2048 1 := cmpf .oeq main_v5 main_v6
  let main_v8 : IVec S4x1x256x2048 1 := broadcastInDim S4x1x256x2048 ![0, 2, 3] bcast_S4x256x2048_S4x1x256x2048_0_2_3 main_v7
  let main_v9 : IVec S4x8x256x2048 1 := broadcastInDim S4x8x256x2048 ![0, 1, 2, 3] bcast_S4x1x256x2048_S4x8x256x2048_0_1_2_3 main_v8
  let main_v10 : IVec S4x8x256x2048 1 := andi main_v4 main_v9
  main_v10
-- ==== Kernel.lean ====
abbrev S8192x2048 : Shape := ⟨2, ![8192, 2048]⟩
abbrev S4x3x1024 : Shape := ⟨3, ![4, 3, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S1x4x1024 : Shape := ⟨3, ![1, 4, 1024]⟩
abbrev S1x1x1024 : Shape := ⟨3, ![1, 1, 1024]⟩
abbrev S1x8x128x128 : Shape := ⟨4, ![1, 8, 128, 128]⟩
abbrev S4x1x1024 : Shape := ⟨3, ![4, 1, 1024]⟩
abbrev S8192x1024 : Shape := ⟨2, ![8192, 1024]⟩
abbrev S256x1024 : Shape := ⟨2, ![256, 1024]⟩
abbrev S1x3x1024 : Shape := ⟨3, ![1, 3, 1024]⟩
abbrev S264x1024 : Shape := ⟨2, ![264, 1024]⟩
abbrev S1x1024 : Shape := ⟨2, ![1, 1024]⟩
abbrev S3x1024 : Shape := ⟨2, ![3, 1024]⟩
abbrev S256x128 : Shape := ⟨2, ![256, 128]⟩
abbrev S1x1x128x128 : Shape := ⟨4, ![1, 1, 128, 128]⟩
abbrev S128x128 : Shape := ⟨2, ![128, 128]⟩

abbrev nBuf : Space → Nat
  | .hbm => 22
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S4x3x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S8x128x128, .f32⟩
  | .hbm, ⟨8, _⟩ => ⟨S8x128, .f32⟩
  | .hbm, ⟨9, _⟩ => ⟨S1024, .f32⟩
  | .hbm, ⟨10, _⟩ => ⟨S1x4x1024, .f32⟩
  | .hbm, ⟨11, _⟩ => ⟨S1x1x1024, .f32⟩
  | .hbm, ⟨12, _⟩ => ⟨S1x8x128x128, .f32⟩
  | .hbm, ⟨13, _⟩ => ⟨S1x8x128x128, .bf16⟩
  | .hbm, ⟨14, _⟩ => ⟨S1x1x1024, .f32⟩
  | .hbm, ⟨15, _⟩ => ⟨S1x8x128x128, .f32⟩
  | .hbm, ⟨16, _⟩ => ⟨S1x8x128x128, .bf16⟩
  | .hbm, ⟨17, _⟩ => ⟨S1x1x1024, .f32⟩
  | .hbm, ⟨18, _⟩ => ⟨S1x1x1024, .f32⟩
  | .hbm, ⟨19, _⟩ => ⟨S4x1x1024, .f32⟩
  | .hbm, ⟨20, _⟩ => ⟨S8192x1024, .bf16⟩
  | .hbm, ⟨21, _⟩ => ⟨S4x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x4x1024, .f32⟩
  | .local _ .vmem, ⟨9, _⟩ => ⟨S1x1x1024, .f32⟩
  | .local _ .vmem, ⟨10, _⟩ => ⟨S1x8x128x128, .bf16⟩
  | .local _ .vmem, ⟨11, _⟩ => ⟨S1x1x1024, .f32⟩
  | .local _ .vmem, ⟨12, _⟩ => ⟨S1x8x128x128, .bf16⟩
  | .local _ .vmem, ⟨13, _⟩ => ⟨S1x1x1024, .f32⟩
  | .local _ .vmem, ⟨14, _⟩ => ⟨S1x1x1024, .f32⟩
  | .local _ .vmem, ⟨15, _⟩ => ⟨S256x1024, .bf16⟩
  | .local _ .vmem, ⟨16, _⟩ => ⟨S256x1024, .bf16⟩
  | .local _ .vmem, ⟨17, _⟩ => ⟨S1x1x1024, .f32⟩
  | .local _ .vmem, ⟨18, _⟩ => ⟨S1x1x1024, .f32⟩
  | .local _ .vmem, ⟨19, _⟩ => ⟨S264x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_116 : BitVec 32 := 0#32
  let c256_i32 : BitVec 32 := 256#32
  let v145 : BitVec 32 := Scalar.addi c0_i32_116 c256_i32
  let c1_i32_117 : BitVec 32 := 1#32
  ⟨c0_i32_116, v145, c1_i32_117⟩
def k0_off1 (k0_t1 : Fin k0_t1_loop.trips) : Fin 2 → Nat :=
  let c0_i32_116 : BitVec 32 := 0#32
  let c1_i32_117 : BitVec 32 := 1#32
  let arg19 : BitVec 32 := Scf.iv c0_i32_116 c1_i32_117 k0_t1
  let v171 : Index := Scalar.indexCast arg19
  let c0_132 : Index := 0#32
  ![v171.toNat, 0]
def k0_cond2 (i : grid0.Coords) : BitVec 1 :=
  let arg1 : BitVec 32 := BitVec.ofNat 32 (i 1).val
  let c7_i32 : BitVec 32 := 7#32
  let v168 : BitVec 1 := Scalar.cmpi .eq arg1 c7_i32
  let v169 : BitVec 32 := Scalar.extui v168
  let c0_i32_131 : BitVec 32 := 0#32
  let v170 : BitVec 1 := Scalar.cmpi .ne v169 c0_i32_131
  v170

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x2048 : Shape := ⟨2, ![8192, 2048]⟩
abbrev S4x3x1024 : Shape := ⟨3, ![4, 3, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S4x2048x2048 : Shape := ⟨3, ![4, 2048, 2048]⟩
abbrev S4x2048x1024 : Shape := ⟨3, ![4, 2048, 1024]⟩
abbrev S4x2051x1024 : Shape := ⟨3, ![4, 2051, 1024]⟩
abbrev S1x1024 : Shape := ⟨2, ![1, 1024]⟩
abbrev S1x1x1024 : Shape := ⟨3, ![1, 1, 1024]⟩
abbrev S4x2048x8x128 : Shape := ⟨4, ![4, 2048, 8, 128]⟩
abbrev S8x128x4x2048 : Shape := ⟨4, ![8, 128, 4, 2048]⟩
abbrev S1x1x8x128 : Shape := ⟨4, ![1, 1, 8, 128]⟩
abbrev S_ : Shape := ⟨0, ![]⟩
abbrev S2048x4x1024 : Shape := ⟨3, ![2048, 4, 1024]⟩
abbrev S1x4x1024 : Shape := ⟨3, ![1, 4, 1024]⟩
abbrev S8192x1024 : Shape := ⟨2, ![8192, 1024]⟩
abbrev S4x1x1024 : Shape := ⟨3, ![4, 1, 1024]⟩

abbrev nBuf : Space → Nat
  | .hbm => 159
  | .vmem => 0
  | .smem => 0
  | _ => 0

abbrev hbmTy0_0 (i : Nat) : BufTy := match i % 128 with
  | 0 => ⟨S8192x2048, .f32⟩
  | 1 => ⟨S4x3x1024, .f32⟩
  | 2 => ⟨S4x1024, .f32⟩
  | 3 => ⟨S4x1024, .f32⟩
  | 4 => ⟨S1024, .f32⟩
  | 5 => ⟨S8x128x128, .f32⟩
  | 6 => ⟨S8x128, .f32⟩
  | 7 => ⟨S8x128x128, .f32⟩
  | 8 => ⟨S8x128, .f32⟩
  | 9 => ⟨S1024, .f32⟩
  | 10 => ⟨S4x2048x2048, .f32⟩
  | 11 => ⟨S4x2048x1024, .f32⟩
  | 12 => ⟨S4x2048x1024, .f32⟩
  | 13 => ⟨S4x2051x1024, .f32⟩
  | 14 => ⟨S1x1024, .f32⟩
  | 15 => ⟨S1024, .f32⟩
  | 16 => ⟨S4x2048x1024, .f32⟩
  | 17 => ⟨S1x1x1024, .f32⟩
  | 18 => ⟨S4x2048x1024, .f32⟩
  | 19 => ⟨S4x2048x1024, .f32⟩
  | 20 => ⟨S1x1x1024, .f32⟩
  | 21 => ⟨S4x2048x1024, .f32⟩
  | 22 => ⟨S4x2048x1024, .f32⟩
  | 23 => ⟨S1x1024, .f32⟩
  | 24 => ⟨S1024, .f32⟩
  | 25 => ⟨S4x2048x1024, .f32⟩
  | 26 => ⟨S1x1x1024, .f32⟩
  | 27 => ⟨S4x2048x1024, .f32⟩
  | 28 => ⟨S4x2048x1024, .f32⟩
  | 29 => ⟨S4x2048x1024, .f32⟩
  | 30 => ⟨S1x1024, .f32⟩
  | 31 => ⟨S1024, .f32⟩
  | 32 => ⟨S4x2048x1024, .f32⟩
  | 33 => ⟨S1x1x1024, .f32⟩
  | 34 => ⟨S4x2048x1024, .f32⟩
  | 35 => ⟨S4x2048x1024, .f32⟩
  | 36 => ⟨S4x2048x1024, .f32⟩
  | 37 => ⟨S1x1024, .f32⟩
  | 38 => ⟨S1024, .f32⟩
  | 39 => ⟨S4x2048x1024, .f32⟩
  | 40 => ⟨S1x1x1024, .f32⟩
  | 41 => ⟨S4x2048x1024, .f32⟩
  | 42 => ⟨S4x2048x1024, .f32⟩
  | 43 => ⟨S4x2048x1024, .f32⟩
  | 44 => ⟨S4x2048x8x128, .f32⟩
  | 45 => ⟨S8x128x4x2048, .f32⟩
  | 46 => ⟨S4x2048x8x128, .f32⟩
  | 47 => ⟨S1x1x8x128, .f32⟩
  | 48 => ⟨S4x2048x8x128, .f32⟩
  | 49 => ⟨S4x2048x8x128, .f32⟩
  | 50 => ⟨S4x2048x8x128, .f32⟩
  | 51 => ⟨S4x2048x8x128, .f32⟩
  | 52 => ⟨S_, .f32⟩
  | 53 => ⟨S4x2048x8x128, .f32⟩
  | 54 => ⟨S4x2048x8x128, .f32⟩
  | 55 => ⟨S_, .f32⟩
  | 56 => ⟨S4x2048x8x128, .f32⟩
  | 57 => ⟨S4x2048x8x128, .f32⟩
  | 58 => ⟨S4x2048x1024, .f32⟩
  | 59 => ⟨S8x128x4x2048, .f32⟩
  | 60 => ⟨S4x2048x8x128, .f32⟩
  | 61 => ⟨S1x1x8x128, .f32⟩
  | 62 => ⟨S4x2048x8x128, .f32⟩
  | 63 => ⟨S4x2048x8x128, .f32⟩
  | 64 => ⟨S4x2048x8x128, .f32⟩
  | 65 => ⟨S4x2048x8x128, .f32⟩
  | 66 => ⟨S_, .f32⟩
  | 67 => ⟨S4x2048x8x128, .f32⟩
  | 68 => ⟨S4x2048x8x128, .f32⟩
  | 69 => ⟨S_, .f32⟩
  | 70 => ⟨S4x2048x8x128, .f32⟩
  | 71 => ⟨S4x2048x8x128, .f32⟩
  | 72 => ⟨S4x2048x1024, .f32⟩
  | 73 => ⟨S_, .f32⟩
  | 74 => ⟨S4x2048x1024, .f32⟩
  | 75 => ⟨S4x2048x1024, .f32⟩
  | 76 => ⟨S1024, .f32⟩
  | 77 => ⟨S_, .f32⟩
  | 78 => ⟨S1024, .f32⟩
  | 79 => ⟨S1024, .f32⟩
  | 80 => ⟨S1024, .f32⟩
  | 81 => ⟨S1024, .f32⟩
  | 82 => ⟨S1024, .i1⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1x1x1024, .f32⟩
  | 92 => ⟨S4x2048x1024, .f32⟩
  | 93 => ⟨S4x2048x1024, .f32⟩
  | 94 => ⟨S4x2048x1024, .f32⟩
  | 95 => ⟨S_, .f32⟩
  | 96 => ⟨S4x2048x1024, .f32⟩
  | 97 => ⟨S4x2048x1024, .f32⟩
  | 98 => ⟨S4x2048x1024, .f32⟩
  | 99 => ⟨S4x2048x1024, .f32⟩
  | 100 => ⟨S4x2048x1024, .f32⟩
  | 101 => ⟨S4x2048x1024, .f32⟩
  | 102 => ⟨S4x2048x1024, .f32⟩
  | 103 => ⟨S4x2048x1024, .f32⟩
  | 104 => ⟨S4x2048x1024, .f32⟩
  | 105 => ⟨S_, .f32⟩
  | 106 => ⟨S4x2048x1024, .f32⟩
  | 107 => ⟨S4x2048x1024, .f32⟩
  | 108 => ⟨S4x2048x1024, .f32⟩
  | 109 => ⟨S_, .f32⟩
  | 110 => ⟨S4x2048x1024, .f32⟩
  | 111 => ⟨S4x2048x1024, .f32⟩
  | 112 => ⟨S4x2048x1024, .f32⟩
  | 113 => ⟨S_, .f32⟩
  | 114 => ⟨S4x2048x1024, .f32⟩
  | 115 => ⟨S4x2048x1024, .f32⟩
  | 116 => ⟨S_, .f32⟩
  | 117 => ⟨S4x2048x1024, .f32⟩
  | 118 => ⟨S4x2048x1024, .f32⟩
  | 119 => ⟨S4x2048x1024, .f32⟩
  | 120 => ⟨S2048x4x1024, .f32⟩
  | 121 => ⟨S2048x4x1024, .f32⟩
  | 122 => ⟨S2048x4x1024, .f32⟩
  | 123 => ⟨S_, .f32⟩
  | 124 => ⟨S2048x4x1024, .f32⟩
  | 125 => ⟨S_, .i32⟩
  | 126 => ⟨S2048x4x1024, .f32⟩
  | 127 => ⟨S2048x4x1024, .f32⟩
  | _ => ⟨S8192x2048, .f32⟩

abbrev hbmTy0_1 (i : Nat) : BufTy := match i % 128 with
  | 0 => ⟨S2048x4x1024, .f32⟩
  | 1 => ⟨S_, .i32⟩
  | 2 => ⟨S4x1024, .f32⟩
  | 3 => ⟨S2048x4x1024, .f32⟩
  | 4 => ⟨S_, .i32⟩
  | 5 => ⟨S_, .i1⟩
  | 6 => ⟨S_, .i32⟩
  | 7 => ⟨S_, .i32⟩
  | 8 => ⟨S1x4x1024, .f32⟩
  | 9 => ⟨S4x1024, .f32⟩
  | 10 => ⟨S_, .i32⟩
  | 11 => ⟨S_, .i32⟩
  | 12 => ⟨S1x4x1024, .f32⟩
  | 13 => ⟨S4x1024, .f32⟩
  | 14 => ⟨S_, .i32⟩
  | 15 => ⟨S_, .i32⟩
  | 16 => ⟨S1x4x1024, .f32⟩
  | 17 => ⟨S4x1024, .f32⟩
  | 18 => ⟨S4x1024, .f32⟩
  | 19 => ⟨S4x1024, .f32⟩
  | 20 => ⟨S4x1024, .f32⟩
  | 21 => ⟨S1x4x1024, .f32⟩
  | 22 => ⟨S_, .i32⟩
  | 23 => ⟨S_, .i32⟩
  | 24 => ⟨S2048x4x1024, .f32⟩
  | 25 => ⟨S_, .i32⟩
  | 26 => ⟨S_, .i32⟩
  | 27 => ⟨S4x2048x1024, .f32⟩
  | 28 => ⟨S8192x1024, .f32⟩
  | 29 => ⟨S8192x1024, .bf16⟩
  | 30 => ⟨S4x1x1024, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_v42 : Ref sig .tc := ⟨.hbm, 53, rfl⟩
abbrev main_v43 : Ref sig .tc := ⟨.hbm, 54, rfl⟩
abbrev main_cst_0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_4 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_5 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_6 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_7 : Ref sig .tc := ⟨.hbm, 113, rfl⟩
abbrev main_v82 : Ref sig .tc := ⟨.hbm, 114, rfl⟩
abbrev main_v83 : Ref sig .tc := ⟨.hbm, 115, rfl⟩
abbrev main_cst_8 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_9 : Ref sig .tc := ⟨.hbm, 123, rfl⟩
abbrev main_v90 : Ref sig .tc := ⟨.hbm, 124, rfl⟩
abbrev main_c : Ref sig .tc := ⟨.hbm, 125, rfl⟩
abbrev main_v91_0 : Ref sig .tc := ⟨.hbm, 126, rfl⟩
abbrev main_v91_1 : Ref sig .tc := ⟨.hbm, 127, rfl⟩
abbrev main_v91_2 : Ref sig .tc := ⟨.hbm, 128, rfl⟩
abbrev main_v91_3 : Ref sig .tc := ⟨.hbm, 129, rfl⟩
abbrev main_v91_4 : Ref sig .tc := ⟨.hbm, 130, rfl⟩
abbrev main_v91_5 : Ref sig .tc := ⟨.hbm, 131, rfl⟩
abbrev main_while0c_c_15 : Ref sig .tc := ⟨.hbm, 132, rfl⟩
abbrev main_while0c_v96 : Ref sig .tc := ⟨.hbm, 133, rfl⟩
abbrev main_while0b_call1_c : Ref sig .tc := ⟨.hbm, 134, rfl⟩
abbrev main_while0b_call1_c_0 : Ref sig .tc := ⟨.hbm, 135, rfl⟩
abbrev main_while0b_call1_v0 : Ref sig .tc := ⟨.hbm, 136, rfl⟩
abbrev main_while0b_v96 : Ref sig .tc := ⟨.hbm, 137, rfl⟩
abbrev main_while0b_call2_c : Ref sig .tc := ⟨.hbm, 138, rfl⟩
abbrev main_while0b_call2_c_0 : Ref sig .tc := ⟨.hbm, 139, rfl⟩
abbrev main_while0b_call2_v0 : Ref sig .tc := ⟨.hbm, 140, rfl⟩
abbrev main_while0b_v97 : Ref sig .tc := ⟨.hbm, 141, rfl⟩
abbrev main_while0b_call3_c : Ref sig .tc := ⟨.hbm, 142, rfl⟩
abbrev main_while0b_call3_c_0 : Ref sig .tc := ⟨.hbm, 143, rfl⟩
abbrev main_while0b_call3_v0 : Ref sig .tc := ⟨.hbm, 144, rfl⟩
abbrev main_while0b_v98 : Ref sig .tc := ⟨.hbm, 145, rfl⟩
abbrev main_while0b_v99 : Ref sig .tc := ⟨.hbm, 146, rfl⟩
abbrev main_while0b_v100 : Ref sig .tc := ⟨.hbm, 147, rfl⟩
abbrev main_while0b_v101 : Ref sig .tc := ⟨.hbm, 148, rfl⟩
abbrev main_while0b_call4_v0 : Ref sig .tc := ⟨.hbm, 149, rfl⟩
abbrev main_while0b_call4_c : Ref sig .tc := ⟨.hbm, 150, rfl⟩
abbrev main_while0b_call4_c_0 : Ref sig .tc := ⟨.hbm, 151, rfl⟩
abbrev main_while0b_v102 : Ref sig .tc := ⟨.hbm, 152, rfl⟩
abbrev main_while0b_c_15 : Ref sig .tc := ⟨.hbm, 153, rfl⟩
abbrev main_while0b_v103 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8192x2048 : Shape := ⟨2, ![8192, 2048]⟩
abbrev S2048x8192 : Shape := ⟨2, ![2048, 8192]⟩
abbrev S2048 : Shape := ⟨1, ![2048]⟩
abbrev S1x1x2048 : Shape := ⟨3, ![1, 1, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S256x1024 : Shape := ⟨2, ![256, 1024]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x1x2048, .f32⟩
  | .hbm, ⟨8, _⟩ => ⟨S1x1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x1x2048, .f32⟩
  | .local _ .vmem, ⟨7, _⟩ => ⟨S1x1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel2Ideal.lean ====
variable {F : FTy → Type} [FloatOps F] [Named F]
def κ : String → Option EReal := fun
  | "alpha" => some ((Real.sqrt (Real.sqrt 8) : ℝ) : EReal)
  | _ => none
-- ==== Reference2Ideal.lean ====
abbrev S8192x2048 : Shape := ⟨2, ![8192, 2048]⟩
abbrev S2048x8192 : Shape := ⟨2, ![2048, 8192]⟩
abbrev S2048 : Shape := ⟨1, ![2048]⟩
abbrev S_ : Shape := ⟨0, ![]⟩
abbrev S8192x8192 : Shape := ⟨2, ![8192, 8192]⟩
abbrev S8192 : Shape := ⟨1, ![8192]⟩
abbrev S8192x1 : Shape := ⟨2, ![8192, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel3.lean ====
abbrev S4x256x2048 : Shape := ⟨3, ![4, 256, 2048]⟩
abbrev S4x2048x2048 : Shape := ⟨3, ![4, 2048, 2048]⟩
abbrev S1024x2048 : Shape := ⟨2, ![1024, 2048]⟩
abbrev S4x1024x2048 : Shape := ⟨3, ![4, 1024, 2048]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S4x2048x2048, .f32⟩
  | .hbm, ⟨2, _⟩ => ⟨S1024x2048, .f32⟩
  | .hbm, ⟨3, _⟩ => ⟨S4x1024x2048, .f32⟩
  | .local _ .vmem, ⟨0, _⟩ => ⟨S1024x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1024x512, .f32⟩
  | .local _ .vmem, ⟨4, _⟩ => ⟨S1x1024x512, .f32⟩
  | .local _ .vmem, ⟨5, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference3Ideal.lean ====
abbrev S4x256x2048 : Shape := ⟨3, ![4, 256, 2048]⟩
abbrev S4x2048x2048 : Shape := ⟨3, ![4, 2048, 2048]⟩
abbrev S4x2048x4x256 : Shape := ⟨4, ![4, 2048, 4, 256]⟩
abbrev S4x4x256x2048 : Shape := ⟨4, ![4, 4, 256, 2048]⟩
abbrev S4x1024x2048 : Shape := ⟨3, ![4, 1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x2048x2048, .f32⟩
  | .hbm, ⟨2, _⟩ => ⟨S4x2048x4x256, .f32⟩
  | .hbm, ⟨3, _⟩ => ⟨S4x4x256x2048, .f32⟩
  | .hbm, ⟨4, _⟩ => ⟨S4x1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8192x2048 : Shape := ⟨2, ![8192, 2048]⟩
abbrev S2048x2880 : Shape := ⟨2, ![2048, 2880]⟩
abbrev S512 : Shape := ⟨1, ![512]⟩
abbrev S256 : Shape := ⟨1, ![256]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S1x2048x2880 : Shape := ⟨3, ![1, 2048, 2880]⟩
abbrev S1x1x512 : Shape := ⟨3, ![1, 1, 512]⟩
abbrev S1x1x256 : Shape := ⟨3, ![1, 1, 256]⟩
abbrev S2048x128 : Shape := ⟨2, ![2048, 128]⟩
abbrev S8192x512 : Shape := ⟨2, ![8192, 512]⟩
abbrev S8192x256 : Shape := ⟨2, ![8192, 256]⟩
abbrev S8192x64 : Shape := ⟨2, ![8192, 64]⟩
abbrev S512x2048 : Shape := ⟨2, ![512, 2048]⟩
abbrev S512x128 : Shape := ⟨2, ![512, 128]⟩
abbrev S512x512 : Shape := ⟨2, ![512, 512]⟩
abbrev S512x256 : Shape := ⟨2, ![512, 256]⟩
abbrev S512x64 : Shape := ⟨2, ![512, 64]⟩
abbrev S1x2048x832 : Shape := ⟨3, ![1, 2048, 832]⟩
abbrev S2048x832 : Shape := ⟨2, ![2048, 832]⟩
abbrev S512x832 : Shape := ⟨2, ![512, 832]⟩
abbrev S1x512 : Shape := ⟨2, ![1, 512]⟩
abbrev S512x1 : Shape := ⟨2, ![512, 1]⟩
abbrev S1x256 : Shape := ⟨2, ![1, 256]⟩
abbrev S1x2048x2048 : Shape := ⟨3, ![1, 2048, 2048]⟩
abbrev S2048x2048 : Shape := ⟨2, ![2048, 2048]⟩

abbrev nBuf : Space → Nat
  | .hbm => 43
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048x2880, .f32⟩
  | .hbm, ⟨2, _⟩ => ⟨S512, .f32⟩
  | .hbm, ⟨3, _⟩ => ⟨S256, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x64, .f32⟩
  | .hbm, ⟨25, _⟩ => ⟨S1x2048x1x64, .f32⟩
  | .hbm, ⟨26, _⟩ => ⟨S1x2048x8x64, .f32⟩
  | .hbm, ⟨27, _⟩ => ⟨S2048x512, .f32⟩
  | .hbm, ⟨28, _⟩ => ⟨S2048x32, .f32⟩
  | .hbm, ⟨29, _⟩ => ⟨S2048x64, .f32⟩
  | .hbm, ⟨30, _⟩ => ⟨S1x2048x1x64, .f32⟩
  | .hbm, ⟨31, _⟩ => ⟨S1x2048x8x64, .f32⟩
  | .hbm, ⟨32, _⟩ => ⟨S2048x512, .f32⟩
  | .hbm, ⟨33, _⟩ => ⟨S2048x2880, .bf16⟩
  | .hbm, ⟨34, _⟩ => ⟨S1x2048x2880, .bf16⟩
  | .hbm, ⟨35, _⟩ => ⟨S1x1x512, .f32⟩
  | .hbm, ⟨36, _⟩ => ⟨S1x1x256, .f32⟩
  | .hbm, ⟨37, _⟩ => ⟨S2048x128, .f32⟩
  | .hbm, ⟨38, _⟩ => ⟨S2048x128, .f32⟩
  | .hbm, ⟨39, _⟩ => ⟨S8192x2048, .f32⟩
  | .hbm, ⟨40, _⟩ => ⟨S8192x512, .bf16⟩
  | .hbm, ⟨41, _⟩ => ⟨S8192x256, .f32⟩
  | .hbm, ⟨42, _⟩ => ⟨S8192x64, .f32⟩
  | .local _ .vmem, ⟨0, _⟩ => ⟨S512x2048, .f32⟩
  | .local _ .vmem, ⟨1, _⟩ => ⟨S512x2048, .f32⟩
  | .local _ .vmem, ⟨2, _⟩ => ⟨S1x2048x2880, .bf16⟩
  | .local _ .vmem, ⟨3, _⟩ => ⟨S1x1x512, .f32⟩
  | .local _ .vmem, ⟨4, _⟩ => ⟨S1x1x256, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x2048, .f32⟩
  | .local _ .vmem, ⟨10, _⟩ => ⟨S512x2048, .f32⟩
  | .local _ .vmem, ⟨11, _⟩ => ⟨S512x512, .bf16⟩
  | .local _ .vmem, ⟨12, _⟩ => ⟨S512x512, .bf16⟩
  | .local _ .vmem, ⟨13, _⟩ => ⟨S512x256, .f32⟩
  | .local _ .vmem, ⟨14, _⟩ => ⟨S512x256, .f32⟩
  | .local _ .vmem, ⟨15, _⟩ => ⟨S512x64, .f32⟩
  | .local _ .vmem, ⟨16, _⟩ => ⟨S512x64, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2880 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8192x2048 : Shape := ⟨2, ![8192, 2048]⟩
abbrev S2048x2880 : Shape := ⟨2, ![2048, 2880]⟩
abbrev S512 : Shape := ⟨1, ![512]⟩
abbrev S256 : Shape := ⟨1, ![256]⟩
abbrev S2048 : Shape := ⟨1, ![2048]⟩
abbrev S_ : Shape := ⟨0, ![]⟩
abbrev S4x2048x2048 : Shape := ⟨3, ![4, 2048, 2048]⟩
abbrev S4x2048x2880 : Shape := ⟨3, ![4, 2048, 2880]⟩
abbrev S4x2048x512 : Shape := ⟨3, ![4, 2048, 512]⟩
abbrev S4x2048x256 : Shape := ⟨3, ![4, 2048, 256]⟩
abbrev S4x2048x64 : Shape := ⟨3, ![4, 2048, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S4x2048x32 : Shape := ⟨3, ![4, 2048, 32]⟩
abbrev S1x2048x32 : Shape := ⟨3, ![1, 2048, 32]⟩
abbrev S4x2048 : Shape := ⟨2, ![4, 2048]⟩
abbrev S4x2048x1 : Shape := ⟨3, ![4, 2048, 1]⟩
abbrev S1x1x512 : Shape := ⟨3, ![1, 1, 512]⟩
abbrev S8192x512 : Shape := ⟨2, ![8192, 512]⟩
abbrev S1x1x256 : Shape := ⟨3, ![1, 1, 256]⟩
abbrev S8192x256 : Shape := ⟨2, ![8192, 256]⟩
abbrev S8192x64 : Shape := ⟨2, ![8192, 64]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2880, .f32⟩
  | .hbm, ⟨2, _⟩ => ⟨S512, .f32⟩
  | .hbm, ⟨3, _⟩ => ⟨S256, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S4x2048x2048, .f32⟩
  | .hbm, ⟨9, _⟩ => ⟨S4x2048x2880, .f32⟩
  | .hbm, ⟨10, _⟩ => ⟨S4x2048x2048, .f32⟩
  | .hbm, ⟨11, _⟩ => ⟨S4x2048x512, .f32⟩
  | .hbm, ⟨12, _⟩ => ⟨S4x2048x256, .f32⟩
  | .hbm, ⟨13, _⟩ => ⟨S4x2048x64, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S4x2048x32, .f32⟩
  | .hbm, ⟨31, _⟩ => ⟨S4x2048x32, .f32⟩
  | .hbm, ⟨32, _⟩ => ⟨S1x2048x32, .f32⟩
  | .hbm, ⟨33, _⟩ => ⟨S4x2048x32, .f32⟩
  | .hbm, ⟨34, _⟩ => ⟨S4x2048x32, .f32⟩
  | .hbm, ⟨35, _⟩ => ⟨S1x2048x32, .f32⟩
  | .hbm, ⟨36, _⟩ => ⟨S4x2048x32, .f32⟩
  | .hbm, ⟨37, _⟩ => ⟨S4x2048x32, .f32⟩
  | .hbm, ⟨38, _⟩ => ⟨S4x2048x32, .f32⟩
  | .hbm, ⟨39, _⟩ => ⟨S1x2048x32, .f32⟩
  | .hbm, ⟨40, _⟩ => ⟨S4x2048x32, .f32⟩
  | .hbm, ⟨41, _⟩ => ⟨S4x2048x32, .f32⟩
  | .hbm, ⟨42, _⟩ => ⟨S1x2048x32, .f32⟩
  | .hbm, ⟨43, _⟩ => ⟨S4x2048x32, .f32⟩
  | .hbm, ⟨44, _⟩ => ⟨S4x2048x32, .f32⟩
  | .hbm, ⟨45, _⟩ => ⟨S4x2048x32, .f32⟩
  | .hbm, ⟨46, _⟩ => ⟨S4x2048x64, .f32⟩
  | .hbm, ⟨47, _⟩ => ⟨S8192x2048, .f32⟩
  | .hbm, ⟨48, _⟩ => ⟨S4x2048x512, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S4x2048x1, .f32⟩
  | .hbm, ⟨59, _⟩ => ⟨S4x2048x512, .f32⟩
  | .hbm, ⟨60, _⟩ => ⟨S4x2048x512, .f32⟩
  | .hbm, ⟨61, _⟩ => ⟨S1x1x512, .f32⟩
  | .hbm, ⟨62, _⟩ => ⟨S4x2048x512, .f32⟩
  | .hbm, ⟨63, _⟩ => ⟨S4x2048x512, .f32⟩
  | .hbm, ⟨64, _⟩ => ⟨S8192x512, .f32⟩
  | .hbm, ⟨65, _⟩ => ⟨S8192x512, .bf16⟩
  | .hbm, ⟨66, _⟩ => ⟨S4x2048x256, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S4x2048x1, .f32⟩
  | .hbm, ⟨77, _⟩ => ⟨S4x2048x256, .f32⟩
  | .hbm, ⟨78, _⟩ => ⟨S4x2048x256, .f32⟩
  | .hbm, ⟨79, _⟩ => ⟨S1x1x256, .f32⟩
  | .hbm, ⟨80, _⟩ => ⟨S4x2048x256, .f32⟩
  | .hbm, ⟨81, _⟩ => ⟨S4x2048x256, .f32⟩
  | .hbm, ⟨82, _⟩ => ⟨S8192x256, .f32⟩
  | .hbm, ⟨83, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_1 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_4 : Ref sig .tc := ⟨.hbm, 67, rfl⟩
abbrev main_v57 : Ref sig .tc := ⟨.hbm, 68, rfl⟩
abbrev main_v58 : Ref sig .tc := ⟨.hbm, 69, rfl⟩
abbrev main_cst_5 : Ref sig .tc := ⟨.hbm, 70, rfl⟩
abbrev main_v59 : Ref sig .tc := ⟨.hbm, 71, rfl⟩
abbrev main_v60 : Ref sig .tc := ⟨.hbm, 72, rfl⟩
abbrev main_cst_6 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩

abbrev nD : Nat := 1
abbrev τ : Topo := Topo.v7x

variable {F : FTy → Type} [FloatOps F]
-- ==== Kernel5.lean ====
abbrev S256x2048 : Shape := ⟨2, ![256, 2048]⟩
abbrev S2048x2880 : Shape := ⟨2, ![2048, 2880]⟩
abbrev S512 : Shape := ⟨1, ![512]⟩
abbrev S256 : Shape := ⟨1, ![256]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S1x32x1x64 : Shape := ⟨4, ![1, 32, 1, 64]⟩
abbrev S1x32x8x64 : Shape := ⟨4, ![1, 32, 8, 64]⟩
abbrev S32x512 : Shape := ⟨2, ![32, 512]⟩
abbrev S1x2048x2880 : Shape := ⟨3, ![1, 2048, 2880]⟩
abbrev S1x1x512 : Shape := ⟨3, ![1, 1, 512]⟩
abbrev S1x1x256 : Shape := ⟨3, ![1, 1, 256]⟩
abbrev S1x32x1x512 : Shape := ⟨4, ![1, 32, 1, 512]⟩
abbrev S8x32x1x512 : Shape := ⟨4, ![8, 32, 1, 512]⟩
abbrev S256x512 : Shape := ⟨2, ![256, 512]⟩
abbrev S256x128 : Shape := ⟨2, ![256, 128]⟩
abbrev S256x256 : Shape := ⟨2, ![256, 256]⟩
abbrev S256x64 : Shape := ⟨2, ![256, 64]⟩
abbrev S1x2048x832 : Shape := ⟨3, ![1, 2048, 832]⟩
abbrev S2048x832 : Shape := ⟨2, ![2048, 832]⟩
abbrev S256x832 : Shape := ⟨2, ![256, 832]⟩
abbrev S1x512 : Shape := ⟨2, ![1, 512]⟩
abbrev S256x1 : Shape := ⟨2, ![256, 1]⟩
abbrev S1x256 : Shape := ⟨2, ![1, 256]⟩
abbrev S1x2048x2048 : Shape := ⟨3, ![1, 2048, 2048]⟩
abbrev S2048x2048 : Shape := ⟨2, ![2048, 2048]⟩

abbrev nBuf : Space → Nat
  | .hbm => 49
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S2048x2880, .f32⟩
  | .hbm, ⟨2, _⟩ => ⟨S512, .f32⟩
  | .hbm, ⟨3, _⟩ => ⟨S256, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S32x1, .f32⟩
  | .hbm, ⟨18, _⟩ => ⟨S1x32, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S32x32, .f32⟩
  | .hbm, ⟨24, _⟩ => ⟨S32x64, .f32⟩
  | .hbm, ⟨25, _⟩ => ⟨S1x32x1x64, .f32⟩
  | .hbm, ⟨26, _⟩ => ⟨S1x32x8x64, .f32⟩
  | .hbm, ⟨27, _⟩ => ⟨S32x512, .f32⟩
  | .hbm, ⟨28, _⟩ => ⟨S32x32, .f32⟩
  | .hbm, ⟨29, _⟩ => ⟨S32x64, .f32⟩
  | .hbm, ⟨30, _⟩ => ⟨S1x32x1x64, .f32⟩
  | .hbm, ⟨31, _⟩ => ⟨S1x32x8x64, .f32⟩
  | .hbm, ⟨32, _⟩ => ⟨S32x512, .f32⟩
  | .hbm, ⟨33, _⟩ => ⟨S2048x2880, .bf16⟩
  | .hbm, ⟨34, _⟩ => ⟨S1x2048x2880, .bf16⟩
  | .hbm, ⟨35, _⟩ => ⟨S1x1x512, .f32⟩
  | .hbm, ⟨36, _⟩ => ⟨S1x1x256, .f32⟩
  | .hbm, ⟨37, _⟩ => ⟨S1x32x1x512, .f32⟩
  | .hbm, ⟨38, _⟩ => ⟨S8x32x1x512, .f32⟩
  | .hbm, ⟨39, _⟩ => ⟨S256x512, .f32⟩
  | .hbm, ⟨40, _⟩ => ⟨S256x128, .f32⟩
  | .hbm, ⟨41, _⟩ => ⟨S1x32x1x512, .f32⟩
  | .hbm, ⟨42, _⟩ => ⟨S8x32x1x512, .f32⟩
  | .hbm, ⟨43, _⟩ => ⟨S256x512, .f32⟩
  | .hbm, ⟨44, _⟩ => ⟨S256x128, .f32⟩
  | .hbm, ⟨45, _⟩ => ⟨S256x2048, .f32⟩
  | .hbm, ⟨46, _⟩ => ⟨S256x512, .bf16⟩
  | .hbm, ⟨47, _⟩ => ⟨S256x256, .f32⟩
  | .hbm, ⟨48, _⟩ => ⟨S256x64, .f32⟩
  | .local _ .vmem, ⟨0, _⟩ => ⟨S256x2048, .f32⟩
  | .local _ .vmem, ⟨1, _⟩ => ⟨S1x2048x2880, .bf16⟩
  | .local _ .vmem, ⟨2, _⟩ => ⟨S1x1x512, .f32⟩
  | .local _ .vmem, ⟨3, _⟩ => ⟨S1x1x256, .f32⟩
  | .local _ .vmem, ⟨4, _⟩ => ⟨S256x128, .f32⟩
  | .local _ .vmem, ⟨5, _⟩ => ⟨S256x128, .f32⟩
  | .local _ .vmem, ⟨6, _⟩ => ⟨S256x2048, .f32⟩
  | .local _ .vmem, ⟨7, _⟩ => ⟨S256x512, .bf16⟩
  | .local _ .vmem, ⟨8, _⟩ => ⟨S256x256, .f32⟩
  | .local _ .vmem, ⟨9, _⟩ => ⟨S256x64, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38_0 : Ref sig .tc := ⟨.hbm, 45, rfl⟩
abbrev main_v38_1 : Ref sig .tc := ⟨.hbm, 46, rfl⟩
abbrev main_v38_2 : Ref sig .tc := ⟨.hbm, 47, rfl⟩
abbrev main_v38_3 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048x2880 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S256x2048 : Shape := ⟨2, ![256, 2048]⟩
abbrev S2048x2880 : Shape := ⟨2, ![2048, 2880]⟩
abbrev S512 : Shape := ⟨1, ![512]⟩
abbrev S256 : Shape := ⟨1, ![256]⟩
abbrev S32 : Shape := ⟨1, ![32]⟩
abbrev S_ : Shape := ⟨0, ![]⟩
abbrev S8x32x2048 : Shape := ⟨3, ![8, 32, 2048]⟩
abbrev S8x32x2880 : Shape := ⟨3, ![8, 32, 2880]⟩
abbrev S8x32x512 : Shape := ⟨3, ![8, 32, 512]⟩
abbrev S8x32x256 : Shape := ⟨3, ![8, 32, 256]⟩
abbrev S8x32x64 : Shape := ⟨3, ![8, 32, 64]⟩
abbrev S32x1 : Shape := ⟨2, ![32, 1]⟩
abbrev S1x32 : Shape := ⟨2, ![1, 32]⟩
abbrev S32x32 : Shape := ⟨2, ![32, 32]⟩
abbrev S8x32x32 : Shape := ⟨3, ![8, 32, 32]⟩
abbrev S1x32x32 : Shape := ⟨3, ![1, 32, 32]⟩
abbrev S8x32 : Shape := ⟨2, ![8, 32]⟩
abbrev S8x32x1 : Shape := ⟨3, ![8, 32, 1]⟩
abbrev S1x1x512 : Shape := ⟨3, ![1, 1, 512]⟩
abbrev S256x512 : Shape := ⟨2, ![256, 512]⟩
abbrev S1x1x256 : Shape := ⟨3, ![1, 1, 256]⟩
abbrev S256x256 : Shape := ⟨2, ![256, 256]⟩
abbrev S256x64 : Shape := ⟨2, ![256, 64]⟩

abbrev nBuf : Space → Nat
  | .hbm => 84
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2880, .f32⟩
  | .hbm, ⟨2, _⟩ => ⟨S512, .f32⟩
  | .hbm, ⟨3, _⟩ => ⟨S256, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S8x32x2048, .f32⟩
  | .hbm, ⟨9, _⟩ => ⟨S8x32x2880, .f32⟩
  | .hbm, ⟨10, _⟩ => ⟨S8x32x2048, .f32⟩
  | .hbm, ⟨11, _⟩ => ⟨S8x32x512, .f32⟩
  | .hbm, ⟨12, _⟩ => ⟨S8x32x256, .f32⟩
  | .hbm, ⟨13, _⟩ => ⟨S8x32x64, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S1x32, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S8x32x32, .f32⟩
  | .hbm, ⟨31, _⟩ => ⟨S8x32x32, .f32⟩
  | .hbm, ⟨32, _⟩ => ⟨S1x32x32, .f32⟩
  | .hbm, ⟨33, _⟩ => ⟨S8x32x32, .f32⟩
  | .hbm, ⟨34, _⟩ => ⟨S8x32x32, .f32⟩
  | .hbm, ⟨35, _⟩ => ⟨S1x32x32, .f32⟩
  | .hbm, ⟨36, _⟩ => ⟨S8x32x32, .f32⟩
  | .hbm, ⟨37, _⟩ => ⟨S8x32x32, .f32⟩
  | .hbm, ⟨38, _⟩ => ⟨S8x32x32, .f32⟩
  | .hbm, ⟨39, _⟩ => ⟨S1x32x32, .f32⟩
  | .hbm, ⟨40, _⟩ => ⟨S8x32x32, .f32⟩
  | .hbm, ⟨41, _⟩ => ⟨S8x32x32, .f32⟩
  | .hbm, ⟨42, _⟩ => ⟨S1x32x32, .f32⟩
  | .hbm, ⟨43, _⟩ => ⟨S8x32x32, .f32⟩
  | .hbm, ⟨44, _⟩ => ⟨S8x32x32, .f32⟩
  | .hbm, ⟨45, _⟩ => ⟨S8x32x32, .f32⟩
  | .hbm, ⟨46, _⟩ => ⟨S8x32x64, .f32⟩
  | .hbm, ⟨47, _⟩ => ⟨S256x2048, .f32⟩
  | .hbm, ⟨48, _⟩ => ⟨S8x32x512, .f32⟩
  | .hbm, ⟨49, _⟩ => ⟨S_, .f32⟩
  | .hbm, ⟨50, _⟩ => ⟨S8x32, .f32⟩
  | .hbm, ⟨51, _⟩ => ⟨S8x32x1, .f32⟩
  | .hbm, ⟨52, _⟩ => ⟨S_, .f32⟩
  | .hbm, ⟨53, _⟩ => ⟨S8x32x1, .f32⟩
  | .hbm, ⟨54, _⟩ => ⟨S8x32x1, .f32⟩
  | .hbm, ⟨55, _⟩ => ⟨S_, .f32⟩
  | .hbm, ⟨56, _⟩ => ⟨S8x32x1, .f32⟩
  | .hbm, ⟨57, _⟩ => ⟨S8x32x1, .f32⟩
  | .hbm, ⟨58, _⟩ => ⟨S8x32x1, .f32⟩
  | .hbm, ⟨59, _⟩ => ⟨S8x32x512, .f32⟩
  | .hbm, ⟨60, _⟩ => ⟨S8x32x512, .f32⟩
  | .hbm, ⟨61, _⟩ => ⟨S1x1x512, .f32⟩
  | .hbm, ⟨62, _⟩ => ⟨S8x32x512, .f32⟩
  | .hbm, ⟨63, _⟩ => ⟨S8x32x512, .f32⟩
  | .hbm, ⟨64, _⟩ => ⟨S256x512, .f32⟩
  | .hbm, ⟨65, _⟩ => ⟨S256x512, .bf16⟩
  | .hbm, ⟨66, _⟩ => ⟨S8x32x256, .f32⟩
  | .hbm, ⟨67, _⟩ => ⟨S_, .f32⟩
  | .hbm, ⟨68, _⟩ => ⟨S8x32, .f32⟩
  | .hbm, ⟨69, _⟩ => ⟨S8x32x1, .f32⟩
  | .hbm, ⟨70, _⟩ => ⟨S_, .f32⟩
  | .hbm, ⟨71, _⟩ => ⟨S8x32x1, .f32⟩
  | .hbm, ⟨72, _⟩ => ⟨S8x32x1, .f32⟩
  | .hbm, ⟨73, _⟩ => ⟨S_, .f32⟩
  | .hbm, ⟨74, _⟩ => ⟨S8x32x1, .f32⟩
  | .hbm, ⟨75, _⟩ => ⟨S8x32x1, .f32⟩
  | .hbm, ⟨76, _⟩ => ⟨S8x32x1, .f32⟩
  | .hbm, ⟨77, _⟩ => ⟨S8x32x256, .f32⟩
  | .hbm, ⟨78, _⟩ => ⟨S8x32x256, .f32⟩
  | .hbm, ⟨79, _⟩ => ⟨S1x1x256, .f32⟩
  | .hbm, ⟨80, _⟩ => ⟨S8x32x256, .f32⟩
  | .hbm, ⟨81, _⟩ => ⟨S8x32x256, .f32⟩
  | .hbm, ⟨82, _⟩ => ⟨S256x256, .f32⟩
  | .hbm, ⟨83, _⟩ => ⟨S256x64, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_1 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_4 : Ref sig .tc := ⟨.hbm, 67, rfl⟩
abbrev main_v57 : Ref sig .tc := ⟨.hbm, 68, rfl⟩
abbrev main_v58 : Ref sig .tc := ⟨.hbm, 69, rfl⟩
abbrev main_cst_5 : Ref sig .tc := ⟨.hbm, 70, rfl⟩
abbrev main_v59 : Ref sig .tc := ⟨.hbm, 71, rfl⟩
abbrev main_v60 : Ref sig .tc := ⟨.hbm, 72, rfl⟩
abbrev main_cst_6 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩

abbrev nD : Nat := 1
abbrev τ : Topo := Topo.v7x

variable {F : FTy → Type} [FloatOps F]
-- ==== Kernel6.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S1x2048x2048 : Shape := ⟨3, ![1, 2048, 2048]⟩
abbrev S1x1x2048 : Shape := ⟨3, ![1, 1, 2048]⟩
abbrev S512x1024 : Shape := ⟨2, ![512, 1024]⟩
abbrev S512x2048 : Shape := ⟨2, ![512, 2048]⟩
abbrev S256x1024 : Shape := ⟨2, ![256, 1024]⟩
abbrev S1x1024x2048 : Shape := ⟨3, ![1, 1024, 2048]⟩
abbrev S1024x2048 : Shape := ⟨2, ![1024, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S1x2048x2048, .bf16⟩
  | .hbm, ⟨9, _⟩ => ⟨S1x1x2048, .f32⟩
  | .hbm, ⟨10, _⟩ => ⟨S1x1x2048, .f32⟩
  | .hbm, ⟨11, _⟩ => ⟨S2048x2048, .bf16⟩
  | .hbm, ⟨12, _⟩ => ⟨S1x2048x2048, .bf16⟩
  | .hbm, ⟨13, _⟩ => ⟨S8192x2048, .f32⟩
  | .hbm, ⟨14, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel6Ideal.lean ====
variable {F : FTy → Type} [FloatOps F] [Named F]
def κ : String → Option EReal := fun
  | "alpha" => some ((Real.sqrt (Real.sqrt 8) : ℝ) : EReal)
  | _ => none
-- ==== Reference6Ideal.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S8192x2048, .bf16⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel7.lean ====
abbrev S8192x2048 : Shape := ⟨2, ![8192, 2048]⟩
abbrev S4x256x2048 : Shape := ⟨3, ![4, 256, 2048]⟩
abbrev S2048x2048 : Shape := ⟨2, ![2048, 2048]⟩
abbrev S2048 : Shape := ⟨1, ![2048]⟩
abbrev S1x4x256x2048 : Shape := ⟨4, ![1, 4, 256, 2048]⟩
abbrev S1x2048x2048 : Shape := ⟨3, ![1, 2048, 2048]⟩
abbrev S1x1x2048 : Shape := ⟨3, ![1, 1, 2048]⟩
abbrev S512x2048 : Shape := ⟨2, ![512, 2048]⟩
abbrev S1x1x256x2048 : Shape := ⟨4, ![1, 1, 256, 2048]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1x2048 : Shape := ⟨2, ![1, 2048]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S4x256x2048, .f32⟩
  | .hbm, ⟨2, _⟩ => ⟨S4x256x2048, .f32⟩
  | .hbm, ⟨3, _⟩ => ⟨S2048x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S1x4x256x2048, .f32⟩
  | .hbm, ⟨8, _⟩ => ⟨S1x4x256x2048, .f32⟩
  | .hbm, ⟨9, _⟩ => ⟨S2048x2048, .bf16⟩
  | .hbm, ⟨10, _⟩ => ⟨S1x2048x2048, .bf16⟩
  | .hbm, ⟨11, _⟩ => ⟨S1x1x2048, .f32⟩
  | .hbm, ⟨12, _⟩ => ⟨S1x1x2048, .f32⟩
  | .hbm, ⟨13, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x256x2048, .f32⟩
  | .local _ .vmem, ⟨3, _⟩ => ⟨S1x1x256x2048, .f32⟩
  | .local _ .vmem, ⟨4, _⟩ => ⟨S1x1x256x2048, .f32⟩
  | .local _ .vmem, ⟨5, _⟩ => ⟨S1x1x256x2048, .f32⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S1x1x2048, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel7Ideal.lean ====
variable {F : FTy → Type} [FloatOps F] [Named F]
def κ : String → Option EReal := fun
  | "alpha" => some ((Real.sqrt (Real.sqrt 8) : ℝ) : EReal)
  | "scale" => some (((Real.sqrt 512)⁻¹ : ℝ) : EReal)
  | _ => none
-- ==== Reference7Ideal.lean ====
abbrev S8192x2048 : Shape := ⟨2, ![8192, 2048]⟩
abbrev S4x256x2048 : Shape := ⟨3, ![4, 256, 2048]⟩
abbrev S2048x2048 : Shape := ⟨2, ![2048, 2048]⟩
abbrev S2048 : Shape := ⟨1, ![2048]⟩
abbrev S4x2048x4x512 : Shape := ⟨4, ![4, 2048, 4, 512]⟩
abbrev S4x256x4x512 : Shape := ⟨4, ![4, 256, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x256x2048, .f32⟩
  | .hbm, ⟨2, _⟩ => ⟨S4x256x2048, .f32⟩
  | .hbm, ⟨3, _⟩ => ⟨S2048x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S4x2048x4x512, .f32⟩
  | .hbm, ⟨9, _⟩ => ⟨S4x256x4x512, .f32⟩
  | .hbm, ⟨10, _⟩ => ⟨S4x256x4x512, .f32⟩
  | .hbm, ⟨11, _⟩ => ⟨S4x4x2048x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x4x2048x256, .f32⟩
  | .hbm, ⟨17, _⟩ => ⟨S4x4x2048x256, .f32⟩
  | .hbm, ⟨18, _⟩ => ⟨S_, .f32⟩
  | .hbm, ⟨19, _⟩ => ⟨S4x4x2048, .f32⟩
  | .hbm, ⟨20, _⟩ => ⟨S_, .f32⟩
  | .hbm, ⟨21, _⟩ => ⟨S4x4x2048, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x2048x256, .f32⟩
  | .hbm, ⟨27, _⟩ => ⟨S_, .f32⟩
  | .hbm, ⟨28, _⟩ => ⟨S4x4x2048, .f32⟩
  | .hbm, ⟨29, _⟩ => ⟨S4x4x2048x1, .f32⟩
  | .hbm, ⟨30, _⟩ => ⟨S4x4x2048x256, .f32⟩
  | .hbm, ⟨31, _⟩ => ⟨S4x4x2048x256, .f32⟩
  | .hbm, ⟨32, _⟩ => ⟨S4x4x512x2048, .f32⟩
  | .hbm, ⟨33, _⟩ => ⟨S4x2048x4x512, .f32⟩
  | .hbm, ⟨34, _⟩ => ⟨S8192x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S1x2048, .f32⟩
  | .hbm, ⟨69, _⟩ => ⟨S8192x2048, .f32⟩
  | .hbm, ⟨70, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proof.LruParts.lean ====
/- The recurrence kernel, one part of its body at a time. -/
module

public import proofs.«01_k».proof.Proof.Gen.KernelIdeal.Frame
public import proofs.«01_k».proof.Proof.Gen.KernelIdeal.Loops
public import Idealize.ShloMosaic.Lib.Pipeline.Value
public import Idealize.ShloMosaic.Lib.WritesUnit

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The point is the first of its sequence. -/
abbrev cond0 (i : grid0.Coords) : Prop := (Scalar.cmpi .ne (Scalar.extui (Scalar.cmpi .eq (BitVec.ofNat 32 (i 1).val) 0#32)) 0#32) = 1#1
/-- The point is the last of its sequence. -/
abbrev cond1 (i : grid0.Coords) : Prop := k0_cond2 i = 1#1

theorem hcond0 : ∀ t : Fin cfg0.N, cond0 (grid0.coords t) ↔ t.val % 8 = 0 :=
  (by decide +kernel : ∀ t : Fin grid0.N, cond0 (grid0.coords t) ↔ t.val % 8 = 0)

theorem hcond1 : ∀ t : Fin cfg0.N, cond1 (grid0.coords t) ↔ t.val % 8 = 7 :=
  (by decide +kernel : ∀ t : Fin grid0.N, cond1 (grid0.coords t) ↔ t.val % 8 = 7)

/-- Rows 5 to 7 replaced. -/
def put5 (X : Vec F S264x1024 .f32) (w : Vec F S3x1024 .f32) : Vec F S264x1024 .f32 := fun y =>
  if h : 5 ≤ (y (0 : Fin 2)).val ∧ (y (0 : Fin 2)).val < 5 + 3 then
    w (Rect.unitLocal (s := S264x1024) (off := ![5, 0]) (size := S3x1024.size) y (Rect.unit_rows_mem y rfl rfl h)) else X y

/-- Rows 8 to 263 replaced. -/
def put8 (X : Vec F S264x1024 .f32) (w : Vec F S256x1024 .f32) : Vec F S264x1024 .f32 := fun y =>
  if h : 8 ≤ (y (0 : Fin 2)).val ∧ (y (0 : Fin 2)).val < 8 + 256 then
    w (Rect.unitLocal (s := S264x1024) (off := ![8, 0]) (size := S256x1024.size) y (Rect.unit_rows_mem y rfl rfl h)) else X y

theorem read_put5 {κ : Kind} {sp : Space} (v : View sig κ sp S264x1024 .f32) (f : v.ty.Contents (Elt F)) (L : List (View.Piece (Elt F) S264x1024 .f32))
    (w : Vec F S3x1024 .f32) :
    v.read (Elt F) (v.writes (Elt F) f (⟨Rect.unit (s := S264x1024) ![5, 0] S3x1024.size inb_S264x1024_S3x1024_5_0, w⟩ :: L))
      = put5 (v.read (Elt F) (v.writes (Elt F) f L)) w :=
  funext fun y => View.read_writes_cons_rows v f _ w L y rfl rfl rfl

theorem read_put8 {κ : Kind} {sp : Space} (v : View sig κ sp S264x1024 .f32) (f : v.ty.Contents (Elt F)) (L : List (View.Piece (Elt F) S264x1024 .f32))
    (w : Vec F S256x1024 .f32) :
    v.read (Elt F) (v.writes (Elt F) f (⟨Rect.unit (s := S264x1024) ![8, 0] S256x1024.size inb_S264x1024_S256x1024_8_0, w⟩ :: L))
      = put8 (v.read (Elt F) (v.writes (Elt F) f L)) w :=
  funext fun y => View.read_writes_cons_rows v f _ w L y rfl rfl rfl

theorem hz2 : (![0, 0] : Fin 2 → ℕ) = fun _ => 0 := by decide
theorem hz3 : (![0, 0, 0] : Fin 3 → ℕ) = fun _ => 0 := by decide

theorem read_whole {S : Shape} {κ : Kind} {sp : Space} {e : EltTy} (v : View sig κ sp S e) (f : v.ty.Contents (Elt F)) (L : List (View.Piece (Elt F) S e))
    {off : Fin S.rank → ℕ} (h : off = fun _ => 0) (inb : ∀ a, off a + S.size a ≤ S.size a) (w : Vec F S e) :
    v.read (Elt F) (v.writes (Elt F) f (⟨Rect.unit off S.size inb, w⟩ :: L)) = w := by
  subst h
  funext y
  have h := View.read_writes_cons_emb v f (Rect.whole S) w L y
  rwa [Rect.emb_whole_apply] at h

theorem ld_264 {e : EltTy} (X : Vec F S264x1024 e) : View.ld X (Rect.unit (s := S264x1024) ![0, 0] S264x1024.size inb_S264x1024_S264x1024_0_0) = X :=
  View.ld_unit_zero (S := S264x1024) hz2 _ X

theorem ld_256 {e : EltTy} (X : Vec F S256x1024 e) : View.ld X (Rect.unit (s := S256x1024) ![0, 0] S256x1024.size inb_S256x1024_S256x1024_0_0) = X :=
  View.ld_unit_zero (S := S256x1024) hz2 _ X

theorem ld_1 {e : EltTy} (X : Vec F S1x1024 e) : View.ld X (Rect.unit (s := S1x1024) ![0, 0] S1x1024.size inb_S1x1024_S1x1024_0_0) = X :=
  View.ld_unit_zero (S := S1x1024) hz2 _ X

theorem ld_v {e : EltTy} (X : Vec F S1x1x1024 e) : View.ld X (Rect.unit (s := S1x1x1024) ![0, 0, 0] S1x1x1024.size inb_S1x1x1024_S1x1x1024_0_0_0) = X :=
  View.ld_unit_zero (S := S1x1x1024) hz3 _ X

theorem ld_c {e : EltTy} (X : Vec F S1x3x1024 e) : View.ld X (Rect.unit (s := S1x3x1024) ![0, 0, 0] S1x3x1024.size inb_S1x3x1024_S1x3x1024_0_0_0) = X :=
  View.ld_unit_zero (S := S1x3x1024) hz3 _ X

set_option backward.isDefEq.respectTransparency false in
set_option maxHeartbeats 2000000 in
/-- The first part, at the first point of a sequence: the carried rows and state come from the arguments. -/
theorem part1A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (hc0 : cond0 i)
    (x2 : Vec F S256x1024 .f32) (x4 : Vec F S1x3x1024 .f32) (x5 : Vec F S1x1x1024 .f32) (x6 : Vec F S1x4x1024 .f32) (x7 : Vec F S1x1x1024 .f32) (x15 : Vec F S264x1024 .f32) (x16 : Vec F S1x1024 .f32) (E : Set ℕ) (K : (Σ' (arg1 : BitVec 32) (v7 : Vec F S264x1024 .f32), FVec F S256x1024 .f32) → sProp 𝕄) :
    iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg15 fullShare x15 ∗ owns (c : Thread nD τ) arg16 fullShare x16 ∗ (iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg15 fullShare (put8 (put5 x15 (k0_pay3 x4)) (k0_pay5 x2)) ∗ owns (c : Thread nD τ) arg16 fullShare (k0_pay4 x5)) -∗ K ⟨BitVec.ofNat 32 (i 1).val, (put8 (put5 x15 (k0_pay3 x4)) (k0_pay5 x2)), k0_pay6 (put8 (put5 x15 (k0_pay3 x4)) (k0_pay5 x2)) x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))⟩))
      ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [k0_part1_eq_skeleton]; unfold k0_part1_skel
  unfold owns
  iintro ⟨⟨%f2, %hf2, H2⟩, ⟨%f4, %hf4, H4⟩, ⟨%f5, %hf5, H5⟩, ⟨%f6, %hf6, H6⟩, ⟨%f7, %hf7, H7⟩, ⟨%f15, %hf15, H15⟩, ⟨%f16, %hf16, H16⟩, Hk⟩
  obtain rfl := harg2.eq_unread hf2
  obtain rfl := harg4.eq_unread hf4
  obtain rfl := harg5.eq_unread hf5
  obtain rfl := harg6.eq_unread hf6
  obtain rfl := harg7.eq_unread hf7
  obtain rfl := harg15.eq_unread hf15
  obtain rfl := harg16.eq_unread hf16
  sl_exec (disch := sl_exact hc0)
  sl_unfold_words
  simp -proj only [View.readAt_eq_ld, hf2, hf4, hf5, hf6, hf7, hf15, hf16, View.writes_nil, read_put5, read_put8, ld_264, ld_256, ld_1, ld_v, ld_c]
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H15]
  · iexists _; isplitr; swap; · iexact H15
    ipureintro; simp -proj only [View.readAt_eq_ld, View.writes_nil, read_put5, read_put8, ld_264, ld_256, ld_1, ld_v, ld_c, hf15, hf2, hf4]
  iexists _; isplitr; swap; · iexact H16
  ipureintro; exact (read_whole (S := S1x1024) _ _ _ hz2 _ _).trans (by simp -proj only [View.readAt_eq_ld, ld_v, hf5])

set_option backward.isDefEq.respectTransparency false in
set_option maxHeartbeats 2000000 in
/-- The first part, at a later point of a sequence. -/
theorem part1B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (hc0 : ¬cond0 i)
    (x2 : Vec F S256x1024 .f32) (x6 : Vec F S1x4x1024 .f32) (x7 : Vec F S1x1x1024 .f32) (x15 : Vec F S264x1024 .f32) (E : Set ℕ) (K : (Σ' (arg1 : BitVec 32) (v7 : Vec F S264x1024 .f32), FVec F S256x1024 .f32) → sProp 𝕄) :
    iprop(owns (c : Thread nD τ) arg2 fullShare x2 ∗ owns (c : Thread nD τ) arg6 fullShare x6 ∗ owns (c : Thread nD τ) arg7 fullShare x7 ∗ owns (c : Thread nD τ) arg15 fullShare x15 ∗ (iprop(owns (c : Thread nD τ) arg2 fullShare x2 ∗ owns (c : Thread nD τ) arg6 fullShare x6 ∗ owns (c : Thread nD τ) arg7 fullShare x7 ∗ owns (c : Thread nD τ) arg15 fullShare (put8 x15 (k0_pay5 x2))) -∗ K ⟨BitVec.ofNat 32 (i 1).val, (put8 x15 (k0_pay5 x2)), k0_pay6 (put8 x15 (k0_pay5 x2)) x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))⟩))
      ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [k0_part1_eq_skeleton]; unfold k0_part1_skel
  unfold owns
  iintro ⟨⟨%f2, %hf2, H2⟩, ⟨%f6, %hf6, H6⟩, ⟨%f7, %hf7, H7⟩, ⟨%f15, %hf15, H15⟩, Hk⟩
  obtain rfl := harg2.eq_unread hf2
  obtain rfl := harg6.eq_unread hf6
  obtain rfl := harg7.eq_unread hf7
  obtain rfl := harg15.eq_unread hf15
  sl_exec (disch := sl_exact hc0)
  sl_unfold_words
  simp -proj only [View.readAt_eq_ld, hf2, hf6, hf7, hf15, View.writes_nil, read_put5, read_put8, ld_264, ld_256, ld_1, ld_v, ld_c]
  sl_step
  iapply Hk
  isplitl [H2]
  · iexists _; isplitr; swap; · iexact H2
    ipureintro; exact hf2
  isplitl [H6]
  · iexists _; isplitr; swap; · iexact H6
    ipureintro; exact hf6
  isplitl [H7]
  · iexists _; isplitr; swap; · iexact H7
    ipureintro; exact hf7
  iexists _; isplitr; swap; · iexact H15
  ipureintro; simp -proj only [View.readAt_eq_ld, View.writes_nil, read_put5, read_put8, ld_264, ld_256, ld_1, ld_v, ld_c, hf15, hf2]

set_option backward.isDefEq.respectTransparency false in
set_option maxHeartbeats 2000000 in
/-- The second part: the last rows are kept for the next point. -/
theorem part2 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole)  (v7 : Vec F S264x1024 .f32) (v30 : FVec F S256x1024 .f32)
    (x6 : Vec F S1x4x1024 .f32) (x8 : Vec F S1x8x128x128 .bf16) (x10 : Vec F S1x8x128x128 .bf16) (x15 : Vec F S264x1024 .f32) (E : Set ℕ) (K : (Σ' (v37 : FVec F S256x1024 .f32) (v42 : FVec F S256x1024 .bf16) (v46 : FVec F S256x128 .f32) (v49 : FVec F S256x128 .f32) (v53 : FVec F S256x128 .f32) (v56 : FVec F S256x128 .f32) (v57 : FVec F S256x128 .bf16) (v59 : FVec F S128x128 .bf16), FVec F S256x128 .f32) → sProp 𝕄) :
    iprop(owns (c : Thread nD τ) arg6 fullShare x6 ∗ owns (c : Thread nD τ) arg8 fullShare x8 ∗ owns (c : Thread nD τ) arg10 fullShare x10 ∗ owns (c : Thread nD τ) arg15 fullShare x15 ∗ (iprop(owns (c : Thread nD τ) arg6 fullShare x6 ∗ owns (c : Thread nD τ) arg8 fullShare x8 ∗ owns (c : Thread nD τ) arg10 fullShare x10 ∗ owns (c : Thread nD τ) arg15 fullShare (put5 x15 (k0_pay8 (View.ld x15 (Rect.unit (s := S264x1024) ![261, 0] S3x1024.size inb_S264x1024_S3x1024_261_0))))) -∗ K ⟨k0_pay7 v7 v30 (View.ld x6 (Rect.unit (s := S1x4x1024) ![0, 2, 0] S1x1x1024.size inb_S1x4x1024_S1x1x1024_0_2_0)), k0_pay9 v7 v30 (View.ld x6 (Rect.unit (s := S1x4x1024) ![0, 2, 0] S1x1x1024.size inb_S1x4x1024_S1x1x1024_0_2_0)), k0_pay11 v7 v30 (View.ld x6 (Rect.unit (s := S1x4x1024) ![0, 2, 0] S1x1x1024.size inb_S1x4x1024_S1x1x1024_0_2_0)) (View.ld x8 (Rect.unit (s := S1x8x128x128) ![0, 0, 0, 0] S1x1x128x128.size inb_S1x8x128x128_S1x1x128x128_0_0_0_0)), k0_pay12 v7 v30 (View.ld x6 (Rect.unit (s := S1x4x1024) ![0, 2, 0] S1x1x1024.size inb_S1x4x1024_S1x1x1024_0_2_0)) (View.ld x10 (Rect.unit (s := S1x8x128x128) ![0, 0, 0, 0] S1x1x128x128.size inb_S1x8x128x128_S1x1x128x128_0_0_0_0)), k0_pay14 v7 v30 (View.ld x6 (Rect.unit (s := S1x4x1024) ![0, 2, 0] S1x1x1024.size inb_S1x4x1024_S1x1x1024_0_2_0)) (View.ld x8 (Rect.unit (s := S1x8x128x128) ![0, 1, 0, 0] S1x1x128x128.size inb_S1x8x128x128_S1x1x128x128_0_1_0_0)), k0_pay15 v7 v30 (View.ld x6 (Rect.unit (s := S1x4x1024) ![0, 2, 0] S1x1x1024.size inb_S1x4x1024_S1x1x1024_0_2_0)) (View.ld x10 (Rect.unit (s := S1x8x128x128) ![0, 1, 0, 0] S1x1x128x128.size inb_S1x8x128x128_S1x1x128x128_0_1_0_0)), k0_pay16 v7 v30 (View.ld x6 (Rect.unit (s := S1x4x1024) ![0, 2, 0] S1x1x1024.size inb_S1x4x1024_S1x1x1024_0_2_0)), k0_pay17 (View.ld x8 (Rect.unit (s := S1x8x128x128) ![0, 2, 0, 0] S1x1x128x128.size inb_S1x8x128x128_S1x1x128x128_0_2_0_0)), constant S256x128 .f32 0x00000000#32⟩))
      ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v30) K := by
  simp only [k0_part2_eq_skeleton]; unfold k0_part2_skel
  unfold owns
  iintro ⟨⟨%f6, %hf6, H6⟩, ⟨%f8, %hf8, H8⟩, ⟨%f10, %hf10, H10⟩, ⟨%f15, %hf15, H15⟩, Hk⟩
  obtain rfl := harg6.eq_unread hf6
  obtain rfl := harg8.eq_unread hf8
  obtain rfl := harg10.eq_unread hf10
  obtain rfl := harg15.eq_unread hf15
  sl_exec
  sl_unfold_words
  simp -proj only [View.readAt_eq_ld, hf6, hf8, hf10, hf15, View.writes_nil, read_put5, read_put8, ld_264, ld_256, ld_1, ld_v, ld_c]
  sl_step
  iapply Hk
  isplitl [H6]
  · iexists _; isplitr; swap; · iexact H6
    ipureintro; exact hf6
  isplitl [H8]
  · iexists _; isplitr; swap; · iexact H8
    ipureintro; exact hf8
  isplitl [H10]
  · iexists _; isplitr; swap; · iexact H10
    ipureintro; exact hf10
  iexists _; isplitr; swap; · iexact H15
  ipureintro; simp -proj only [View.readAt_eq_ld, View.writes_nil, read_put5, hf15]

set_option backward.isDefEq.respectTransparency false in
set_option maxHeartbeats 2000000 in
/-- The third part: products of the two gates. -/
theorem part3 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole)  (v42 : FVec F S256x1024 .bf16) (v57 : FVec F S256x128 .bf16) (v59 : FVec F S128x128 .bf16) (cst_42 : FVec F S256x128 .f32)
    (x8 : Vec F S1x8x128x128 .bf16) (x10 : Vec F S1x8x128x128 .bf16) (E : Set ℕ) (K : (Σ' (v60 : FVec F S256x128 .f32) (v63 : FVec F S256x128 .f32) (v67 : FVec F S256x128 .f32) (v70 : FVec F S256x128 .f32) (v74 : FVec F S256x128 .f32) (v77 : FVec F S256x128 .f32) (v81 : FVec F S256x128 .f32), FVec F S256x128 .f32) → sProp 𝕄) :
    iprop(owns (c : Thread nD τ) arg8 fullShare x8 ∗ owns (c : Thread nD τ) arg10 fullShare x10 ∗ (iprop(owns (c : Thread nD τ) arg8 fullShare x8 ∗ owns (c : Thread nD τ) arg10 fullShare x10) -∗ K ⟨k0_pay18 v57 v59 cst_42, k0_pay19 v57 (View.ld x10 (Rect.unit (s := S1x8x128x128) ![0, 2, 0, 0] S1x1x128x128.size inb_S1x8x128x128_S1x1x128x128_0_2_0_0)), k0_pay21 v42 (View.ld x8 (Rect.unit (s := S1x8x128x128) ![0, 3, 0, 0] S1x1x128x128.size inb_S1x8x128x128_S1x1x128x128_0_3_0_0)), k0_pay22 v42 (View.ld x10 (Rect.unit (s := S1x8x128x128) ![0, 3, 0, 0] S1x1x128x128.size inb_S1x8x128x128_S1x1x128x128_0_3_0_0)), k0_pay24 v42 (View.ld x8 (Rect.unit (s := S1x8x128x128) ![0, 4, 0, 0] S1x1x128x128.size inb_S1x8x128x128_S1x1x128x128_0_4_0_0)), k0_pay25 v42 (View.ld x10 (Rect.unit (s := S1x8x128x128) ![0, 4, 0, 0] S1x1x128x128.size inb_S1x8x128x128_S1x1x128x128_0_4_0_0)), k0_pay27 v42 (View.ld x8 (Rect.unit (s := S1x8x128x128) ![0, 5, 0, 0] S1x1x128x128.size inb_S1x8x128x128_S1x1x128x128_0_5_0_0)), k0_pay28 v42 (View.ld x10 (Rect.unit (s := S1x8x128x128) ![0, 5, 0, 0] S1x1x128x128.size inb_S1x8x128x128_S1x1x128x128_0_5_0_0))⟩))
      ⊢ wp frame (wpE (defs₀ (F := F)) Variants.none c none) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v57 v59 cst_42) K := by
  simp only [k0_part3_eq_skeleton]; unfold k0_part3_skel
  unfold owns
  iintro ⟨⟨%f8, %hf8, H8⟩, ⟨%f10, %hf10, H10⟩, Hk⟩
  obtain rfl := harg8.eq_unread hf8
  obtain rfl := harg10.eq_unread hf10
  sl_exec
  sl_unfold_words
  simp -proj only [View.readAt_eq_ld, hf8, hf10, View.writes_nil, read_put5, read_put8, ld_264, ld_256, ld_1, ld_v, ld_c]
  sl_step
  iapply Hk
  isplitl [H8]
  · iexists _; isplitr; swap; · iexact H8
    ipureintro; exact hf8
  iexists _; isplitr; swap; · iexact H10
  ipureintro; exact hf10

set_option backward.isDefEq.respectTransparency false in
set_option maxHeartbeats 2000000 in
/-- The fourth part: the two gates. -/
theorem part4 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole)  (v42 : FVec F S256x1024 .bf16) (v46 : FVec F S256x128 .f32) (v49 : FVec F S256x128 .f32) (v53 : FVec F S256x128 .f32) (v56 : FVec F S256x128 .f32) (v60 : FVec F S256x128 .f32) (v63 : FVec F S256x128 .f32) (v67 : FVec F S256x128 .f32) (v70 : FVec F S256x128 .f32) (v74 : FVec F S256x128 .f32) (v77 : FVec F S256x128 .f32) (v81 : FVec F S256x128 .f32) (v84 : FVec F S256x128 .f32)
    (x8 : Vec F S1x8x128x128 .bf16) (x9 : Vec F S1x1x1024 .f32) (x10 : Vec F S1x8x128x128 .bf16) (x11 : Vec F S1x1x1024 .f32) (x12 : Vec F S1x1x1024 .f32) (E : Set ℕ) (K : (Σ' (v104 : FVec F S256x1024 .f32) (v110 : FVec F S256x1024 .f32), FVec F S1x1024 .f32) → sProp 𝕄) :
    iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) -∗ K ⟨k0_pay31 v42 v46 v53 v60 v67 v74 v81 (View.ld x8 (Rect.unit (s := S1x8x128x128) ![0, 6, 0, 0] S1x1x128x128.size inb_S1x8x128x128_S1x1x128x128_0_6_0_0)) (View.ld x8 (Rect.unit (s := S1x8x128x128) ![0, 7, 0, 0] S1x1x128x128.size inb_S1x8x128x128_S1x1x128x128_0_7_0_0)) x9, k0_pay32 v42 v49 v56 v63 v70 v77 v84 (View.ld x10 (Rect.unit (s := S1x8x128x128) ![0, 6, 0, 0] S1x1x128x128.size inb_S1x8x128x128_S1x1x128x128_0_6_0_0)) (View.ld x10 (Rect.unit (s := S1x8x128x128) ![0, 7, 0, 0] S1x1x128x128.size inb_S1x8x128x128_S1x1x128x128_0_7_0_0)) x11, k0_pay33 x12⟩))
      ⊢ wp frame (wpE (defs₀ (F := F)) Variants.none c none) E (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v46 v49 v53 v56 v60 v63 v67 v70 v74 v77 v81 v84) K := by
  simp only [k0_part4_eq_skeleton]; unfold k0_part4_skel
  unfold owns
  iintro ⟨⟨%f8, %hf8, H8⟩, ⟨%f9, %hf9, H9⟩, ⟨%f10, %hf10, H10⟩, ⟨%f11, %hf11, H11⟩, ⟨%f12, %hf12, H12⟩, Hk⟩
  obtain rfl := harg8.eq_unread hf8
  obtain rfl := harg9.eq_unread hf9
  obtain rfl := harg10.eq_unread hf10
  obtain rfl := harg11.eq_unread hf11
  obtain rfl := harg12.eq_unread hf12
  sl_exec
  sl_unfold_words
  simp -proj only [View.readAt_eq_ld, hf8, hf9, hf10, hf11, hf12, View.writes_nil, read_put5, read_put8, ld_264, ld_256, ld_1, ld_v, ld_c]
  sl_step
  iapply Hk
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  iexists _; isplitr; swap; · iexact H12
  ipureintro; exact hf12

end Cert.KernelIdeal.Lru

end
-- ==== Proof.LruLoop.lean ====
/- The recurrence kernel: the loop over the rows of a block, and one whole grid point. -/
module

public import proofs.«01_k».proof.Proof.LruParts

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Row `k`. -/
def rowAt (A : Vec F S256x1024 .f32) (k : Fin k0_t1_loop.trips) : Vec F S1x1024 .f32 :=
  View.ld A (Rect.unit (s := S256x1024) (k0_off1 k) S1x1024.size (k0_off1_inb k))

/-- Row `k` replaced. -/
def putRow (X : Vec F S256x1024 .f32) (k : Fin k0_t1_loop.trips) (w : Vec F S1x1024 .f32) : Vec F S256x1024 .f32 := fun y =>
  if h : k.val ≤ (y (0 : Fin 2)).val ∧ (y (0 : Fin 2)).val < k.val + 1 then
    w (Rect.unitLocal (s := S256x1024) (off := ![k.val, 0]) (size := S1x1024.size) y (Rect.unit_rows_mem y rfl rfl h)) else X y

/-- One trip: the state advanced by row `k`, and row `k` of the second buffer replaced by it. -/
def stStep (A : Vec F S256x1024 .f32) (k : ℕ) (p : Vec F S1x1024 .f32 × Vec F S256x1024 .f32) : Vec F S1x1024 .f32 × Vec F S256x1024 .f32 :=
  if h : k < k0_t1_loop.trips then
    (k0_pay38 p.1 (rowAt A ⟨k, h⟩) (rowAt p.2 ⟨k, h⟩), putRow p.2 ⟨k, h⟩ (k0_pay39 p.1 (rowAt A ⟨k, h⟩) (rowAt p.2 ⟨k, h⟩)))
  else p

/-- The state and the second buffer before trip `k`. -/
def stV (A B : Vec F S256x1024 .f32) (h0 : Vec F S1x1024 .f32) : ℕ → Vec F S1x1024 .f32 × Vec F S256x1024 .f32
  | 0 => (h0, B)
  | k + 1 => stStep A k (stV A B h0 k)

theorem tripR_eq (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (v37 : FVec F S256x1024 .f32) (v104 : FVec F S256x1024 .f32) (v110 : FVec F S256x1024 .f32) (v114 : FVec F S1x1024 .f32) (X : BufTy.Contents (Elt F) arg17.view.ty) (k : Fin k0_t1_loop.trips) (acc : Vec F S1x1024 .f32) (f : BufTy.Contents (Elt F) arg18.view.ty) :
    tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 v104 v110 v114 X k acc f
      = k0_pay38 acc (rowAt (arg17.view.read (Elt F) X) k) (rowAt (arg18.view.read (Elt F) f) k) := by
  unfold tripR_k0_t1 trip_k0_t1; rfl

theorem tripL_eq (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (v37 : FVec F S256x1024 .f32) (v104 : FVec F S256x1024 .f32) (v110 : FVec F S256x1024 .f32) (v114 : FVec F S1x1024 .f32) (X : BufTy.Contents (Elt F) arg17.view.ty) (k : Fin k0_t1_loop.trips) (acc : Vec F S1x1024 .f32) (f : BufTy.Contents (Elt F) arg18.view.ty) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 v104 v110 v114 X k acc f
      = [⟨Rect.unit (s := S256x1024) (k0_off1 k) S1x1024.size (k0_off1_inb k),
          k0_pay39 acc (rowAt (arg17.view.read (Elt F) X) k) (rowAt (arg18.view.read (Elt F) f) k)⟩] := by
  unfold tripL_k0_t1 trip_k0_t1; rfl

theorem read_putRow {κ : Kind} {sp : Space} (v : View sig κ sp S256x1024 .f32) (f : v.ty.Contents (Elt F)) (L : List (View.Piece (Elt F) S256x1024 .f32))
    (k : Fin k0_t1_loop.trips) (w : Vec F S1x1024 .f32) :
    v.read (Elt F) (v.writes (Elt F) f (⟨Rect.unit (s := S256x1024) (k0_off1 k) S1x1024.size (k0_off1_inb k), w⟩ :: L))
      = putRow (v.read (Elt F) (v.writes (Elt F) f L)) k w :=
  funext fun y => View.read_writes_cons_rows v f _ w L y (k0_off1_eq k) rfl rfl

/-- The run's own account of the loop is the state above. -/
theorem st_eq (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (v37 : FVec F S256x1024 .f32) (v104 : FVec F S256x1024 .f32) (v110 : FVec F S256x1024 .f32) (v114 : FVec F S1x1024 .f32) (X : BufTy.Contents (Elt F) arg17.view.ty) (Y : BufTy.Contents (Elt F) arg18.view.ty) (h0 : Vec F S1x1024 .f32) (A B : Vec F S256x1024 .f32)
    (hA : arg17.view.read (Elt F) X = A) (hB : arg18.view.read (Elt F) Y = B) :
    ∀ k : ℕ, k ≤ k0_t1_loop.trips →
      (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 v104 v110 v114 X Y h0 k).1 = (stV A B h0 k).1
      ∧ arg18.view.read (Elt F) (arg18.view.writes (Elt F) Y (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 v104 v110 v114 X Y h0 k).2) = (stV A B h0 k).2 := by
  intro k
  induction k with
  | zero => intro _; exact ⟨rfl, hB⟩
  | succ k ih =>
    intro hk
    obtain ⟨e1, e2⟩ := ih (Nat.le_of_succ_le hk)
    have hs := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 v104 v110 v114 X Y h0 ⟨k, hk⟩
    have hk' : k < k0_t1_loop.trips := hk
    have hstep : stV A B h0 (k + 1) = (k0_pay38 (stV A B h0 k).1 (rowAt A ⟨k, hk'⟩) (rowAt (stV A B h0 k).2 ⟨k, hk'⟩),
        putRow (stV A B h0 k).2 ⟨k, hk'⟩ (k0_pay39 (stV A B h0 k).1 (rowAt A ⟨k, hk'⟩) (rowAt (stV A B h0 k).2 ⟨k, hk'⟩))) := dif_pos hk'
    rw [hs, hstep]
    refine ⟨(tripR_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 v104 v110 v114 X ⟨k, hk⟩ _ _).trans ?_, ?_⟩
    · rw [e1, e2, hA]
    · refine (congrArg (fun L => arg18.view.read (Elt F) (arg18.view.writes (Elt F) Y (L ++ _))) (tripL_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 v104 v110 v114 X ⟨k, hk⟩ _ _)).trans ?_
      refine (read_putRow arg18.view Y _ ⟨k, hk'⟩ _).trans ?_
      exact congrArg₂ (fun a b => putRow a ⟨k, hk'⟩ b) e2 (by rw [e1, e2, hA])

set_option backward.isDefEq.respectTransparency false in
set_option maxHeartbeats 2000000 in
/-- The fifth part: the coefficients, and the loop over the rows. -/
theorem part5 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole)  (v37 : FVec F S256x1024 .f32) (v104 : FVec F S256x1024 .f32) (v110 : FVec F S256x1024 .f32) (v114 : FVec F S1x1024 .f32)
    (x16 : Vec F S1x1024 .f32) (x17 : Vec F S256x1024 .f32) (x18 : Vec F S256x1024 .f32) (E : Set ℕ) (K : (Σ' (v146 : Vec F S1x1024 .f32), Vec F S256x1024 .f32) → sProp 𝕄) :
    iprop(owns (c : Thread nD τ) arg16 fullShare x16 ∗ owns (c : Thread nD τ) arg17 fullShare x17 ∗ owns (c : Thread nD τ) arg18 fullShare x18 ∗ (iprop(owns (c : Thread nD τ) arg16 fullShare (k0_pay40 (stV (k0_pay36 v104 v114) (k0_pay37 v37 v104 v110 v114) x16 k0_t1_loop.trips).1) ∗ owns (c : Thread nD τ) arg17 fullShare (k0_pay36 v104 v114) ∗ owns (c : Thread nD τ) arg18 fullShare (stV (k0_pay36 v104 v114) (k0_pay37 v37 v104 v110 v114) x16 k0_t1_loop.trips).2) -∗ K ⟨(stV (k0_pay36 v104 v114) (k0_pay37 v37 v104 v110 v114) x16 k0_t1_loop.trips).1, (stV (k0_pay36 v104 v114) (k0_pay37 v37 v104 v110 v114) x16 k0_t1_loop.trips).2⟩))
      ⊢ wp frame (wpE (defs₀ (F := F)) Variants.none c none) E (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 v104 v110 v114) K := by
  simp only [k0_part5_eq_skeleton]; unfold k0_part5_skel
  unfold owns
  iintro ⟨⟨%f16, %hf16, H16⟩, ⟨%f17, %hf17, H17⟩, ⟨%f18, %hf18, H18⟩, Hk⟩
  obtain rfl := harg16.eq_unread hf16
  obtain rfl := harg17.eq_unread hf17
  obtain rfl := harg18.eq_unread hf18
  sl_exec
  sl_unfold_words
  have hX := read_whole (F := F) (S := S256x1024) arg17.view arg17.view.junk [] hz2 inb_S256x1024_S256x1024_0_0 (k0_pay36 v104 v114)
  have hY := read_whole (F := F) (S := S256x1024) arg18.view arg18.view.junk [] hz2 inb_S256x1024_S256x1024_0_0 (k0_pay37 v37 v104 v110 v114)
  obtain ⟨E1, E2⟩ := st_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 v104 v110 v114 _ _ x16 _ _ hX hY k0_t1_loop.trips le_rfl
  simp -proj only [View.readCov, View.readAt_eq_ld, hf16, ld_1, ld_256, View.writes_append]
  sl_step
  rw [show (⟨_, _⟩ : (Σ' (v146 : Vec F S1x1024 .f32), Vec F S256x1024 .f32)) = ⟨(stV (k0_pay36 v104 v114) (k0_pay37 v37 v104 v110 v114) x16 k0_t1_loop.trips).1, (stV (k0_pay36 v104 v114) (k0_pay37 v37 v104 v110 v114) x16 k0_t1_loop.trips).2⟩ from congrArg₂ (fun a b => (⟨a, b⟩ : (Σ' (v146 : Vec F S1x1024 .f32), Vec F S256x1024 .f32))) E1 E2]
  iapply Hk
  isplitl [H16]
  · iexists _; isplitr; swap; · iexact H16
    ipureintro; exact (read_whole (S := S1x1024) _ _ _ hz2 _ _).trans (congrArg k0_pay40 E1)
  isplitl [H17]
  · iexists _; isplitr; swap; · iexact H17
    ipureintro; exact hX
  iexists _; isplitr; swap; · iexact H18
  ipureintro; exact E2

end Cert.KernelIdeal.Lru

end
-- ==== Proof.LruBody.lean ====
/- The recurrence kernel: one whole grid point. -/
module

public import proofs.«01_k».proof.Proof.LruLoop

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffer of rows at the first point of a sequence: the rows carried in are the argument's. -/
def rowsA (x2 : Vec F S256x1024 .f32) (x4 : Vec F S1x3x1024 .f32) (x15 : Vec F S264x1024 .f32) : Vec F S264x1024 .f32 := put8 (put5 x15 (k0_pay3 x4)) (k0_pay5 x2)
/-- The buffer of rows at a later point. -/
def rowsB (x2 : Vec F S256x1024 .f32) (x15 : Vec F S264x1024 .f32) : Vec F S264x1024 .f32 := put8 x15 (k0_pay5 x2)
/-- What the buffer of rows is left at: the last three rows moved up. -/
def rowsEnd (v7 : Vec F S264x1024 .f32) : Vec F S264x1024 .f32 :=
  put5 v7 (k0_pay8 (View.ld v7 (Rect.unit (s := S264x1024) ![261, 0] S3x1024.size inb_S264x1024_S3x1024_261_0)))
/-- The convolved rows. -/
def ucV (v7 : Vec F S264x1024 .f32) (x6 : Vec F S1x4x1024 .f32) (x7 : Vec F S1x1x1024 .f32) : Vec F S256x1024 .f32 :=
  k0_pay7 v7 (k0_pay6 v7 x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) (View.ld x6 (Rect.unit (s := S1x4x1024) ![0, 2, 0] S1x1x1024.size inb_S1x4x1024_S1x1x1024_0_2_0))
/-- The convolved rows, as the gates' products read them. -/
def ucbV (v7 : Vec F S264x1024 .f32) (x6 : Vec F S1x4x1024 .f32) (x7 : Vec F S1x1x1024 .f32) : Vec F S256x1024 .bf16 :=
  k0_pay9 v7 (k0_pay6 v7 x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) (View.ld x6 (Rect.unit (s := S1x4x1024) ![0, 2, 0] S1x1x1024.size inb_S1x4x1024_S1x1x1024_0_2_0))
/-- The recurrence gate. -/
def rV (v7 : Vec F S264x1024 .f32) (x6 : Vec F S1x4x1024 .f32) (x7 : Vec F S1x1x1024 .f32) (x8 : Vec F S1x8x128x128 .bf16) (x9 : Vec F S1x1x1024 .f32) (x10 : Vec F S1x8x128x128 .bf16) (x11 : Vec F S1x1x1024 .f32) (x12 : Vec F S1x1x1024 .f32) : Vec F S256x1024 .f32 :=
  k0_pay31 (ucbV v7 x6 x7) (k0_pay11 v7 (k0_pay6 v7 x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) (View.ld x6 (Rect.unit (s := S1x4x1024) ![0, 2, 0] S1x1x1024.size inb_S1x4x1024_S1x1x1024_0_2_0)) (View.ld x8 (Rect.unit (s := S1x8x128x128) ![0, 0, 0, 0] S1x1x128x128.size inb_S1x8x128x128_S1x1x128x128_0_0_0_0))) (k0_pay14 v7 (k0_pay6 v7 x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) (View.ld x6 (Rect.unit (s := S1x4x1024) ![0, 2, 0] S1x1x1024.size inb_S1x4x1024_S1x1x1024_0_2_0)) (View.ld x8 (Rect.unit (s := S1x8x128x128) ![0, 1, 0, 0] S1x1x128x128.size inb_S1x8x128x128_S1x1x128x128_0_1_0_0)))
    (k0_pay18 (k0_pay16 v7 (k0_pay6 v7 x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) (View.ld x6 (Rect.unit (s := S1x4x1024) ![0, 2, 0] S1x1x1024.size inb_S1x4x1024_S1x1x1024_0_2_0))) (k0_pay17 (View.ld x8 (Rect.unit (s := S1x8x128x128) ![0, 2, 0, 0] S1x1x128x128.size inb_S1x8x128x128_S1x1x128x128_0_2_0_0))) (constant S256x128 .f32 0x00000000#32)) (k0_pay21 (ucbV v7 x6 x7) (View.ld x8 (Rect.unit (s := S1x8x128x128) ![0, 3, 0, 0] S1x1x128x128.size inb_S1x8x128x128_S1x1x128x128_0_3_0_0))) (k0_pay24 (ucbV v7 x6 x7) (View.ld x8 (Rect.unit (s := S1x8x128x128) ![0, 4, 0, 0] S1x1x128x128.size inb_S1x8x128x128_S1x1x128x128_0_4_0_0)))
    (k0_pay27 (ucbV v7 x6 x7) (View.ld x8 (Rect.unit (s := S1x8x128x128) ![0, 5, 0, 0] S1x1x128x128.size inb_S1x8x128x128_S1x1x128x128_0_5_0_0))) (View.ld x8 (Rect.unit (s := S1x8x128x128) ![0, 6, 0, 0] S1x1x128x128.size inb_S1x8x128x128_S1x1x128x128_0_6_0_0)) (View.ld x8 (Rect.unit (s := S1x8x128x128) ![0, 7, 0, 0] S1x1x128x128.size inb_S1x8x128x128_S1x1x128x128_0_7_0_0)) x9
/-- The input gate. -/
def igV (v7 : Vec F S264x1024 .f32) (x6 : Vec F S1x4x1024 .f32) (x7 : Vec F S1x1x1024 .f32) (x8 : Vec F S1x8x128x128 .bf16) (x9 : Vec F S1x1x1024 .f32) (x10 : Vec F S1x8x128x128 .bf16) (x11 : Vec F S1x1x1024 .f32) (x12 : Vec F S1x1x1024 .f32) : Vec F S256x1024 .f32 :=
  k0_pay32 (ucbV v7 x6 x7) (k0_pay12 v7 (k0_pay6 v7 x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) (View.ld x6 (Rect.unit (s := S1x4x1024) ![0, 2, 0] S1x1x1024.size inb_S1x4x1024_S1x1x1024_0_2_0)) (View.ld x10 (Rect.unit (s := S1x8x128x128) ![0, 0, 0, 0] S1x1x128x128.size inb_S1x8x128x128_S1x1x128x128_0_0_0_0))) (k0_pay15 v7 (k0_pay6 v7 x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) (View.ld x6 (Rect.unit (s := S1x4x1024) ![0, 2, 0] S1x1x1024.size inb_S1x4x1024_S1x1x1024_0_2_0)) (View.ld x10 (Rect.unit (s := S1x8x128x128) ![0, 1, 0, 0] S1x1x128x128.size inb_S1x8x128x128_S1x1x128x128_0_1_0_0)))
    (k0_pay19 (k0_pay16 v7 (k0_pay6 v7 x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) (View.ld x6 (Rect.unit (s := S1x4x1024) ![0, 2, 0] S1x1x1024.size inb_S1x4x1024_S1x1x1024_0_2_0))) (View.ld x10 (Rect.unit (s := S1x8x128x128) ![0, 2, 0, 0] S1x1x128x128.size inb_S1x8x128x128_S1x1x128x128_0_2_0_0))) (k0_pay22 (ucbV v7 x6 x7) (View.ld x10 (Rect.unit (s := S1x8x128x128) ![0, 3, 0, 0] S1x1x128x128.size inb_S1x8x128x128_S1x1x128x128_0_3_0_0))) (k0_pay25 (ucbV v7 x6 x7) (View.ld x10 (Rect.unit (s := S1x8x128x128) ![0, 4, 0, 0] S1x1x128x128.size inb_S1x8x128x128_S1x1x128x128_0_4_0_0)))
    (k0_pay28 (ucbV v7 x6 x7) (View.ld x10 (Rect.unit (s := S1x8x128x128) ![0, 5, 0, 0] S1x1x128x128.size inb_S1x8x128x128_S1x1x128x128_0_5_0_0))) (View.ld x10 (Rect.unit (s := S1x8x128x128) ![0, 6, 0, 0] S1x1x128x128.size inb_S1x8x128x128_S1x1x128x128_0_6_0_0)) (View.ld x10 (Rect.unit (s := S1x8x128x128) ![0, 7, 0, 0] S1x1x128x128.size inb_S1x8x128x128_S1x1x128x128_0_7_0_0)) x11
/-- The decay of each row. -/
def aV (v7 : Vec F S264x1024 .f32) (x6 : Vec F S1x4x1024 .f32) (x7 : Vec F S1x1x1024 .f32) (x8 : Vec F S1x8x128x128 .bf16) (x9 : Vec F S1x1x1024 .f32) (x10 : Vec F S1x8x128x128 .bf16) (x11 : Vec F S1x1x1024 .f32) (x12 : Vec F S1x1x1024 .f32) : Vec F S256x1024 .f32 := k0_pay36 (rV v7 x6 x7 x8 x9 x10 x11 x12) (k0_pay33 x12)
/-- What each row adds. -/
def bV (v7 : Vec F S264x1024 .f32) (x6 : Vec F S1x4x1024 .f32) (x7 : Vec F S1x1x1024 .f32) (x8 : Vec F S1x8x128x128 .bf16) (x9 : Vec F S1x1x1024 .f32) (x10 : Vec F S1x8x128x128 .bf16) (x11 : Vec F S1x1x1024 .f32) (x12 : Vec F S1x1x1024 .f32) : Vec F S256x1024 .f32 := k0_pay37 (ucV v7 x6 x7) (rV v7 x6 x7 x8 x9 x10 x11 x12) (igV v7 x6 x7 x8 x9 x10 x11 x12) (k0_pay33 x12)
/-- The state after the block, and the state at every row of it. -/
def endV (v7 : Vec F S264x1024 .f32) (x6 : Vec F S1x4x1024 .f32) (x7 : Vec F S1x1x1024 .f32) (x8 : Vec F S1x8x128x128 .bf16) (x9 : Vec F S1x1x1024 .f32) (x10 : Vec F S1x8x128x128 .bf16) (x11 : Vec F S1x1x1024 .f32) (x12 : Vec F S1x1x1024 .f32) (h0 : Vec F S1x1024 .f32) : Vec F S1x1024 .f32 × Vec F S256x1024 .f32 :=
  stV (aV v7 x6 x7 x8 x9 x10 x11 x12) (bV v7 x6 x7 x8 x9 x10 x11 x12) h0 k0_t1_loop.trips

set_option backward.isDefEq.respectTransparency false in
set_option maxHeartbeats 2000000 in
/-- The body's last statements. -/
theorem tailA (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (hc1 : ¬cond1 i) (v146 : Vec F S1x1024 .f32) (v150 : Vec F S256x1024 .f32)
    (x3 : Vec F S256x1024 .f32) (E : Set ℕ) (K : PUnit → sProp 𝕄) :
    iprop(owns (c : Thread nD τ) arg3 fullShare x3 ∗ (∃ d, owns (c : Thread nD τ) arg13 fullShare d)
        ∗ (iprop(owns (c : Thread nD τ) arg3 fullShare x3 ∗ owns (c : Thread nD τ) arg13 fullShare (k0_pay1 v150 x3) ) -∗ K ⟨⟩))
      ⊢ wp frame (wpE (defs₀ (F := F)) Variants.none c none) E (do
          let v151 : Vec F S256x1024 .f32 ← Prog.lift (.load arg3 (Rect.unit (s := S256x1024) ![0, 0] S256x1024.size inb_S256x1024_S256x1024_0_0).toLoadRect (View.loadsAt_vmem h_S256x1024))
          let v167 : Vec F S256x1024 .bf16 ← Prog.lift (.load arg13 (Rect.unit (s := S256x1024) ![0, 0] S256x1024.size inb_S256x1024_S256x1024_0_0).toLoadRect (View.loadsAt_vmem h_S256x1024))
          Prog.lift (.store arg13 (Rect.unit (s := S256x1024) ![0, 0] S256x1024.size inb_S256x1024_S256x1024_0_0) (k0_pay1 v150 v151) Finset.univ (View.stores_vmem h_S256x1024 (harg13.storeExact_slice rfl _ packedbf16_S256x1024_S256x1024_0_0) (fun _ => rfl)) (.inl rfl))
          if k0_h2 : k0_cond2 i = 1#1 then do
            let v171 : Vec F S1x1x1024 .f32 ← Prog.lift (.load arg14 (Rect.unit (s := S1x1x1024) ![0, 0, 0] S1x1x1024.size inb_S1x1x1024_S1x1x1024_0_0_0).toLoadRect (View.loadsAt_vmem h_S1x1x1024))
            Prog.lift (.store arg14 (Rect.unit (s := S1x1x1024) ![0, 0, 0] S1x1x1024.size inb_S1x1x1024_S1x1x1024_0_0_0) (k0_pay2 v146) Finset.univ (View.stores_vmem_bits_univ h_S1x1x1024 rfl) (.inl rfl))
            pure ⟨⟩
          else do
            pure ⟨⟩
          pure ⟨⟩) K := by
  unfold owns
  iintro ⟨⟨%f3, %hf3, H3⟩, ⟨%d13, %f13, -, H13⟩, Hk⟩
  obtain rfl := harg3.eq_unread hf3
  sl_exec (disch := sl_exact hc1)
  sl_unfold_words
  simp -proj only [View.readAt_eq_ld, hf3, ld_256]
  sl_step
  iapply Hk
  isplitl [H3]
  · iexists _; isplitr; swap; · iexact H3
    ipureintro; exact hf3
  iexists _; isplitr; swap; · iexact H13
  ipureintro; exact (read_whole (S := S256x1024) _ _ _ hz2 _ _).trans (by simp -proj only [View.readAt_eq_ld, hf3, ld_256])

set_option backward.isDefEq.respectTransparency false in
set_option maxHeartbeats 2000000 in
/-- The body's last statements, at the last point of a sequence. -/
theorem tailC (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (hc1 : cond1 i) (v146 : Vec F S1x1024 .f32) (v150 : Vec F S256x1024 .f32)
    (x3 : Vec F S256x1024 .f32) (E : Set ℕ) (K : PUnit → sProp 𝕄) :
    iprop(owns (c : Thread nD τ) arg3 fullShare x3 ∗ (∃ d, owns (c : Thread nD τ) arg13 fullShare d) ∗ (∃ d, owns (c : Thread nD τ) arg14 fullShare d)
        ∗ (iprop(owns (c : Thread nD τ) arg3 fullShare x3 ∗ owns (c : Thread nD τ) arg13 fullShare (k0_pay1 v150 x3) ∗ owns (c : Thread nD τ) arg14 fullShare (k0_pay2 v146)) -∗ K ⟨⟩))
      ⊢ wp frame (wpE (defs₀ (F := F)) Variants.none c none) E (do
          let v151 : Vec F S256x1024 .f32 ← Prog.lift (.load arg3 (Rect.unit (s := S256x1024) ![0, 0] S256x1024.size inb_S256x1024_S256x1024_0_0).toLoadRect (View.loadsAt_vmem h_S256x1024))
          let v167 : Vec F S256x1024 .bf16 ← Prog.lift (.load arg13 (Rect.unit (s := S256x1024) ![0, 0] S256x1024.size inb_S256x1024_S256x1024_0_0).toLoadRect (View.loadsAt_vmem h_S256x1024))
          Prog.lift (.store arg13 (Rect.unit (s := S256x1024) ![0, 0] S256x1024.size inb_S256x1024_S256x1024_0_0) (k0_pay1 v150 v151) Finset.univ (View.stores_vmem h_S256x1024 (harg13.storeExact_slice rfl _ packedbf16_S256x1024_S256x1024_0_0) (fun _ => rfl)) (.inl rfl))
          if k0_h2 : k0_cond2 i = 1#1 then do
            let v171 : Vec F S1x1x1024 .f32 ← Prog.lift (.load arg14 (Rect.unit (s := S1x1x1024) ![0, 0, 0] S1x1x1024.size inb_S1x1x1024_S1x1x1024_0_0_0).toLoadRect (View.loadsAt_vmem h_S1x1x1024))
            Prog.lift (.store arg14 (Rect.unit (s := S1x1x1024) ![0, 0, 0] S1x1x1024.size inb_S1x1x1024_S1x1x1024_0_0_0) (k0_pay2 v146) Finset.univ (View.stores_vmem_bits_univ h_S1x1x1024 rfl) (.inl rfl))
            pure ⟨⟩
          else do
            pure ⟨⟩
          pure ⟨⟩) K := by
  unfold owns
  iintro ⟨⟨%f3, %hf3, H3⟩, ⟨%d13, %f13, -, H13⟩, ⟨%d14, %f14, -, H14⟩, Hk⟩
  obtain rfl := harg3.eq_unread hf3
  sl_exec (disch := sl_exact hc1)
  sl_unfold_words
  simp -proj only [View.readAt_eq_ld, hf3, ld_256]
  sl_step
  iapply Hk
  isplitl [H3]
  · iexists _; isplitr; swap; · iexact H3
    ipureintro; exact hf3
  isplitl [H13]
  · iexists _; isplitr; swap; · iexact H13
    ipureintro; exact (read_whole (S := S256x1024) _ _ _ hz2 _ _).trans (by simp -proj only [View.readAt_eq_ld, hf3, ld_256])
  iexists _; isplitr; swap; · iexact H14
  ipureintro; exact read_whole (S := S1x1x1024) _ _ _ hz3 _ _

set_option maxHeartbeats 2000000 in
/-- One grid point's body, the first point of a sequence. -/
theorem bodyA (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (hc0 : cond0 i) (hc1 : ¬cond1 i)
    (x2 : Vec F S256x1024 .f32) (x3 : Vec F S256x1024 .f32) (x4 : Vec F S1x3x1024 .f32) (x5 : Vec F S1x1x1024 .f32) (x6 : Vec F S1x4x1024 .f32) (x7 : Vec F S1x1x1024 .f32) (x8 : Vec F S1x8x128x128 .bf16) (x9 : Vec F S1x1x1024 .f32) (x10 : Vec F S1x8x128x128 .bf16) (x11 : Vec F S1x1x1024 .f32) (x12 : Vec F S1x1x1024 .f32) (x15 : Vec F S264x1024 .f32) (x16 : Vec F S1x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay1 (endV (rowsA x2 x4 x15) x6 x7 x8 x9 x10 x11 x12 (k0_pay4 x5)).2 x3) ∗ owns (c : Thread nD τ) arg15 fullShare (rowsEnd (rowsA x2 x4 x15)) ∗ owns (c : Thread nD τ) arg16 fullShare (k0_pay40 (endV (rowsA x2 x4 x15) x6 x7 x8 x9 x10 x11 x12 (k0_pay4 x5)).1) ∗ (∃ d, owns (c : Thread nD τ) arg17 fullShare d) ∗ (∃ d, owns (c : Thread nD τ) arg18 fullShare d)) -∗ K ⟨⟩))
      ⊢ wp frame (wpE (defs₀ (F := F)) Variants.none c none) E (cc0_rg_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rg_lru_eq_skeleton]; unfold cc0_rg_lru_skel
  iintro ⟨H2, H3, H4, H5, H6, H7, H8, H9, H10, H11, H12, ⟨%d13, H13⟩, H15, H16, ⟨%d17, H17⟩, ⟨%d18, H18⟩, Hk⟩
  rw [wp_bind]
  iapply part1A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x4 x5 x6 x7 x15 x16
  isplitl [H2]; · iexact H2
  isplitl [H4]; · iexact H4
  isplitl [H5]; · iexact H5
  isplitl [H6]; · iexact H6
  isplitl [H7]; · iexact H7
  isplitl [H15]; · iexact H15
  isplitl [H16]; · iexact H16
  iintro ⟨H2, H4, H5, H6, H7, H15, H16⟩
  dsimp only
  rw [wp_bind]
  iapply part2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowsA x2 x4 x15) (k0_pay6 (rowsA x2 x4 x15) x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) x6 x8 x10 _
  isplitl [H6]; · iexact H6
  isplitl [H8]; · iexact H8
  isplitl [H10]; · iexact H10
  isplitl [H15]; · iexact H15
  iintro ⟨H6, H8, H10, H15⟩
  dsimp only
  rw [wp_bind]
  iapply part3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ x8 x10
  isplitl [H8]; · iexact H8
  isplitl [H10]; · iexact H10
  iintro ⟨H8, H10⟩
  dsimp only
  rw [wp_bind]
  iapply part4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _ _ _ _ _ x8 x9 x10 x11 x12
  isplitl [H8]; · iexact H8
  isplitl [H9]; · iexact H9
  isplitl [H10]; · iexact H10
  isplitl [H11]; · iexact H11
  isplitl [H12]; · iexact H12
  iintro ⟨H8, H9, H10, H11, H12⟩
  dsimp only
  rw [wp_bind]
  iapply part5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _
  isplitl [H16]; · iexact H16
  isplitl [H17]; · iexact H17
  isplitl [H18]; · iexact H18
  iintro ⟨H16, H17, H18⟩
  dsimp only
  iapply (tailA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 _ _ x3)
  isplitl [H3]; · iexact H3
  isplitl [H13]; · iexists _; iexact H13

  iintro ⟨H3, H13⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H16]; · iexact H16
  isplitl [H17]; · iexists _; iexact H17
  iexists _; iexact H18

set_option maxHeartbeats 2000000 in
/-- One grid point's body, a point inside a sequence. -/
theorem bodyB (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (hc0 : ¬cond0 i) (hc1 : ¬cond1 i)
    (x2 : Vec F S256x1024 .f32) (x3 : Vec F S256x1024 .f32) (x4 : Vec F S1x3x1024 .f32) (x5 : Vec F S1x1x1024 .f32) (x6 : Vec F S1x4x1024 .f32) (x7 : Vec F S1x1x1024 .f32) (x8 : Vec F S1x8x128x128 .bf16) (x9 : Vec F S1x1x1024 .f32) (x10 : Vec F S1x8x128x128 .bf16) (x11 : Vec F S1x1x1024 .f32) (x12 : Vec F S1x1x1024 .f32) (x15 : Vec F S264x1024 .f32) (x16 : Vec F S1x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay1 (endV (rowsB x2 x15) x6 x7 x8 x9 x10 x11 x12 x16).2 x3) ∗ owns (c : Thread nD τ) arg15 fullShare (rowsEnd (rowsB x2 x15)) ∗ owns (c : Thread nD τ) arg16 fullShare (k0_pay40 (endV (rowsB x2 x15) x6 x7 x8 x9 x10 x11 x12 x16).1) ∗ (∃ d, owns (c : Thread nD τ) arg17 fullShare d) ∗ (∃ d, owns (c : Thread nD τ) arg18 fullShare d)) -∗ K ⟨⟩))
      ⊢ wp frame (wpE (defs₀ (F := F)) Variants.none c none) E (cc0_rg_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rg_lru_eq_skeleton]; unfold cc0_rg_lru_skel
  iintro ⟨H2, H3, H4, H5, H6, H7, H8, H9, H10, H11, H12, ⟨%d13, H13⟩, H15, H16, ⟨%d17, H17⟩, ⟨%d18, H18⟩, Hk⟩
  rw [wp_bind]
  iapply part1B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x6 x7 x15
  isplitl [H2]; · iexact H2
  isplitl [H6]; · iexact H6
  isplitl [H7]; · iexact H7
  isplitl [H15]; · iexact H15
  iintro ⟨H2, H6, H7, H15⟩
  dsimp only
  rw [wp_bind]
  iapply part2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowsB x2 x15) (k0_pay6 (rowsB x2 x15) x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) x6 x8 x10 _
  isplitl [H6]; · iexact H6
  isplitl [H8]; · iexact H8
  isplitl [H10]; · iexact H10
  isplitl [H15]; · iexact H15
  iintro ⟨H6, H8, H10, H15⟩
  dsimp only
  rw [wp_bind]
  iapply part3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ x8 x10
  isplitl [H8]; · iexact H8
  isplitl [H10]; · iexact H10
  iintro ⟨H8, H10⟩
  dsimp only
  rw [wp_bind]
  iapply part4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _ _ _ _ _ x8 x9 x10 x11 x12
  isplitl [H8]; · iexact H8
  isplitl [H9]; · iexact H9
  isplitl [H10]; · iexact H10
  isplitl [H11]; · iexact H11
  isplitl [H12]; · iexact H12
  iintro ⟨H8, H9, H10, H11, H12⟩
  dsimp only
  rw [wp_bind]
  iapply part5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _
  isplitl [H16]; · iexact H16
  isplitl [H17]; · iexact H17
  isplitl [H18]; · iexact H18
  iintro ⟨H16, H17, H18⟩
  dsimp only
  iapply (tailA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 _ _ x3)
  isplitl [H3]; · iexact H3
  isplitl [H13]; · iexists _; iexact H13

  iintro ⟨H3, H13⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H16]; · iexact H16
  isplitl [H17]; · iexists _; iexact H17
  iexists _; iexact H18

set_option maxHeartbeats 2000000 in
/-- One grid point's body, the last point of a sequence. -/
theorem bodyC (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x8x128x128 .bf16) (harg8 : arg8.IsWhole) (arg9 : Memref sig .tc .vmem S1x1x1024 .f32) (harg9 : arg9.IsWhole) (arg10 : Memref sig .tc .vmem S1x8x128x128 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S256x1024 .bf16) (harg13 : arg13.IsWhole) (arg14 : Memref sig .tc .vmem S1x1x1024 .f32) (harg14 : arg14.IsWhole) (arg15 : Memref sig .tc .vmem S264x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (hc0 : ¬cond0 i) (hc1 : cond1 i)
    (x2 : Vec F S256x1024 .f32) (x3 : Vec F S256x1024 .f32) (x4 : Vec F S1x3x1024 .f32) (x5 : Vec F S1x1x1024 .f32) (x6 : Vec F S1x4x1024 .f32) (x7 : Vec F S1x1x1024 .f32) (x8 : Vec F S1x8x128x128 .bf16) (x9 : Vec F S1x1x1024 .f32) (x10 : Vec F S1x8x128x128 .bf16) (x11 : Vec F S1x1x1024 .f32) (x12 : Vec F S1x1x1024 .f32) (x15 : Vec F S264x1024 .f32) (x16 : Vec F S1x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay1 (endV (rowsB x2 x15) x6 x7 x8 x9 x10 x11 x12 x16).2 x3) ∗ owns (c : Thread nD τ) arg14 fullShare (k0_pay2 (endV (rowsB x2 x15) x6 x7 x8 x9 x10 x11 x12 x16).1) ∗ owns (c : Thread nD τ) arg15 fullShare (rowsEnd (rowsB x2 x15)) ∗ owns (c : Thread nD τ) arg16 fullShare (k0_pay40 (endV (rowsB x2 x15) x6 x7 x8 x9 x10 x11 x12 x16).1) ∗ (∃ d, owns (c : Thread nD τ) arg17 fullShare d) ∗ (∃ d, owns (c : Thread nD τ) arg18 fullShare d)) -∗ K ⟨⟩))
      ⊢ wp frame (wpE (defs₀ (F := F)) Variants.none c none) E (cc0_rg_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rg_lru_eq_skeleton]; unfold cc0_rg_lru_skel
  iintro ⟨H2, H3, H4, H5, H6, H7, H8, H9, H10, H11, H12, ⟨%d13, H13⟩, ⟨%d14, H14⟩, H15, H16, ⟨%d17, H17⟩, ⟨%d18, H18⟩, Hk⟩
  rw [wp_bind]
  iapply part1B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x6 x7 x15
  isplitl [H2]; · iexact H2
  isplitl [H6]; · iexact H6
  isplitl [H7]; · iexact H7
  isplitl [H15]; · iexact H15
  iintro ⟨H2, H6, H7, H15⟩
  dsimp only
  rw [wp_bind]
  iapply part2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowsB x2 x15) (k0_pay6 (rowsB x2 x15) x7 (View.ld x6 (Rect.unit (s := S1x4x1024) ![0, 3, 0] S1x1x1024.size inb_S1x4x1024_S1x1x1024_0_3_0)) (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))) x6 x8 x10 _
  isplitl [H6]; · iexact H6
  isplitl [H8]; · iexact H8
  isplitl [H10]; · iexact H10
  isplitl [H15]; · iexact H15
  iintro ⟨H6, H8, H10, H15⟩
  dsimp only
  rw [wp_bind]
  iapply part3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ x8 x10
  isplitl [H8]; · iexact H8
  isplitl [H10]; · iexact H10
  iintro ⟨H8, H10⟩
  dsimp only
  rw [wp_bind]
  iapply part4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _ _ _ _ _ x8 x9 x10 x11 x12
  isplitl [H8]; · iexact H8
  isplitl [H9]; · iexact H9
  isplitl [H10]; · iexact H10
  isplitl [H11]; · iexact H11
  isplitl [H12]; · iexact H12
  iintro ⟨H8, H9, H10, H11, H12⟩
  dsimp only
  rw [wp_bind]
  iapply part5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _
  isplitl [H16]; · iexact H16
  isplitl [H17]; · iexact H17
  isplitl [H18]; · iexact H18
  iintro ⟨H16, H17, H18⟩
  dsimp only
  iapply (tailC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 _ _ x3)
  isplitl [H3]; · iexact H3
  isplitl [H13]; · iexists _; iexact H13
  isplitl [H14]; · iexists _; iexact H14
  iintro ⟨H3, H13, H14⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iexists _; iexact H18

end Cert.KernelIdeal.Lru

end
-- ==== Proof.LruFrame.lean ====
/- The recurrence kernel: the launch. The rows above row 5 of the buffer of rows hold nothing the kernel reads, so what the
    buffer carries between points is stated from row 5 on. -/
module

public import proofs.«01_k».proof.Proof.LruBody
public import Idealize.ShloMosaic.Lib.KernelVsHost
public import Idealize.ShloMosaic.Lib.Claim

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Only the rows from row 5 on are read -/

/-- Two buffers of rows equal from row 5 on. -/
def Agree (v v' : Vec F S264x1024 .f32) : Prop := ∀ y : S264x1024.Idx, 5 ≤ (y (0 : Fin 2)).val → v y = v' y

theorem Agree.put5 {v v' : Vec F S264x1024 .f32} (h : Agree v v') (w : Vec F S3x1024 .f32) : Agree (put5 v w) (put5 v' w) := by
  intro y hy
  unfold Lru.put5
  split
  · rfl
  · exact h y hy

theorem Agree.put8 {v v' : Vec F S264x1024 .f32} (h : Agree v v') (w : Vec F S256x1024 .f32) : Agree (put8 v w) (put8 v' w) := by
  intro y hy
  unfold Lru.put8
  split
  · rfl
  · exact h y hy

theorem agree_rowsA (x2 : Vec F S256x1024 .f32) (x4 : Vec F S1x3x1024 .f32) (v v' : Vec F S264x1024 .f32) : Agree (rowsA x2 x4 v) (rowsA x2 x4 v') := by
  intro y hy
  unfold rowsA Lru.put8 Lru.put5
  have hy2 : (y (0 : Fin 2)).val < 264 := (y (0 : Fin 2)).isLt
  split
  · rfl
  · rename_i h8
    rw [dif_pos (show 5 ≤ (y (0 : Fin 2)).val ∧ (y (0 : Fin 2)).val < 5 + 3 by omega), dif_pos (show 5 ≤ (y (0 : Fin 2)).val ∧ (y (0 : Fin 2)).val < 5 + 3 by omega)]

theorem Agree.rowsB {v v' : Vec F S264x1024 .f32} (h : Agree v v') (x2 : Vec F S256x1024 .f32) : Agree (rowsB x2 v) (rowsB x2 v') :=
  h.put8 _

/-- Row `y` from row 8 on, moved back by `s ≤ 3` rows, is at or after row 5. -/
theorem Agree.rot {v v' : Vec F S264x1024 .f32} (h : Agree v v') (sb : BitVec 32) (hs : sb.toNat ≤ 3) :
    extractStridedSlice S256x1024 ![8, 0] (dynamicRotate 0 sb none v rotates_S264x1024_d0) slices_S264x1024_o8_0_S256x1024
      = extractStridedSlice S256x1024 ![8, 0] (dynamicRotate 0 sb none v' rotates_S264x1024_d0) slices_S264x1024_o8_0_S256x1024 := by
  funext j
  have hj : (j (0 : Fin 2)).val < 256 := (j (0 : Fin 2)).isLt
  have hj1 : (j (1 : Fin 2)).val < 1024 := (j (1 : Fin 2)).isLt
  let k1 : S264x1024.Idx := ValueIdx.ix2 (⟨8 + (j (0 : Fin 2)).val, by omega⟩ : Fin 264) (⟨(j (1 : Fin 2)).val, hj1⟩ : Fin 1024)
  let k2 : S264x1024.Idx := ValueIdx.ix2 (⟨8 + (j (0 : Fin 2)).val - sb.toNat, by omega⟩ : Fin 264) (⟨(j (1 : Fin 2)).val, hj1⟩ : Fin 1024)
  have e1 : ∀ a : Fin S264x1024.rank, (k1 a).val = (![8, 0] : Fin 2 → ℕ) a + (j (a.cast slices_S264x1024_o8_0_S256x1024.1.symm)).val := by
    intro a; fin_cases a
    · rfl
    · exact (Nat.zero_add _).symm
  have e2 : ∀ b : Fin S264x1024.rank, (k2 b).val = if b = (0 : Fin 2) then ((k1 b).val + S264x1024.size b - sb.toNat % S264x1024.size b) % S264x1024.size b else (k1 b).val := by
    intro b; fin_cases b
    · show 8 + (j (0 : Fin 2)).val - sb.toNat = ((8 + (j (0 : Fin 2)).val) + 264 - sb.toNat % 264) % 264
      omega
    · rfl
  rw [extractStridedSlice_apply ![8, 0] _ _ j k1 e1, extractStridedSlice_apply ![8, 0] _ _ j k1 e1,
    dynamicRotate_apply 0 sb v _ k1 k2 e2, dynamicRotate_apply 0 sb v' _ k1 k2 e2]
  exact h k2 (show 5 ≤ 8 + (j (0 : Fin 2)).val - sb.toNat by omega)

theorem Agree.slice {v v' : Vec F S264x1024 .f32} (h : Agree v v') :
    extractStridedSlice S256x1024 ![8, 0] v slices_S264x1024_o8_0_S256x1024
      = extractStridedSlice S256x1024 ![8, 0] v' slices_S264x1024_o8_0_S256x1024 := by
  funext j
  refine h _ ?_
  show 5 ≤ 8 + (j (0 : Fin 2)).val
  omega

theorem pay6_congr {v v' : Vec F S264x1024 .f32} (h : Agree v v') (a b d e) : k0_pay6 v a b d e = k0_pay6 v' a b d e := by
  simp only [k0_pay6, h.slice, h.rot 3#32 (by decide), h.rot 2#32 (by decide)]
theorem pay7_congr {v v' : Vec F S264x1024 .f32} (h : Agree v v') (a b) : k0_pay7 v a b = k0_pay7 v' a b := by
  simp only [k0_pay7, h.rot 1#32 (by decide)]
theorem pay9_congr {v v' : Vec F S264x1024 .f32} (h : Agree v v') (a b) : k0_pay9 v a b = k0_pay9 v' a b := by
  simp only [k0_pay9, pay7_congr h]
theorem pay11_congr {v v' : Vec F S264x1024 .f32} (h : Agree v v') (a b d) : k0_pay11 v a b d = k0_pay11 v' a b d := by
  simp only [k0_pay11, k0_pay10, pay9_congr h]
theorem pay12_congr {v v' : Vec F S264x1024 .f32} (h : Agree v v') (a b d) : k0_pay12 v a b d = k0_pay12 v' a b d := by
  simp only [k0_pay12, k0_pay10, pay9_congr h]
theorem pay14_congr {v v' : Vec F S264x1024 .f32} (h : Agree v v') (a b d) : k0_pay14 v a b d = k0_pay14 v' a b d := by
  simp only [k0_pay14, k0_pay13, pay9_congr h]
theorem pay15_congr {v v' : Vec F S264x1024 .f32} (h : Agree v v') (a b d) : k0_pay15 v a b d = k0_pay15 v' a b d := by
  simp only [k0_pay15, k0_pay13, pay9_congr h]
theorem pay16_congr {v v' : Vec F S264x1024 .f32} (h : Agree v v') (a b) : k0_pay16 v a b = k0_pay16 v' a b := by
  simp only [k0_pay16, pay9_congr h]

/-- The block's results depend on the buffer of rows from row 5 on only. -/
theorem endV_congr {v v' : Vec F S264x1024 .f32} (h : Agree v v') (x6 x7 x8 x9 x10 x11 x12 h0) :
    endV v x6 x7 x8 x9 x10 x11 x12 h0 = endV v' x6 x7 x8 x9 x10 x11 x12 h0 := by
  simp only [endV, aV, bV, rV, igV, ucV, ucbV, pay6_congr h, pay7_congr h, pay9_congr h, pay11_congr h, pay12_congr h, pay14_congr h, pay15_congr h, pay16_congr h]

theorem Agree.rowsEnd {v v' : Vec F S264x1024 .f32} (h : Agree v v') : Agree (rowsEnd v) (rowsEnd v') := by
  have e : View.ld v (Rect.unit (s := S264x1024) ![261, 0] S3x1024.size inb_S264x1024_S3x1024_261_0)
      = View.ld v' (Rect.unit (s := S264x1024) ![261, 0] S3x1024.size inb_S264x1024_S3x1024_261_0) := by
    funext j
    refine h _ ?_
    show 5 ≤ 261 + 1 * (j (0 : Fin 2)).val
    omega
  unfold Lru.rowsEnd
  rw [e]
  exact h.put5 _

/-! ## Staging memrefs, scratch, idle points -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x128x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x128x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x1024 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1x1024 .f32 := win0_12.stage (cfg0.slots t 12)
abbrev hs12 (t : Fin cfg0.N) : (ms12 t).IsWhole := hstage0_12 ((cfg0.slots t 12).cast nbuf0_12)
abbrev sc0 : Memref sig .tc .vmem S264x1024 .f32 := Memref.whole cc0_scratch0
abbrev sc1 : Memref sig .tc .vmem S1x1024 .f32 := Memref.whole cc0_scratch1
abbrev sc2 : Memref sig .tc .vmem S256x1024 .f32 := Memref.whole cc0_scratch2
abbrev sc3 : Memref sig .tc .vmem S256x1024 .f32 := Memref.whole cc0_scratch3
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem idle12 : ∀ t : Fin cfg0.N, ¬cond1 (grid0.coords t) → cfg0.idle 12 (grid0.coords t) = true := by decide +kernel
theorem noFlush12 : ∀ t : Fin cfg0.N, ¬cond1 (grid0.coords t) → (cfg0.win 12).flush t = false := by decide +kernel
theorem live12 : ∀ t : Fin cfg0.N, cond1 (grid0.coords t) → cfg0.idle 12 (grid0.coords t) = false := by decide +kernel

/-- The launch's invariant, the scratch operands as memrefs. -/
theorem inv0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## What the points leave -/

/-- At point `t`, with the buffer of rows `x15` and the state `x16` carried in: the buffer of rows after the block is stored
    into it, and what the recurrence leaves. -/
def pt (c : Dev nD) (t : Fin cfg0.N) (x15 : Vec F S264x1024 .f32) (x16 : Vec F S1x1024 .f32) : Vec F S264x1024 .f32 × Vec F S1x1024 .f32 × Vec F S256x1024 .f32 :=
  if t.val % 8 = 0 then
    (rowsA (iblk m c 0 t) (iblk m c 2 t) x15, endV (rowsA (iblk m c 0 t) (iblk m c 2 t) x15) (iblk m c 4 t) (iblk m c 5 t) (iblk m c 6 t) (iblk m c 7 t) (iblk m c 8 t) (iblk m c 9 t) (iblk m c 10 t) (k0_pay4 (iblk m c 3 t)))
  else (rowsB (iblk m c 0 t) x15, endV (rowsB (iblk m c 0 t) x15) (iblk m c 4 t) (iblk m c 5 t) (iblk m c 6 t) (iblk m c 7 t) (iblk m c 8 t) (iblk m c 9 t) (iblk m c 10 t) x16)

/-- The same along the points. -/
def stAt (c : Dev nD) : (n : ℕ) → n < cfg0.N → Vec F S264x1024 .f32 × Vec F S1x1024 .f32 × Vec F S256x1024 .f32
  | 0, hn => pt m c ⟨0, hn⟩ (fun _ => Scalar.ofBits .f32 0#32) (fun _ => Scalar.ofBits .f32 0#32)
  | n + 1, hn => pt m c ⟨n + 1, hn⟩ (rowsEnd (stAt c n (Nat.lt_of_succ_lt hn)).1) (k0_pay40 (stAt c n (Nat.lt_of_succ_lt hn)).2.1)

theorem stAt_pos (c : Dev nD) (t : Fin cfg0.N) (h : t.val ≠ 0) :
    stAt m c t.val t.isLt = pt m c t (rowsEnd (stAt m c (t.val - 1) (Nat.lt_of_le_of_lt (Nat.sub_le _ _) t.isLt)).1) (k0_pay40 (stAt m c (t.val - 1) (Nat.lt_of_le_of_lt (Nat.sub_le _ _) t.isLt)).2.1) := by
  obtain ⟨n, hn⟩ := t
  cases n with
  | zero => exact absurd rfl h
  | succ n => rfl

theorem stAt_first (c : Dev nD) (t : Fin cfg0.N) (h : t.val % 8 = 0) :
    ∃ x15, stAt m c t.val t.isLt = (rowsA (iblk m c 0 t) (iblk m c 2 t) x15, endV (rowsA (iblk m c 0 t) (iblk m c 2 t) x15) (iblk m c 4 t) (iblk m c 5 t) (iblk m c 6 t) (iblk m c 7 t) (iblk m c 8 t) (iblk m c 9 t) (iblk m c 10 t) (k0_pay4 (iblk m c 3 t))) := by
  obtain ⟨n, hn⟩ := t
  cases n with
  | zero => exact ⟨fun _ => Scalar.ofBits .f32 0#32, (if_pos h : pt m c ⟨0, hn⟩ (fun _ => Scalar.ofBits .f32 0#32) (fun _ => Scalar.ofBits .f32 0#32) = _)⟩
  | succ n => exact ⟨_, (if_pos h : pt m c ⟨n + 1, hn⟩ _ _ = _)⟩

theorem stAt_later (c : Dev nD) (t : Fin cfg0.N) (h : ¬t.val % 8 = 0) :
    stAt m c t.val t.isLt = (rowsB (iblk m c 0 t) (rowsEnd (stAt m c (t.val - 1) (Nat.lt_of_le_of_lt (Nat.sub_le _ _) t.isLt)).1),
      endV (rowsB (iblk m c 0 t) (rowsEnd (stAt m c (t.val - 1) (Nat.lt_of_le_of_lt (Nat.sub_le _ _) t.isLt)).1)) (iblk m c 4 t) (iblk m c 5 t) (iblk m c 6 t) (iblk m c 7 t) (iblk m c 8 t) (iblk m c 9 t) (iblk m c 10 t) (k0_pay40 (stAt m c (t.val - 1) (Nat.lt_of_le_of_lt (Nat.sub_le _ _) t.isLt)).2.1)) := by
  rw [stAt_pos m c t (fun h0 => h (by rw [h0])), pt, if_neg h]

/-- The carried scratch after point `n`. -/
def Phi (c : Dev nD) : (n : ℕ) → n ≤ cfg0.N → sProp 𝕄
  | 0, _ => Pipeline.ΦA spec0 c
  | n + 1, hn => iprop(iprop((∃ x, owns (c : Thread nD τ) sc0 fullShare x ∗ ⌜Agree x (rowsEnd (stAt m c n hn).1)⌝) ∗ owns (c : Thread nD τ) sc1 fullShare (k0_pay40 (stAt m c n hn).2.1)
      ∗ (∃ d, owns (c : Thread nD τ) sc2 fullShare d) ∗ (∃ d, owns (c : Thread nD τ) sc3 fullShare d)) ∗ (∃ r, prngReg c r))

theorem Phi_succ (c : Dev nD) (n : ℕ) (hn : n < cfg0.N) :
    Phi m c (n + 1) hn = iprop(iprop((∃ x, owns (c : Thread nD τ) sc0 fullShare x ∗ ⌜Agree x (rowsEnd (stAt m c n hn).1)⌝) ∗ owns (c : Thread nD τ) sc1 fullShare (k0_pay40 (stAt m c n hn).2.1)
      ∗ (∃ d, owns (c : Thread nD τ) sc2 fullShare d) ∗ (∃ d, owns (c : Thread nD τ) sc3 fullShare d)) ∗ (∃ r, prngReg c r)) := rfl

theorem Phi_pos (c : Dev nD) (n : ℕ) (h : n ≤ cfg0.N) (hz : n ≠ 0) :
    Phi m c n h = iprop(iprop((∃ x, owns (c : Thread nD τ) sc0 fullShare x ∗ ⌜Agree x (rowsEnd (stAt m c (n - 1) (by omega)).1)⌝) ∗ owns (c : Thread nD τ) sc1 fullShare (k0_pay40 (stAt m c (n - 1) (by omega)).2.1)
      ∗ (∃ d, owns (c : Thread nD τ) sc2 fullShare d) ∗ (∃ d, owns (c : Thread nD τ) sc3 fullShare d)) ∗ (∃ r, prngReg c r)) := by
  cases n with
  | zero => exact absurd rfl hz
  | succ n => rfl

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => k0_pay1 (stAt m c t.val t.isLt).2.2 (iblk m c 1 t)
    | ⟨12, _⟩ => k0_pay2 (stAt m c t.val t.isLt).2.1
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = k0_pay1 (stAt m c t.val t.isLt).2.2 (iblk m c 1 t) := by dsimp only [dats]
theorem after0_12 (c : Dev nD) (t : Fin cfg0.N) : (dats m 0 c).after 12 t = k0_pay2 (stAt m c t.val t.isLt).2.1 := by dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by unfold Dat.leavesExact; rw [live0 t], after0_0]
  rw [show (dats m 0 c).leavesExact 1 t = owns (c : Thread nD τ) (ms1 t) fullShare ((dats m 0 c).after 1 t) from by unfold Dat.leavesExact; rw [live1 t], after0_1]
  rw [show (dats m 0 c).leavesExact 2 t = owns (c : Thread nD τ) (ms2 t) fullShare ((dats m 0 c).after 2 t) from by unfold Dat.leavesExact; rw [live2 t], after0_2]
  rw [show (dats m 0 c).leavesExact 3 t = owns (c : Thread nD τ) (ms3 t) fullShare ((dats m 0 c).after 3 t) from by unfold Dat.leavesExact; rw [live3 t], after0_3]
  rw [show (dats m 0 c).leavesExact 4 t = owns (c : Thread nD τ) (ms4 t) fullShare ((dats m 0 c).after 4 t) from by unfold Dat.leavesExact; rw [live4 t], after0_4]
  rw [show (dats m 0 c).leavesExact 5 t = owns (c : Thread nD τ) (ms5 t) fullShare ((dats m 0 c).after 5 t) from by unfold Dat.leavesExact; rw [live5 t], after0_5]
  rw [show (dats m 0 c).leavesExact 6 t = owns (c : Thread nD τ) (ms6 t) fullShare ((dats m 0 c).after 6 t) from by unfold Dat.leavesExact; rw [live6 t], after0_6]
  rw [show (dats m 0 c).leavesExact 7 t = owns (c : Thread nD τ) (ms7 t) fullShare ((dats m 0 c).after 7 t) from by unfold Dat.leavesExact; rw [live7 t], after0_7]
  rw [show (dats m 0 c).leavesExact 8 t = owns (c : Thread nD τ) (ms8 t) fullShare ((dats m 0 c).after 8 t) from by unfold Dat.leavesExact; rw [live8 t], after0_8]
  rw [show (dats m 0 c).leavesExact 9 t = owns (c : Thread nD τ) (ms9 t) fullShare ((dats m 0 c).after 9 t) from by unfold Dat.leavesExact; rw [live9 t], after0_9]
  rw [show (dats m 0 c).leavesExact 10 t = owns (c : Thread nD τ) (ms10 t) fullShare ((dats m 0 c).after 10 t) from by unfold Dat.leavesExact; rw [live10 t], after0_10]
  rw [show (dats m 0 c).leavesExact 11 t = owns (c : Thread nD τ) (ms11 t) fullShare ((dats m 0 c).after 11 t) from by unfold Dat.leavesExact; rw [live11 t], after0_11]
  by_cases h0 : t.val % 8 = 0
  · have h1 : ¬t.val % 8 = 7 := by omega
    rw [Dat.leavesExact_idle (dats m 0 c) 12 t (idle12 t (fun h => h1 ((hcond1 t).mp h))) (noFlush12 t (fun h => h1 ((hcond1 t).mp h)))]
    by_cases hz0 : t.val = 0
    · rw [Phi_castSucc m c t, show Phi m c t.val (Nat.le_of_lt t.isLt) = Pipeline.ΦA spec0 c from by simp only [hz0]; rfl, inv0_eq]
      iintro ⟨⟨⟨⟨%x15, HS0⟩, ⟨%x16, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (bodyA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) x15 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      obtain ⟨z15, hz⟩ := stAt_first m c t h0
      have hv := agree_rowsA (F := F) (iblk m c 0 t) (iblk m c 2 t) x15 z15
      rw [hz]; dsimp only; rw [endV_congr hv]
      isplitl [HS0 HS1 HS2 HS3 Hg]
      · isplitl [HS0 HS1 HS2 HS3]
        · isplitl [HS0]
          · iexists _; isplitl [HS0]; · iexact HS0
            ipureintro; exact hv.rowsEnd
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · rw [Phi_castSucc m c t, Phi_pos m c _ _ hz0]
      iintro ⟨⟨⟨⟨%x15, HS0, %hag⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (bodyA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) x15 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      obtain ⟨z15, hz⟩ := stAt_first m c t h0
      have hv := agree_rowsA (F := F) (iblk m c 0 t) (iblk m c 2 t) x15 z15
      rw [hz]; dsimp only; rw [endV_congr hv]
      isplitl [HS0 HS1 HS2 HS3 Hg]
      · isplitl [HS0 HS1 HS2 HS3]
        · isplitl [HS0]
          · iexists _; isplitl [HS0]; · iexact HS0
            ipureintro; exact hv.rowsEnd
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hz0 : t.val ≠ 0 := by omega
    rw [Phi_castSucc m c t, Phi_pos m c _ _ hz0]
    by_cases h1 : t.val % 8 = 7
    · rw [show (dats m 0 c).leavesExact 12 t = owns (c : Thread nD τ) (ms12 t) fullShare ((dats m 0 c).after 12 t) from by unfold Dat.leavesExact; rw [live12 t ((hcond1 t).mpr h1)], after0_12]
      iintro ⟨⟨⟨⟨%x15, HS0, %hag⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (bodyC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) x15 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      iintro ⟨H0, H1, H2, H3, H4, H5, H6, H7, H8, H9, H10, H11, H12, HS0, HS1, HS2, HS3⟩
      have hz := stAt_later m c t h0
      have hv := hag.rowsB (iblk m c 0 t)
      rw [hz]; dsimp only; rw [endV_congr hv]
      isplitl [HS0 HS1 HS2 HS3 Hg]
      · isplitl [HS0 HS1 HS2 HS3]
        · isplitl [HS0]
          · iexists _; isplitl [HS0]; · iexact HS0
            ipureintro; exact hv.rowsEnd
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [Dat.leavesExact_idle (dats m 0 c) 12 t (idle12 t (fun h => h1 ((hcond1 t).mp h))) (noFlush12 t (fun h => h1 ((hcond1 t).mp h)))]
      iintro ⟨⟨⟨⟨%x15, HS0, %hag⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (bodyB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) x15 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      have hz := stAt_later m c t h0
      have hv := hag.rowsB (iblk m c 0 t)
      rw [hz]; dsimp only; rw [endV_congr hv]
      isplitl [HS0 HS1 HS2 HS3 Hg]
      · isplitl [HS0 HS1 HS2 HS3]
        · isplitl [HS0]
          · iexists _; isplitl [HS0]; · iexact HS0
            ipureintro; exact hv.rowsEnd
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem phi_in (c : Dev nD) : Pipeline.ΦA spec0 c ⊢ (dats m 0 c).Φ 0 := by
  rw [show (dats m 0 c).Φ 0 = Pipeline.ΦA spec0 c from rfl]

theorem phi_out (c : Dev nD) : (dats m 0 c).Φ (Fin.last cfg0.N) ⊢ Pipeline.ΦA spec0 c := by
  rw [show (dats m 0 c).Φ (Fin.last cfg0.N) = Phi m c cfg0.N le_rfl from rfl, Phi_pos m c _ _ (by rw [show cfg0.N = 32 from N_0]; omega), inv0_eq]
  iintro ⟨⟨⟨%x, HS0, %hx⟩, HS1, HS2, HS3⟩, Hg⟩
  isplitl [HS0 HS1 HS2 HS3]
  · isplitl [HS0]
    · iexists _; iexact HS0
    isplitl [HS1]
    · iexists _; iexact HS1
    isplitl [HS2]; · iexact HS2
    iexact HS3
  iexact Hg

set_option backward.isDefEq.respectTransparency.types false in
/-- The launch: every execution ends, the arrays at what the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := phi_in m) (hout := phi_out m)

/-- The argument arrays end unchanged, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Lru

end
-- ==== Proof.LruSpec.lean ====
/-
  The recurrence kernel's blocks at the ideal instance, entry by entry.
-/
module

public import proofs.«01_k».proof.Proof.LruFrame
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Lru

open Cert.KernelIdeal Cert.KernelIdeal.Gen

/-- The softplus of the negated parameter. -/
def sp (lam : EReal) : EReal := max (0 - lam) 0 + Ideal.log1p (Ideal.exp (0 - FloatOps.absf (F := Ideal) (φ := .f32) (0 - lam)))
/-- The logarithm of the decay. -/
def logA (r lam : EReal) : EReal := Ideal.ofBits FTy.f32 3238002688#32 * r * sp lam
/-- What a row adds to the state: the root of one less the decay's square, times the gated row. -/
def addend (r g u lam : EReal) : EReal := Ideal.sqrt (-(Ideal.exp (Ideal.ofBits FTy.f32 1073741824#32 * logA r lam) - 1)) * (g * u)
/-- The gate's activation. -/
def geluE (g : EReal) : EReal :=
  g * (Ideal.ofBits FTy.f32 1056964608#32 * (1 + Ideal.tanh (Ideal.ofBits FTy.f32 1061962282#32 * (g + Ideal.ofBits FTy.f32 1027024659#32 * (g * (g * g))))))

theorem pay36_apply (r : FVec Ideal S256x1024 .f32) (lam : Vec Ideal S1x1x1024 .f32) (i : Fin 256) (j : Fin 1024) :
    k0_pay36 r (k0_pay33 lam) (ix2 i j) = Ideal.exp (logA (r (ix2 i j)) (lam (ix3 0 0 j))) := by
  unfold_payloads
  pointwise
  rfl

theorem two_eq : Ideal.ofBits FTy.f32 1073741824#32 = ((2 : ℝ) : EReal) := by
  simp [Ideal.ofBits, Ideal.ieee, -EReal.coe_mul]; norm_num

theorem tanh_form (L : EReal) :
    (0 - Ideal.tanh L) * (Ideal.exp L * Ideal.exp L + 1) = -(Ideal.exp (Ideal.ofBits FTy.f32 1073741824#32 * L) - 1) := by
  rw [two_eq]
  induction L using EReal.rec with
  | bot =>
    rw [EReal.coe_mul_bot_of_pos (by norm_num)]
    simp only [Ideal.tanh_bot, Ideal.exp_bot]
    rw [zero_mul, zero_add, mul_one, zero_sub, zero_sub]
  | top =>
    rw [EReal.coe_mul_top_of_pos (by norm_num)]
    simp only [Ideal.tanh_top, Ideal.exp_top]
    rw [EReal.top_mul_top]
    show (0 - ((1 : ℝ) : EReal)) * (⊤ + ((1 : ℝ) : EReal)) = -(⊤ - ((1 : ℝ) : EReal))
    rw [EReal.top_add_of_ne_bot (EReal.coe_ne_bot 1), EReal.top_sub_coe, EReal.neg_top, zero_sub, ← EReal.coe_neg]
    exact EReal.coe_mul_top_of_neg (x := (-1 : ℝ)) (by norm_num)
  | coe x =>
    rw [← EReal.coe_mul]
    simp only [Ideal.tanh_coe, Ideal.exp_coe]
    rw [← EReal.coe_zero, ← EReal.coe_one, ← EReal.coe_sub, ← EReal.coe_mul, ← EReal.coe_add, ← EReal.coe_mul, ← EReal.coe_sub, ← EReal.coe_neg]
    congr 1
    have h1 : Real.exp (2 * x) = Real.exp x * Real.exp x := by rw [two_mul, Real.exp_add]
    have h2 : Real.exp x * Real.exp (-x) = 1 := by rw [← Real.exp_add, add_neg_cancel, Real.exp_zero]
    have h3 : 0 < Real.exp x := Real.exp_pos x
    have h4 : 0 < Real.exp (-x) := Real.exp_pos (-x)
    have h5 : Real.exp (-x) = (Real.exp x)⁻¹ := Real.exp_neg x
    rw [h1, Real.tanh_eq_sinh_div_cosh, Real.sinh_eq, Real.cosh_eq, h5]
    have h6 : Real.exp x + (Real.exp x)⁻¹ ≠ 0 := ne_of_gt (add_pos h3 (inv_pos.mpr h3))
    field_simp
    ring

theorem pay37_apply (u r g : FVec Ideal S256x1024 .f32) (lam : Vec Ideal S1x1x1024 .f32) (i : Fin 256) (j : Fin 1024) :
    k0_pay37 u r g (k0_pay33 lam) (ix2 i j) = addend (r (ix2 i j)) (g (ix2 i j)) (u (ix2 i j)) (lam (ix3 0 0 j)) := by
  unfold addend
  rw [← tanh_form]
  unfold_payloads
  pointwise
  rfl

theorem pay1_apply (h g : Vec Ideal S256x1024 .f32) (i : Fin 256) (j : Fin 1024) :
    k0_pay1 h g (ix2 i j) = h (ix2 i j) * geluE (g (ix2 i j)) := by
  unfold_payloads
  pointwise
  rfl

theorem ucV_apply (v7 : Vec Ideal S264x1024 .f32) (x6 : Vec Ideal S1x4x1024 .f32) (x7 : Vec Ideal S1x1x1024 .f32) (i : Fin 256) (j : Fin 1024) :
    ucV v7 x6 x7 (ix2 i j)
      = x7 (ix3 0 0 j) + x6 (ix3 0 0 j) * v7 (ix2 ⟨5 + i.val, by omega⟩ j) + x6 (ix3 0 1 j) * v7 (ix2 ⟨6 + i.val, by omega⟩ j)
        + x6 (ix3 0 2 j) * v7 (ix2 ⟨7 + i.val, by omega⟩ j) + x6 (ix3 0 3 j) * v7 (ix2 ⟨8 + i.val, by omega⟩ j) := by
  have e : ucV v7 x6 x7 (ix2 i j)
      = x7 (ix3 0 0 j) + x6 (ix3 0 3 j) * v7 (ix2 ⟨8 + i.val, by omega⟩ j) + x6 (ix3 0 0 j) * v7 (ix2 ⟨(8 + i.val + 264 - 3) % 264, Nat.mod_lt _ (by decide)⟩ j)
        + x6 (ix3 0 1 j) * v7 (ix2 ⟨(8 + i.val + 264 - 2) % 264, Nat.mod_lt _ (by decide)⟩ j) + x6 (ix3 0 2 j) * v7 (ix2 ⟨(8 + i.val + 264 - 1) % 264, Nat.mod_lt _ (by decide)⟩ j) := by
    unfold ucV
    unfold_payloads
    pointwise
  have h5 : (⟨(8 + i.val + 264 - 3) % 264, Nat.mod_lt _ (by decide)⟩ : Fin 264) = ⟨5 + i.val, by omega⟩ := Fin.ext (by show (8 + i.val + 264 - 3) % 264 = 5 + i.val; omega)
  have h6 : (⟨(8 + i.val + 264 - 2) % 264, Nat.mod_lt _ (by decide)⟩ : Fin 264) = ⟨6 + i.val, by omega⟩ := Fin.ext (by show (8 + i.val + 264 - 2) % 264 = 6 + i.val; omega)
  have h7 : (⟨(8 + i.val + 264 - 1) % 264, Nat.mod_lt _ (by decide)⟩ : Fin 264) = ⟨7 + i.val, by omega⟩ := Fin.ext (by show (8 + i.val + 264 - 1) % 264 = 7 + i.val; omega)
  rw [e, h5, h6, h7, add_right_comm _ _ (x6 (ix3 0 0 j) * _), add_right_comm _ _ (x6 (ix3 0 1 j) * _), add_right_comm _ _ (x6 (ix3 0 2 j) * _)]

/-- A gate of the convolved rows: eight products of 128 columns each. -/
def gateV (u : Vec Ideal S256x1024 .bf16) (w : Vec Ideal S1x8x128x128 .bf16) (b : Vec Ideal S1x1x1024 .f32) : FVec Ideal S256x1024 .f32 :=
  k0_pay31 u
    (k0_pay19 (extractStridedSlice S256x128 ![0, 0] u slices_S256x1024_o0_0_S256x128) (View.ld w (Rect.unit (s := S1x8x128x128) ![0, 0, 0, 0] S1x1x128x128.size inb_S1x8x128x128_S1x1x128x128_0_0_0_0)))
    (k0_pay19 (extractStridedSlice S256x128 ![0, 128] u slices_S256x1024_o0_128_S256x128) (View.ld w (Rect.unit (s := S1x8x128x128) ![0, 1, 0, 0] S1x1x128x128.size inb_S1x8x128x128_S1x1x128x128_0_1_0_0)))
    (k0_pay19 (extractStridedSlice S256x128 ![0, 256] u slices_S256x1024_o0_256_S256x128) (View.ld w (Rect.unit (s := S1x8x128x128) ![0, 2, 0, 0] S1x1x128x128.size inb_S1x8x128x128_S1x1x128x128_0_2_0_0)))
    (k0_pay21 u (View.ld w (Rect.unit (s := S1x8x128x128) ![0, 3, 0, 0] S1x1x128x128.size inb_S1x8x128x128_S1x1x128x128_0_3_0_0)))
    (k0_pay24 u (View.ld w (Rect.unit (s := S1x8x128x128) ![0, 4, 0, 0] S1x1x128x128.size inb_S1x8x128x128_S1x1x128x128_0_4_0_0)))
    (k0_pay27 u (View.ld w (Rect.unit (s := S1x8x128x128) ![0, 5, 0, 0] S1x1x128x128.size inb_S1x8x128x128_S1x1x128x128_0_5_0_0)))
    (View.ld w (Rect.unit (s := S1x8x128x128) ![0, 6, 0, 0] S1x1x128x128.size inb_S1x8x128x128_S1x1x128x128_0_6_0_0))
    (View.ld w (Rect.unit (s := S1x8x128x128) ![0, 7, 0, 0] S1x1x128x128.size inb_S1x8x128x128_S1x1x128x128_0_7_0_0)) b

theorem rV_eq (v7 : Vec Ideal S264x1024 .f32) (x6 : Vec Ideal S1x4x1024 .f32) (x7 : Vec Ideal S1x1x1024 .f32) (x8 : Vec Ideal S1x8x128x128 .bf16) (x9 : Vec Ideal S1x1x1024 .f32) (x10 : Vec Ideal S1x8x128x128 .bf16) (x11 : Vec Ideal S1x1x1024 .f32) (x12 : Vec Ideal S1x1x1024 .f32) :
    rV v7 x6 x7 x8 x9 x10 x11 x12 = gateV (ucbV v7 x6 x7) x8 x9 := rfl
theorem igV_eq (v7 : Vec Ideal S264x1024 .f32) (x6 : Vec Ideal S1x4x1024 .f32) (x7 : Vec Ideal S1x1x1024 .f32) (x8 : Vec Ideal S1x8x128x128 .bf16) (x9 : Vec Ideal S1x1x1024 .f32) (x10 : Vec Ideal S1x8x128x128 .bf16) (x11 : Vec Ideal S1x1x1024 .f32) (x12 : Vec Ideal S1x1x1024 .f32) :
    igV v7 x6 x7 x8 x9 x10 x11 x12 = gateV (ucbV v7 x6 x7) x10 x11 := rfl

/-- The products of one block of 128 columns. -/
def gsum (u : Fin 1024 → EReal) (w : Fin 8 → Fin 128 → Fin 128 → EReal) (j : Fin 1024) : EReal :=
  ∑ x : Fin 128, u ⟨128 * (j.val / 128) + x.val, by omega⟩ * w ⟨j.val / 128, by omega⟩ x ⟨j.val % 128, by omega⟩

theorem gsum_hit (u : Fin 1024 → EReal) (w : Fin 8 → Fin 128 → Fin 128 → EReal) (j : Fin 1024) (k : Fin 8) (q : Fin 128) (h : j.val = 128 * k.val + q.val)
    (o : Fin 128 → Fin 1024) (ho : ∀ x, (o x).val = 128 * k.val + x.val) :
    ∑ x : Fin 128, u (o x) * w k x q = gsum u w j := by
  unfold gsum
  have ek : k = ⟨j.val / 128, by omega⟩ := Fin.ext (by show k.val = j.val / 128; omega)
  have eq : q = ⟨j.val % 128, by omega⟩ := Fin.ext (by show q.val = j.val % 128; omega)
  refine Finset.sum_congr (M := EReal) rfl fun x _ => ?_
  have eo : o x = ⟨128 * (j.val / 128) + x.val, by omega⟩ := Fin.ext (by rw [ho x]; show _ = 128 * (j.val / 128) + x.val; omega)
  rw [eo]
  exact congrArg₂ (fun a b => u ⟨128 * (j.val / 128) + x.val, by omega⟩ * w a x b) ek eq

theorem gateV_apply (u : Vec Ideal S256x1024 .bf16) (w : Vec Ideal S1x8x128x128 .bf16) (b : Vec Ideal S1x1x1024 .f32) (i : Fin 256) (j : Fin 1024) :
    gateV u w b (ix2 i j) = Ideal.logistic (gsum (fun x => u (ix2 i x)) (fun h x q => w (ix4 0 h x q)) j + b (ix3 0 0 j)) := by
  unfold gateV
  unfold_payloads
  pointwise
  congr 1
  congr 1
  have hj := j.isLt
  split_ifs
  · exact gsum_hit (fun x => u (ix2 i x)) (fun h x q => w (ix4 0 h x q)) j 0 ⟨j.val, by omega⟩ (by show j.val = 128 * 0 + j.val; omega) (fun x => ⟨x.val, by omega⟩) (fun x => by show x.val = 128 * 0 + x.val; omega)
  · exact gsum_hit (fun x => u (ix2 i x)) (fun h x q => w (ix4 0 h x q)) j 0 ⟨j.val, by omega⟩ (by show j.val = 128 * 0 + j.val; omega) (fun x => ⟨x.val, by omega⟩) (fun x => by show x.val = 128 * 0 + x.val; omega)
  · exact gsum_hit (fun x => u (ix2 i x)) (fun h x q => w (ix4 0 h x q)) j 1 ⟨j.val - 128, by omega⟩ (by show j.val = 128 * 1 + (j.val - 128); omega) (fun x => ⟨128 + x.val, by omega⟩) (fun x => by show 128 + x.val = 128 * 1 + x.val; omega)
  · exact gsum_hit (fun x => u (ix2 i x)) (fun h x q => w (ix4 0 h x q)) j 1 ⟨j.val - 128, by omega⟩ (by show j.val = 128 * 1 + (j.val - 128); omega) (fun x => ⟨128 + x.val, by omega⟩) (fun x => by show 128 + x.val = 128 * 1 + x.val; omega)
  · exact gsum_hit (fun x => u (ix2 i x)) (fun h x q => w (ix4 0 h x q)) j 2 ⟨j.val - 128 - 128, by omega⟩ (by show j.val = 128 * 2 + (j.val - 128 - 128); omega) (fun x => ⟨256 + x.val, by omega⟩) (fun x => by show 256 + x.val = 128 * 2 + x.val; omega)
  · exact gsum_hit (fun x => u (ix2 i x)) (fun h x q => w (ix4 0 h x q)) j 2 ⟨j.val - 128 - 128, by omega⟩ (by show j.val = 128 * 2 + (j.val - 128 - 128); omega) (fun x => ⟨256 + x.val, by omega⟩) (fun x => by show 256 + x.val = 128 * 2 + x.val; omega)
  · exact gsum_hit (fun x => u (ix2 i x)) (fun h x q => w (ix4 0 h x q)) j 3 ⟨j.val - 128 - 128 - 128, by omega⟩ (by show j.val = 128 * 3 + (j.val - 128 - 128 - 128); omega) (fun x => ⟨384 + x.val, by omega⟩) (fun x => by show 384 + x.val = 128 * 3 + x.val; omega)
  · exact gsum_hit (fun x => u (ix2 i x)) (fun h x q => w (ix4 0 h x q)) j 3 ⟨j.val - 128 - 128 - 128, by omega⟩ (by show j.val = 128 * 3 + (j.val - 128 - 128 - 128); omega) (fun x => ⟨384 + x.val, by omega⟩) (fun x => by show 384 + x.val = 128 * 3 + x.val; omega)
  · exact gsum_hit (fun x => u (ix2 i x)) (fun h x q => w (ix4 0 h x q)) j 4 ⟨j.val - 128 - 128 - 128 - 128, by omega⟩ (by show j.val = 128 * 4 + (j.val - 128 - 128 - 128 - 128); omega) (fun x => ⟨512 + x.val, by omega⟩) (fun x => by show 512 + x.val = 128 * 4 + x.val; omega)
  · exact gsum_hit (fun x => u (ix2 i x)) (fun h x q => w (ix4 0 h x q)) j 4 ⟨j.val - 128 - 128 - 128 - 128, by omega⟩ (by show j.val = 128 * 4 + (j.val - 128 - 128 - 128 - 128); omega) (fun x => ⟨512 + x.val, by omega⟩) (fun x => by show 512 + x.val = 128 * 4 + x.val; omega)
  · exact gsum_hit (fun x => u (ix2 i x)) (fun h x q => w (ix4 0 h x q)) j 5 ⟨j.val - 128 - 128 - 128 - 128 - 128, by omega⟩ (by show j.val = 128 * 5 + (j.val - 128 - 128 - 128 - 128 - 128); omega) (fun x => ⟨640 + x.val, by omega⟩) (fun x => by show 640 + x.val = 128 * 5 + x.val; omega)
  · exact gsum_hit (fun x => u (ix2 i x)) (fun h x q => w (ix4 0 h x q)) j 5 ⟨j.val - 128 - 128 - 128 - 128 - 128, by omega⟩ (by show j.val = 128 * 5 + (j.val - 128 - 128 - 128 - 128 - 128); omega) (fun x => ⟨640 + x.val, by omega⟩) (fun x => by show 640 + x.val = 128 * 5 + x.val; omega)
  · exact gsum_hit (fun x => u (ix2 i x)) (fun h x q => w (ix4 0 h x q)) j 6 ⟨j.val - 128 - 128 - 128 - 128 - 128 - 128, by omega⟩ (by show j.val = 128 * 6 + (j.val - 128 - 128 - 128 - 128 - 128 - 128); omega) (fun x => ⟨768 + x.val, by omega⟩) (fun x => by show 768 + x.val = 128 * 6 + x.val; omega)
  · exact gsum_hit (fun x => u (ix2 i x)) (fun h x q => w (ix4 0 h x q)) j 6 ⟨j.val - 128 - 128 - 128 - 128 - 128 - 128, by omega⟩ (by show j.val = 128 * 6 + (j.val - 128 - 128 - 128 - 128 - 128 - 128); omega) (fun x => ⟨768 + x.val, by omega⟩) (fun x => by show 768 + x.val = 128 * 6 + x.val; omega)
  · exact gsum_hit (fun x => u (ix2 i x)) (fun h x q => w (ix4 0 h x q)) j 7 ⟨j.val - 128 - 128 - 128 - 128 - 128 - 128 - 128, by omega⟩ (by show j.val = 128 * 7 + (j.val - 128 - 128 - 128 - 128 - 128 - 128 - 128); omega) (fun x => ⟨896 + x.val, by omega⟩) (fun x => by show 896 + x.val = 128 * 7 + x.val; omega)
  · exact gsum_hit (fun x => u (ix2 i x)) (fun h x q => w (ix4 0 h x q)) j 7 ⟨j.val - 128 - 128 - 128 - 128 - 128 - 128 - 128, by omega⟩ (by show j.val = 128 * 7 + (j.val - 128 - 128 - 128 - 128 - 128 - 128 - 128); omega) (fun x => ⟨896 + x.val, by omega⟩) (fun x => by show 896 + x.val = 128 * 7 + x.val; omega)

theorem ucbV_apply (v7 : Vec Ideal S264x1024 .f32) (x6 : Vec Ideal S1x4x1024 .f32) (x7 : Vec Ideal S1x1x1024 .f32) (i : Fin 256) (j : Fin 1024) :
    ucbV v7 x6 x7 (ix2 i j) = ucV v7 x6 x7 (ix2 i j) := rfl

theorem rowAt_apply (A : Vec Ideal S256x1024 .f32) (k : Fin k0_t1_loop.trips) (hk : k.val < 256) (j : Fin 1024) :
    rowAt A k (ix2 0 j) = A (ix2 ⟨k.val, hk⟩ j) := by
  unfold rowAt
  refine congrArg A (funext fun a => Fin.ext ?_)
  match a with
  | ⟨0, _⟩ =>
    show k0_off1 k 0 + 1 * 0 = k.val
    rw [k0_off1_eq k]; rfl
  | ⟨1, _⟩ =>
    show k0_off1 k 1 + 1 * j.val = j.val
    rw [k0_off1_eq k]
    show 0 + 1 * j.val = j.val
    omega

theorem putRow_apply (X : Vec Ideal S256x1024 .f32) (k : Fin k0_t1_loop.trips) (w : Vec Ideal S1x1024 .f32) (i : Fin 256) (j : Fin 1024) :
    putRow X k w (ix2 i j) = if i.val = k.val then w (ix2 0 j) else X (ix2 i j) := by
  unfold putRow
  by_cases h : i.val = k.val
  · rw [if_pos h, dif_pos (by show k.val ≤ i.val ∧ i.val < k.val + 1; omega)]
    refine congrArg w (funext fun a => Fin.ext ?_)
    match a with
    | ⟨0, _⟩ => show i.val - k.val = 0; omega
    | ⟨1, _⟩ => show j.val - 0 = j.val; omega
  · rw [if_neg h, dif_neg (by show ¬(k.val ≤ i.val ∧ i.val < k.val + 1); omega)]

/-- The inputs, entry by entry. -/
structure In where
  ug : Fin 8192 → Fin 2048 → EReal
  buf : Fin 4 → Fin 3 → Fin 1024 → EReal
  h0 : Fin 4 → Fin 1024 → EReal
  cw : Fin 4 → Fin 1024 → EReal
  cb : Fin 1024 → EReal
  gaw : Fin 8 → Fin 128 → Fin 128 → EReal
  gab : Fin 8 → Fin 128 → EReal
  gxw : Fin 8 → Fin 128 → Fin 128 → EReal
  gxb : Fin 8 → Fin 128 → EReal
  lam : Fin 1024 → EReal

namespace In
variable (I : In)

/-- The sequence's rows, the three carried in before them. -/
def full (b : Fin 4) (s : ℕ) (j : Fin 1024) : EReal :=
  if h : s < 3 then I.buf b ⟨s, h⟩ j else I.ug ⟨(2048 * b.val + (s - 3)) % 8192, Nat.mod_lt _ (by decide)⟩ ⟨j.val, by omega⟩
/-- The convolved row. -/
def uc (b : Fin 4) (t : ℕ) (j : Fin 1024) : EReal :=
  I.cb j + I.cw 0 j * I.full b t j + I.cw 1 j * I.full b (t + 1) j + I.cw 2 j * I.full b (t + 2) j + I.cw 3 j * I.full b (t + 3) j
/-- The recurrence gate. -/
def gr (b : Fin 4) (t : ℕ) (j : Fin 1024) : EReal :=
  Ideal.logistic (gsum (I.uc b t) I.gaw j + I.gab ⟨j.val / 128, by omega⟩ ⟨j.val % 128, by omega⟩)
/-- The input gate. -/
def gi (b : Fin 4) (t : ℕ) (j : Fin 1024) : EReal :=
  Ideal.logistic (gsum (I.uc b t) I.gxw j + I.gxb ⟨j.val / 128, by omega⟩ ⟨j.val % 128, by omega⟩)
/-- The decay. -/
def a (b : Fin 4) (t : ℕ) (j : Fin 1024) : EReal := Ideal.exp (logA (I.gr b t j) (I.lam j))
/-- What the row adds. -/
def ad (b : Fin 4) (t : ℕ) (j : Fin 1024) : EReal := addend (I.gr b t j) (I.gi b t j) (I.uc b t j) (I.lam j)
/-- The state before row `t`. -/
def H (b : Fin 4) : ℕ → Fin 1024 → EReal
  | 0, j => I.h0 b j
  | t + 1, j => I.a b t j * H b t j + I.ad b t j
/-- The activated gate. -/
def gl (b : Fin 4) (t : ℕ) (j : Fin 1024) : EReal := geluE (I.ug ⟨(2048 * b.val + t) % 8192, Nat.mod_lt _ (by decide)⟩ ⟨1024 + j.val, by omega⟩)
end In

/-- The loop over a block's rows: the state, and the state at each row. -/
theorem stV_apply (A B : Vec Ideal S256x1024 .f32) (h0 : Vec Ideal S1x1024 .f32) (Hf : ℕ → Fin 1024 → EReal) (e0 : ∀ j, h0 (ix2 0 j) = Hf 0 j)
    (es : ∀ (i : Fin 256) j, Hf (i.val + 1) j = A (ix2 i j) * Hf i.val j + B (ix2 i j)) (n : ℕ) (hn : n ≤ 256) :
    (∀ j, (stV A B h0 n).1 (ix2 0 j) = Hf n j) ∧ ∀ (i : Fin 256) j, (stV A B h0 n).2 (ix2 i j) = if i.val < n then Hf (i.val + 1) j else B (ix2 i j) := by
  induction n with
  | zero => exact ⟨e0, fun i j => by rw [if_neg (by omega)]; rfl⟩
  | succ n ih =>
    obtain ⟨i1, i2⟩ := ih (by omega)
    have hn' : n < k0_t1_loop.trips := by show n < 256; omega
    have es1 : stV A B h0 (n + 1) = (k0_pay38 (stV A B h0 n).1 (rowAt A ⟨n, hn'⟩) (rowAt (stV A B h0 n).2 ⟨n, hn'⟩), putRow (stV A B h0 n).2 ⟨n, hn'⟩ (k0_pay39 (stV A B h0 n).1 (rowAt A ⟨n, hn'⟩) (rowAt (stV A B h0 n).2 ⟨n, hn'⟩))) := by
      show stStep A n (stV A B h0 n) = _
      unfold stStep
      rw [dif_pos hn']
    have eh : ∀ j, k0_pay38 (stV A B h0 n).1 (rowAt A ⟨n, hn'⟩) (rowAt (stV A B h0 n).2 ⟨n, hn'⟩) (ix2 0 j) = Hf (n + 1) j := by
      intro j
      have e : k0_pay38 (stV A B h0 n).1 (rowAt A ⟨n, hn'⟩) (rowAt (stV A B h0 n).2 ⟨n, hn'⟩) (ix2 0 j) = rowAt A ⟨n, hn'⟩ (ix2 0 j) * (stV A B h0 n).1 (ix2 0 j) + rowAt (stV A B h0 n).2 ⟨n, hn'⟩ (ix2 0 j) := by
        unfold_payloads
        pointwise
      rw [e, rowAt_apply _ ⟨n, hn'⟩ (show n < 256 by omega), rowAt_apply _ ⟨n, hn'⟩ (show n < 256 by omega), i1, i2, if_neg (by show ¬ n < n; omega), ← es ⟨n, by omega⟩ j]
    rw [es1]
    refine ⟨eh, fun i j => ?_⟩
    show putRow _ _ _ (ix2 i j) = _
    rw [putRow_apply]
    by_cases h : i.val = n
    · rw [if_pos h, if_pos (by omega), h]
      have e : ∀ w : Vec Ideal S1x1024 .f32, ∀ A', ∀ B', k0_pay39 (F := Ideal) w A' B' (ix2 0 j) = k0_pay38 w A' B' (ix2 0 j) := by
        intro w A' B'
        unfold_payloads
        pointwise
      rw [e, eh]
    · rw [if_neg h, i2]
      by_cases h2 : i.val < n
      · rw [if_pos h2, if_pos (by omega)]
      · rw [if_neg h2, if_neg (by omega)]

end Cert.KernelIdeal.Lru
end
-- ==== Proof.LruValue.lean ====
/-
  The value of the recurrence kernel at the ideal instance: point by point, the buffer of rows holds the sequence's rows,
  the state is the recurrence's, and the blocks written back are the states at every row times the activated gate.
-/
module

public import proofs.«01_k».proof.Proof.LruSpec
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Lru

open Cert.KernelIdeal Cert.KernelIdeal.Gen

variable (m : (ℓ : Loc nD τ sig) → Buf (Elt Ideal) ℓ)

abbrev x0 (c : Dev nD) : Vec Ideal S8192x2048 .f32 := m ((c : Thread nD τ).loc main_arg0)
abbrev x1 (c : Dev nD) : Vec Ideal S4x3x1024 .f32 := m ((c : Thread nD τ).loc main_arg1)
abbrev x2 (c : Dev nD) : Vec Ideal S4x1024 .f32 := m ((c : Thread nD τ).loc main_arg2)
abbrev x3 (c : Dev nD) : Vec Ideal S4x1024 .f32 := m ((c : Thread nD τ).loc main_arg3)
abbrev x4 (c : Dev nD) : Vec Ideal S1024 .f32 := m ((c : Thread nD τ).loc main_arg4)
abbrev x5 (c : Dev nD) : Vec Ideal S8x128x128 .f32 := m ((c : Thread nD τ).loc main_arg5)
abbrev x6 (c : Dev nD) : Vec Ideal S8x128 .f32 := m ((c : Thread nD τ).loc main_arg6)
abbrev x7 (c : Dev nD) : Vec Ideal S8x128x128 .f32 := m ((c : Thread nD τ).loc main_arg7)
abbrev x8 (c : Dev nD) : Vec Ideal S8x128 .f32 := m ((c : Thread nD τ).loc main_arg8)
abbrev x9 (c : Dev nD) : Vec Ideal S1024 .f32 := m ((c : Thread nD τ).loc main_arg9)

/-- The inputs of a list of arrays. -/
def mkIn (x0 : S8192x2048.Idx → EReal) (x1 : S4x3x1024.Idx → EReal) (x2 x3 : S4x1024.Idx → EReal) (x4 : S1024.Idx → EReal) (x5 : S8x128x128.Idx → EReal)
    (x6 : S8x128.Idx → EReal) (x7 : S8x128x128.Idx → EReal) (x8 : S8x128.Idx → EReal) (x9 : S1024.Idx → EReal) : In where
  ug r k := x0 (ix2 r k)
  buf b s j := x1 (ix3 b s j)
  h0 b j := x2 (ix2 b j)
  cw k j := x3 (ix2 k j)
  cb j := x4 (ix1 j)
  gaw h x q := x5 (ix3 h x q)
  gab h q := x6 (ix2 h q)
  gxw h x q := x7 (ix3 h x q)
  gxb h q := x8 (ix2 h q)
  lam j := x9 (ix1 j)

/-- The launch's inputs. -/
def inp (c : Dev nD) : In := mkIn (x0 m c) (x1 m c) (x2 m c) (x3 m c) (x4 m c) (x5 m c) (x6 m c) (x7 m c) (x8 m c) (x9 m c)

theorem main_v0_apply (c : Dev nD) (k : Fin 4) (j : Fin 1024) : (V m c main_v0 : Vec Ideal S1x4x1024 .f32) (ix3 0 k j) = x3 m c (ix2 k j) := by
  have e : (V m c main_v0 : Vec Ideal S1x4x1024 .f32) = broadcastInDim S1x4x1024 ![1, 2] bcast_S4x1024_S1x4x1024_1_2 (x3 m c) := by
    unfold V hostOps0
    after_results <;> rfl
  rw [e]
  pointwise

theorem main_v1_apply (c : Dev nD) (j : Fin 1024) : (V m c main_v1 : Vec Ideal S1x1x1024 .f32) (ix3 0 0 j) = x4 m c (ix1 j) := by
  have e : (V m c main_v1 : Vec Ideal S1x1x1024 .f32) = shapeCast S1x1x1024 (x4 m c) shapeCasts_S1024_S1x1x1024 := by
    unfold V hostOps0
    after_results <;> rfl
  rw [e]
  pointwise

theorem main_v8_apply (c : Dev nD) (j : Fin 1024) : (V m c main_v8 : Vec Ideal S1x1x1024 .f32) (ix3 0 0 j) = x9 m c (ix1 j) := by
  have e : (V m c main_v8 : Vec Ideal S1x1x1024 .f32) = shapeCast S1x1x1024 (x9 m c) shapeCasts_S1024_S1x1x1024 := by
    unfold V hostOps0
    after_results <;> rfl
  rw [e]
  pointwise

theorem main_v4_apply (c : Dev nD) (j : Fin 1024) : (V m c main_v4 : Vec Ideal S1x1x1024 .f32) (ix3 0 0 j) = x6 m c (ix2 ⟨j.val / 128, by omega⟩ ⟨j.val % 128, by omega⟩) := by
  have e : (V m c main_v4 : Vec Ideal S1x1x1024 .f32) = shapeCast S1x1x1024 (x6 m c) shapeCasts_S8x128_S1x1x1024 := by
    unfold V hostOps0
    after_results <;> rfl
  rw [e]
  pointwise

theorem main_v7_apply (c : Dev nD) (j : Fin 1024) : (V m c main_v7 : Vec Ideal S1x1x1024 .f32) (ix3 0 0 j) = x8 m c (ix2 ⟨j.val / 128, by omega⟩ ⟨j.val % 128, by omega⟩) := by
  have e : (V m c main_v7 : Vec Ideal S1x1x1024 .f32) = shapeCast S1x1x1024 (x8 m c) shapeCasts_S8x128_S1x1x1024 := by
    unfold V hostOps0
    after_results <;> rfl
  rw [e]
  pointwise

theorem main_v3_apply (c : Dev nD) (h : Fin 8) (x q : Fin 128) : (V m c main_v3 : Vec Ideal S1x8x128x128 .bf16) (ix4 0 h x q) = x5 m c (ix3 h x q) := by
  have e : (V m c main_v3 : Vec Ideal S1x8x128x128 .bf16) = (truncf .bf16 (broadcastInDim S1x8x128x128 ![1, 2, 3] bcast_S8x128x128_S1x8x128x128_1_2_3 (x5 m c) : FVec Ideal S1x8x128x128 .f32) bitsLt_bf16_f32 : FVec Ideal S1x8x128x128 .bf16) := by
    unfold V hostOps0
    after_results <;> rfl
  rw [e]
  pointwise

theorem main_v6_apply (c : Dev nD) (h : Fin 8) (x q : Fin 128) : (V m c main_v6 : Vec Ideal S1x8x128x128 .bf16) (ix4 0 h x q) = x7 m c (ix3 h x q) := by
  have e : (V m c main_v6 : Vec Ideal S1x8x128x128 .bf16) = (truncf .bf16 (broadcastInDim S1x8x128x128 ![1, 2, 3] bcast_S8x128x128_S1x8x128x128_1_2_3 (x7 m c) : FVec Ideal S1x8x128x128 .f32) bitsLt_bf16_f32 : FVec Ideal S1x8x128x128 .bf16) := by
    unfold V hostOps0
    after_results <;> rfl
  rw [e]
  pointwise

theorem main_v9_apply (c : Dev nD) (b : Fin 4) (j : Fin 1024) : (V m c main_v9 : Vec Ideal S4x1x1024 .f32) (ix3 b 0 j) = x2 m c (ix2 b j) := by
  have e : (V m c main_v9 : Vec Ideal S4x1x1024 .f32) = broadcastInDim S4x1x1024 ![0, 2] bcast_S4x1024_S4x1x1024_0_2 (x2 m c) := by
    unfold V hostOps0
    after_results <;> rfl
  rw [e]
  pointwise

theorem idx0 : ∀ t : Fin cfg0.N, win0_0.index t 0 = t.val ∧ win0_0.index t 1 = 0 :=
  (by decide +kernel : ∀ t : Fin grid0.N, _)

theorem blk0 (c : Dev nD) (t : Fin cfg0.N) (r : Fin 256) (j : Fin 1024) (R : Fin 8192) (hR : R.val = 256 * t.val + r.val) (J : Fin 2048) (hJ : J.val = j.val) :
    (iblk m c 0 t : Vec Ideal S256x1024 .f32) (ix2 r j) = x0 m c (ix2 R J) := by
  rw [show x0 m c = V m c main_arg0 from (V_main_arg0 m c).symm]
  unfold iblk
  rw [View.read_apply]
  show V m c main_arg0 _ = V m c main_arg0 _
  congr 1
  funext a
  apply Fin.ext
  match a with
  | ⟨0, _⟩ => show win0_0.index t 0 * 256 + 1 * r.val = R.val; rw [(idx0 t).1] <;> omega
  | ⟨1, _⟩ => show win0_0.index t 1 * 1024 + 1 * j.val = J.val; rw [(idx0 t).2] <;> omega

theorem idx1 : ∀ t : Fin cfg0.N, win0_1.index t 0 = t.val ∧ win0_1.index t 1 = 1 :=
  (by decide +kernel : ∀ t : Fin grid0.N, _)

theorem blk1 (c : Dev nD) (t : Fin cfg0.N) (r : Fin 256) (j : Fin 1024) (R : Fin 8192) (hR : R.val = 256 * t.val + r.val) (J : Fin 2048) (hJ : J.val = 1024 + j.val) :
    (iblk m c 1 t : Vec Ideal S256x1024 .f32) (ix2 r j) = x0 m c (ix2 R J) := by
  rw [show x0 m c = V m c main_arg0 from (V_main_arg0 m c).symm]
  unfold iblk
  rw [View.read_apply]
  show V m c main_arg0 _ = V m c main_arg0 _
  congr 1
  funext a
  apply Fin.ext
  match a with
  | ⟨0, _⟩ => show win0_1.index t 0 * 256 + 1 * r.val = R.val; rw [(idx1 t).1] <;> omega
  | ⟨1, _⟩ => show win0_1.index t 1 * 1024 + 1 * j.val = J.val; rw [(idx1 t).2] <;> omega

theorem idx2 : ∀ t : Fin cfg0.N, win0_2.index t 0 = t.val / 8 ∧ win0_2.index t 1 = 0 ∧ win0_2.index t 2 = 0 :=
  (by decide +kernel : ∀ t : Fin grid0.N, _)

theorem blk2 (c : Dev nD) (t : Fin cfg0.N) (b : Fin 4) (hb : b.val = t.val / 8) (s : Fin 3) (j : Fin 1024) :
    (iblk m c 2 t : Vec Ideal S1x3x1024 .f32) (ix3 0 s j) = x1 m c (ix3 b s j) := by
  rw [show x1 m c = V m c main_arg1 from (V_main_arg1 m c).symm]
  unfold iblk
  rw [View.read_apply]
  show V m c main_arg1 _ = V m c main_arg1 _
  congr 1
  funext a
  apply Fin.ext
  match a with
  | ⟨0, _⟩ => show win0_2.index t 0 * 1 + 1 * 0 = b.val; rw [(idx2 t).1] <;> omega
  | ⟨1, _⟩ => show win0_2.index t 1 * 3 + 1 * s.val = s.val; rw [(idx2 t).2.1] <;> omega
  | ⟨2, _⟩ => show win0_2.index t 2 * 1024 + 1 * j.val = j.val; rw [(idx2 t).2.2] <;> omega

theorem idx3 : ∀ t : Fin cfg0.N, win0_3.index t 0 = t.val / 8 ∧ win0_3.index t 1 = 0 ∧ win0_3.index t 2 = 0 :=
  (by decide +kernel : ∀ t : Fin grid0.N, _)

theorem blk3 (c : Dev nD) (t : Fin cfg0.N) (b : Fin 4) (hb : b.val = t.val / 8) (j : Fin 1024) :
    (iblk m c 3 t : Vec Ideal S1x1x1024 .f32) (ix3 0 0 j) = x2 m c (ix2 b j) := by
  rw [← main_v9_apply]
  unfold iblk
  rw [View.read_apply]
  show V m c main_v9 _ = V m c main_v9 _
  congr 1
  funext a
  apply Fin.ext
  match a with
  | ⟨0, _⟩ => show win0_3.index t 0 * 1 + 1 * 0 = b.val; rw [(idx3 t).1] <;> omega
  | ⟨1, _⟩ => show win0_3.index t 1 * 1 + 1 * 0 = 0; rw [(idx3 t).2.1] <;> omega
  | ⟨2, _⟩ => show win0_3.index t 2 * 1024 + 1 * j.val = j.val; rw [(idx3 t).2.2] <;> omega

theorem idx4 : ∀ t : Fin cfg0.N, win0_4.index t 0 = 0 ∧ win0_4.index t 1 = 0 ∧ win0_4.index t 2 = 0 :=
  (by decide +kernel : ∀ t : Fin grid0.N, _)

theorem blk4 (c : Dev nD) (t : Fin cfg0.N) (k : Fin 4) (j : Fin 1024) :
    (iblk m c 4 t : Vec Ideal S1x4x1024 .f32) (ix3 0 k j) = x3 m c (ix2 k j) := by
  rw [← main_v0_apply]
  unfold iblk
  rw [View.read_apply]
  show V m c main_v0 _ = V m c main_v0 _
  congr 1
  funext a
  apply Fin.ext
  match a with
  | ⟨0, _⟩ => show win0_4.index t 0 * 1 + 1 * 0 = 0; rw [(idx4 t).1] <;> omega
  | ⟨1, _⟩ => show win0_4.index t 1 * 4 + 1 * k.val = k.val; rw [(idx4 t).2.1] <;> omega
  | ⟨2, _⟩ => show win0_4.index t 2 * 1024 + 1 * j.val = j.val; rw [(idx4 t).2.2] <;> omega

theorem idx5 : ∀ t : Fin cfg0.N, win0_5.index t 0 = 0 ∧ win0_5.index t 1 = 0 ∧ win0_5.index t 2 = 0 :=
  (by decide +kernel : ∀ t : Fin grid0.N, _)

theorem blk5 (c : Dev nD) (t : Fin cfg0.N) (j : Fin 1024) :
    (iblk m c 5 t : Vec Ideal S1x1x1024 .f32) (ix3 0 0 j) = x4 m c (ix1 j) := by
  rw [← main_v1_apply]
  unfold iblk
  rw [View.read_apply]
  show V m c main_v1 _ = V m c main_v1 _
  congr 1
  funext a
  apply Fin.ext
  match a with
  | ⟨0, _⟩ => show win0_5.index t 0 * 1 + 1 * 0 = 0; rw [(idx5 t).1] <;> omega
  | ⟨1, _⟩ => show win0_5.index t 1 * 1 + 1 * 0 = 0; rw [(idx5 t).2.1] <;> omega
  | ⟨2, _⟩ => show win0_5.index t 2 * 1024 + 1 * j.val = j.val; rw [(idx5 t).2.2] <;> omega

theorem idx7 : ∀ t : Fin cfg0.N, win0_7.index t 0 = 0 ∧ win0_7.index t 1 = 0 ∧ win0_7.index t 2 = 0 :=
  (by decide +kernel : ∀ t : Fin grid0.N, _)

theorem blk7 (c : Dev nD) (t : Fin cfg0.N) (j : Fin 1024) :
    (iblk m c 7 t : Vec Ideal S1x1x1024 .f32) (ix3 0 0 j) = x6 m c (ix2 ⟨j.val / 128, by omega⟩ ⟨j.val % 128, by omega⟩) := by
  rw [← main_v4_apply]
  unfold iblk
  rw [View.read_apply]
  show V m c main_v4 _ = V m c main_v4 _
  congr 1
  funext a
  apply Fin.ext
  match a with
  | ⟨0, _⟩ => show win0_7.index t 0 * 1 + 1 * 0 = 0; rw [(idx7 t).1] <;> omega
  | ⟨1, _⟩ => show win0_7.index t 1 * 1 + 1 * 0 = 0; rw [(idx7 t).2.1] <;> omega
  | ⟨2, _⟩ => show win0_7.index t 2 * 1024 + 1 * j.val = j.val; rw [(idx7 t).2.2] <;> omega

theorem idx9 : ∀ t : Fin cfg0.N, win0_9.index t 0 = 0 ∧ win0_9.index t 1 = 0 ∧ win0_9.index t 2 = 0 :=
  (by decide +kernel : ∀ t : Fin grid0.N, _)

theorem blk9 (c : Dev nD) (t : Fin cfg0.N) (j : Fin 1024) :
    (iblk m c 9 t : Vec Ideal S1x1x1024 .f32) (ix3 0 0 j) = x8 m c (ix2 ⟨j.val / 128, by omega⟩ ⟨j.val % 128, by omega⟩) := by
  rw [← main_v7_apply]
  unfold iblk
  rw [View.read_apply]
  show V m c main_v7 _ = V m c main_v7 _
  congr 1
  funext a
  apply Fin.ext
  match a with
  | ⟨0, _⟩ => show win0_9.index t 0 * 1 + 1 * 0 = 0; rw [(idx9 t).1] <;> omega
  | ⟨1, _⟩ => show win0_9.index t 1 * 1 + 1 * 0 = 0; rw [(idx9 t).2.1] <;> omega
  | ⟨2, _⟩ => show win0_9.index t 2 * 1024 + 1 * j.val = j.val; rw [(idx9 t).2.2] <;> omega

theorem idx10 : ∀ t : Fin cfg0.N, win0_10.index t 0 = 0 ∧ win0_10.index t 1 = 0 ∧ win0_10.index t 2 = 0 :=
  (by decide +kernel : ∀ t : Fin grid0.N, _)

theorem blk10 (c : Dev nD) (t : Fin cfg0.N) (j : Fin 1024) :
    (iblk m c 10 t : Vec Ideal S1x1x1024 .f32) (ix3 0 0 j) = x9 m c (ix1 j) := by
  rw [← main_v8_apply]
  unfold iblk
  rw [View.read_apply]
  show V m c main_v8 _ = V m c main_v8 _
  congr 1
  funext a
  apply Fin.ext
  match a with
  | ⟨0, _⟩ => show win0_10.index t 0 * 1 + 1 * 0 = 0; rw [(idx10 t).1] <;> omega
  | ⟨1, _⟩ => show win0_10.index t 1 * 1 + 1 * 0 = 0; rw [(idx10 t).2.1] <;> omega
  | ⟨2, _⟩ => show win0_10.index t 2 * 1024 + 1 * j.val = j.val; rw [(idx10 t).2.2] <;> omega

theorem idx6 : ∀ t : Fin cfg0.N, win0_6.index t 0 = 0 ∧ win0_6.index t 1 = 0 ∧ win0_6.index t 2 = 0 ∧ win0_6.index t 3 = 0 :=
  (by decide +kernel : ∀ t : Fin grid0.N, _)

theorem blk6 (c : Dev nD) (t : Fin cfg0.N) (h : Fin 8) (x q : Fin 128) :
    (iblk m c 6 t : Vec Ideal S1x8x128x128 .bf16) (ix4 0 h x q) = x5 m c (ix3 h x q) := by
  rw [← main_v3_apply]
  unfold iblk
  rw [View.read_apply]
  show V m c main_v3 _ = V m c main_v3 _
  congr 1
  funext a
  apply Fin.ext
  match a with
  | ⟨0, _⟩ => show win0_6.index t 0 * 1 + 1 * 0 = 0; rw [(idx6 t).1] <;> omega
  | ⟨1, _⟩ => show win0_6.index t 1 * 8 + 1 * h.val = h.val; rw [(idx6 t).2.1] <;> omega
  | ⟨2, _⟩ => show win0_6.index t 2 * 128 + 1 * x.val = x.val; rw [(idx6 t).2.2.1] <;> omega
  | ⟨3, _⟩ => show win0_6.index t 3 * 128 + 1 * q.val = q.val; rw [(idx6 t).2.2.2] <;> omega

theorem idx8 : ∀ t : Fin cfg0.N, win0_8.index t 0 = 0 ∧ win0_8.index t 1 = 0 ∧ win0_8.index t 2 = 0 ∧ win0_8.index t 3 = 0 :=
  (by decide +kernel : ∀ t : Fin grid0.N, _)

theorem blk8 (c : Dev nD) (t : Fin cfg0.N) (h : Fin 8) (x q : Fin 128) :
    (iblk m c 8 t : Vec Ideal S1x8x128x128 .bf16) (ix4 0 h x q) = x7 m c (ix3 h x q) := by
  rw [← main_v6_apply]
  unfold iblk
  rw [View.read_apply]
  show V m c main_v6 _ = V m c main_v6 _
  congr 1
  funext a
  apply Fin.ext
  match a with
  | ⟨0, _⟩ => show win0_8.index t 0 * 1 + 1 * 0 = 0; rw [(idx8 t).1] <;> omega
  | ⟨1, _⟩ => show win0_8.index t 1 * 8 + 1 * h.val = h.val; rw [(idx8 t).2.1] <;> omega
  | ⟨2, _⟩ => show win0_8.index t 2 * 128 + 1 * x.val = x.val; rw [(idx8 t).2.2.1] <;> omega
  | ⟨3, _⟩ => show win0_8.index t 3 * 128 + 1 * q.val = q.val; rw [(idx8 t).2.2.2] <;> omega

/-! ## The buffer of rows -/

theorem put8_apply (X : Vec Ideal S264x1024 .f32) (w : Vec Ideal S256x1024 .f32) (r : Fin 264) (j : Fin 1024) :
    put8 X w (ix2 r j) = if h : 8 ≤ r.val then w (ix2 ⟨r.val - 8, by omega⟩ j) else X (ix2 r j) := by
  unfold put8
  by_cases h : 8 ≤ r.val
  · rw [dif_pos h]
    refine (dif_pos (show 8 ≤ r.val ∧ r.val < 8 + 256 by omega)).trans ?_
    refine congrArg w (funext fun a => Fin.ext ?_)
    match a with
    | ⟨0, _⟩ => rfl
    | ⟨1, _⟩ => show j.val - 0 = j.val; omega
  · rw [dif_neg h]
    refine (dif_neg (show ¬(8 ≤ r.val ∧ r.val < 8 + 256) by omega)).trans rfl

theorem put5_apply (X : Vec Ideal S264x1024 .f32) (w : Vec Ideal S3x1024 .f32) (r : Fin 264) (j : Fin 1024) :
    put5 X w (ix2 r j) = if h : 5 ≤ r.val ∧ r.val < 8 then w (ix2 ⟨r.val - 5, by omega⟩ j) else X (ix2 r j) := by
  unfold put5
  by_cases h : 5 ≤ r.val ∧ r.val < 8
  · rw [dif_pos h]
    refine (dif_pos (show 5 ≤ r.val ∧ r.val < 5 + 3 by omega)).trans ?_
    refine congrArg w (funext fun a => Fin.ext ?_)
    match a with
    | ⟨0, _⟩ => rfl
    | ⟨1, _⟩ => show j.val - 0 = j.val; omega
  · rw [dif_neg h]
    refine (dif_neg (show ¬(5 ≤ r.val ∧ r.val < 5 + 3) by omega)).trans rfl

theorem pay3_apply (v : Vec Ideal S1x3x1024 .f32) (s : Fin 3) (j : Fin 1024) : k0_pay3 v (ix2 s j) = v (ix3 0 s j) := by
  unfold_payloads
  pointwise
theorem pay4_apply (v : Vec Ideal S1x1x1024 .f32) (j : Fin 1024) : k0_pay4 v (ix2 0 j) = v (ix3 0 0 j) := by
  unfold_payloads
  pointwise
theorem pay5_apply (v : Vec Ideal S256x1024 .f32) (r : Fin 256) (j : Fin 1024) : k0_pay5 v (ix2 r j) = v (ix2 r j) := by
  unfold_payloads
  pointwise
theorem pay8_apply (v : Vec Ideal S3x1024 .f32) (s : Fin 3) (j : Fin 1024) : k0_pay8 v (ix2 s j) = v (ix2 s j) := by
  unfold_payloads
  pointwise
theorem pay40_apply (v : Vec Ideal S1x1024 .f32) (j : Fin 1024) : k0_pay40 v (ix2 0 j) = v (ix2 0 j) := by
  unfold_payloads
  pointwise
theorem pay2_apply (v : Vec Ideal S1x1024 .f32) (j : Fin 1024) : k0_pay2 v (ix3 0 0 j) = v (ix2 0 j) := by
  unfold_payloads
  pointwise

theorem rowsEnd_apply (v : Vec Ideal S264x1024 .f32) (r : Fin 264) (h5 : 5 ≤ r.val) (h8 : r.val < 8) (j : Fin 1024) :
    rowsEnd v (ix2 r j) = v (ix2 ⟨r.val + 256, by omega⟩ j) := by
  unfold rowsEnd
  rw [put5_apply, dif_pos ⟨h5, h8⟩, pay8_apply]
  refine congrArg v (funext fun a => Fin.ext ?_)
  match a with
  | ⟨0, _⟩ => show 261 + 1 * (r.val - 5) = r.val + 256; omega
  | ⟨1, _⟩ => show 0 + 1 * j.val = j.val; omega

theorem rowsB_apply (x2 : Vec Ideal S256x1024 .f32) (v : Vec Ideal S264x1024 .f32) (r : Fin 264) (j : Fin 1024) :
    rowsB x2 v (ix2 r j) = if h : 8 ≤ r.val then x2 (ix2 ⟨r.val - 8, by omega⟩ j) else v (ix2 r j) := by
  unfold rowsB
  rw [put8_apply]
  split
  · rw [pay5_apply]
  · rfl

theorem rowsA_apply (x2 : Vec Ideal S256x1024 .f32) (x4 : Vec Ideal S1x3x1024 .f32) (v : Vec Ideal S264x1024 .f32) (r : Fin 264) (h5 : 5 ≤ r.val) (j : Fin 1024) :
    rowsA x2 x4 v (ix2 r j) = if h : 8 ≤ r.val then x2 (ix2 ⟨r.val - 8, by omega⟩ j) else x4 (ix3 0 ⟨r.val - 5, by omega⟩ j) := by
  unfold rowsA
  rw [put8_apply]
  by_cases h : 8 ≤ r.val
  · rw [dif_pos h, dif_pos h, pay5_apply]
  · rw [dif_neg h, dif_neg h, put5_apply, dif_pos ⟨h5, by omega⟩, pay3_apply]

/-! ## A block of the recurrence -/

/-- The rows of the buffer from row 5 on, given that they are the sequence's from row `256 q` of the padded sequence on. -/
def RowsOk (I : In) (b : Fin 4) (q : ℕ) (v : Vec Ideal S264x1024 .f32) : Prop :=
  ∀ (r : Fin 264), 5 ≤ r.val → ∀ j : Fin 1024, v (ix2 r j) = I.full b (256 * q + r.val - 5) j

section block
variable (I : In) (b : Fin 4) (q : ℕ) (v : Vec Ideal S264x1024 .f32) (hv : RowsOk I b q v)
  (w4 : Vec Ideal S1x4x1024 .f32) (w5 : Vec Ideal S1x1x1024 .f32) (w6 : Vec Ideal S1x8x128x128 .bf16) (w7 : Vec Ideal S1x1x1024 .f32) (w8 : Vec Ideal S1x8x128x128 .bf16)
  (w9 w10 : Vec Ideal S1x1x1024 .f32)
  (h4 : ∀ k j, w4 (ix3 0 k j) = I.cw k j) (h5 : ∀ j, w5 (ix3 0 0 j) = I.cb j) (h6 : ∀ h x p, w6 (ix4 0 h x p) = I.gaw h x p)
  (h7 : ∀ j : Fin 1024, w7 (ix3 0 0 j) = I.gab ⟨j.val / 128, by omega⟩ ⟨j.val % 128, by omega⟩) (h8 : ∀ h x p, w8 (ix4 0 h x p) = I.gxw h x p)
  (h9 : ∀ j : Fin 1024, w9 (ix3 0 0 j) = I.gxb ⟨j.val / 128, by omega⟩ ⟨j.val % 128, by omega⟩) (h10 : ∀ j, w10 (ix3 0 0 j) = I.lam j)
include hv h4 h5 h6 h7 h8 h9 h10

theorem uc_eq (i : Fin 256) (j : Fin 1024) : ucV v w4 w5 (ix2 i j) = I.uc b (256 * q + i.val) j := by
  rw [ucV_apply, h4, h4, h4, h4, h5, hv _ (show 5 ≤ 5 + i.val by omega), hv _ (show 5 ≤ 6 + i.val by omega), hv _ (show 5 ≤ 7 + i.val by omega), hv _ (show 5 ≤ 8 + i.val by omega)]
  have e0 : 256 * q + (5 + i.val) - 5 = 256 * q + i.val := by omega
  have e1 : 256 * q + (6 + i.val) - 5 = 256 * q + i.val + 1 := by omega
  have e2 : 256 * q + (7 + i.val) - 5 = 256 * q + i.val + 2 := by omega
  have e3 : 256 * q + (8 + i.val) - 5 = 256 * q + i.val + 3 := by omega
  rw [e0, e1, e2, e3]
  rfl

theorem r_eq (i : Fin 256) (j : Fin 1024) : rV v w4 w5 w6 w7 w8 w9 w10 (ix2 i j) = I.gr b (256 * q + i.val) j := by
  rw [rV_eq, gateV_apply, h7]
  unfold In.gr
  congr 2
  exact congrArg₂ (fun u w => gsum u w j) (funext fun x => (ucbV_apply v w4 w5 i x).trans (uc_eq I b q v hv w4 w5 w6 w7 w8 w9 w10 h4 h5 h6 h7 h8 h9 h10 i x)) (funext fun h => funext fun x => funext fun p => h6 h x p)

theorem i_eq (i : Fin 256) (j : Fin 1024) : igV v w4 w5 w6 w7 w8 w9 w10 (ix2 i j) = I.gi b (256 * q + i.val) j := by
  rw [igV_eq, gateV_apply, h9]
  unfold In.gi
  congr 2
  exact congrArg₂ (fun u w => gsum u w j) (funext fun x => (ucbV_apply v w4 w5 i x).trans (uc_eq I b q v hv w4 w5 w6 w7 w8 w9 w10 h4 h5 h6 h7 h8 h9 h10 i x)) (funext fun h => funext fun x => funext fun p => h8 h x p)

theorem end_eq (h0 : Vec Ideal S1x1024 .f32) (e0 : ∀ j, h0 (ix2 0 j) = I.H b (256 * q) j) :
    (∀ j, (endV v w4 w5 w6 w7 w8 w9 w10 h0).1 (ix2 0 j) = I.H b (256 * q + 256) j)
      ∧ ∀ (i : Fin 256) j, (endV v w4 w5 w6 w7 w8 w9 w10 h0).2 (ix2 i j) = I.H b (256 * q + i.val + 1) j := by
  have hs := stV_apply (aV v w4 w5 w6 w7 w8 w9 w10) (bV v w4 w5 w6 w7 w8 w9 w10) h0 (fun n j => I.H b (256 * q + n) j) e0 (by
    intro i j
    show I.a b (256 * q + i.val) j * I.H b (256 * q + i.val) j + I.ad b (256 * q + i.val) j = _
    have ea : aV v w4 w5 w6 w7 w8 w9 w10 (ix2 i j) = I.a b (256 * q + i.val) j := by
      unfold aV
      rw [pay36_apply, r_eq I b q v hv w4 w5 w6 w7 w8 w9 w10 h4 h5 h6 h7 h8 h9 h10, h10]
      rfl
    have eb : bV v w4 w5 w6 w7 w8 w9 w10 (ix2 i j) = I.ad b (256 * q + i.val) j := by
      unfold bV
      rw [pay37_apply, r_eq I b q v hv w4 w5 w6 w7 w8 w9 w10 h4 h5 h6 h7 h8 h9 h10, i_eq I b q v hv w4 w5 w6 w7 w8 w9 w10 h4 h5 h6 h7 h8 h9 h10, uc_eq I b q v hv w4 w5 w6 w7 w8 w9 w10 h4 h5 h6 h7 h8 h9 h10, h10]
      rfl
    rw [ea, eb]) 256 le_rfl
  refine ⟨hs.1, fun i j => ?_⟩
  have h := hs.2 i j
  rw [if_pos i.isLt] at h
  exact h

end block

/-! ## Point by point -/

theorem first_rows (c : Dev nD) (t : Fin cfg0.N) (b : Fin 4) (hb : b.val = t.val / 8) (h : t.val % 8 = 0) (x15 : Vec Ideal S264x1024 .f32) :
    RowsOk (inp m c) b (t.val % 8) (rowsA (iblk m c 0 t) (iblk m c 2 t) x15) := by
  intro r hr j
  have hN : t.val < 32 := lt_of_lt_of_eq t.isLt N_0
  rw [rowsA_apply _ _ _ _ hr]
  unfold In.full
  by_cases h8 : 8 ≤ r.val
  · rw [dif_pos h8, dif_neg (by omega)]
    exact blk0 m c t _ j _ (by show (2048 * b.val + (256 * (t.val % 8) + r.val - 5 - 3)) % 8192 = 256 * t.val + (r.val - 8); omega) _ rfl
  · rw [dif_neg h8, dif_pos (show 256 * (t.val % 8) + r.val - 5 < 3 by omega)]
    have es : (⟨256 * (t.val % 8) + r.val - 5, by omega⟩ : Fin 3) = ⟨r.val - 5, by omega⟩ := Fin.ext (by show 256 * (t.val % 8) + r.val - 5 = r.val - 5; omega)
    rw [es]
    exact blk2 m c t b hb _ j

theorem later_rows (c : Dev nD) (t : Fin cfg0.N) (b : Fin 4) (hb : b.val = t.val / 8) (h : ¬t.val % 8 = 0) (v : Vec Ideal S264x1024 .f32)
    (hv : RowsOk (inp m c) b (t.val % 8 - 1) v) :
    RowsOk (inp m c) b (t.val % 8) (rowsB (iblk m c 0 t) (rowsEnd v)) := by
  intro r hr j
  have hN : t.val < 32 := lt_of_lt_of_eq t.isLt N_0
  rw [rowsB_apply]
  by_cases h8 : 8 ≤ r.val
  · rw [dif_pos h8]
    unfold In.full
    rw [dif_neg (by omega)]
    exact blk0 m c t _ j _ (by show (2048 * b.val + (256 * (t.val % 8) + r.val - 5 - 3)) % 8192 = 256 * t.val + (r.val - 8); omega) _ rfl
  · rw [dif_neg h8, rowsEnd_apply _ _ hr (by omega), hv _ (show 5 ≤ r.val + 256 by omega)]
    congr 1
    show 256 * (t.val % 8 - 1) + (r.val + 256) - 5 = 256 * (t.val % 8) + r.val - 5
    omega

/-- What a point leaves: the rows, the state after its rows, the state at each of them. -/
def Ok (c : Dev nD) (t : ℕ) (b : Fin 4) (s : Vec Ideal S264x1024 .f32 × Vec Ideal S1x1024 .f32 × Vec Ideal S256x1024 .f32) : Prop :=
  RowsOk (inp m c) b (t % 8) s.1 ∧ (∀ j, s.2.1 (ix2 0 j) = (inp m c).H b (256 * (t % 8) + 256) j)
    ∧ ∀ (i : Fin 256) j, s.2.2 (ix2 i j) = (inp m c).H b (256 * (t % 8) + i.val + 1) j

theorem stAt_ok (c : Dev nD) (n : ℕ) (hn : n < cfg0.N) (b : Fin 4) (hb : b.val = n / 8) : Ok m c n b (stAt m c n hn) := by
  induction n with
  | zero =>
    obtain ⟨x15, e⟩ := stAt_first m c ⟨0, hn⟩ rfl
    have e' : stAt m c 0 hn = _ := e
    rw [e']
    have hr := first_rows m c ⟨0, hn⟩ b hb rfl x15
    refine ⟨hr, ?_⟩
    exact end_eq (inp m c) b _ _ hr _ _ _ _ _ _ _ (fun k j => blk4 m c _ k j) (fun j => blk5 m c _ j) (fun h x p => blk6 m c _ h x p) (fun j => blk7 m c _ j) (fun h x p => blk8 m c _ h x p) (fun j => blk9 m c _ j) (fun j => blk10 m c _ j) _ (fun j => by
      rw [pay4_apply]; exact blk3 m c _ b hb j)
  | succ n ih =>
    have hN : n + 1 < 32 := lt_of_lt_of_eq hn N_0
    by_cases h : (n + 1) % 8 = 0
    · obtain ⟨x15, e⟩ := stAt_first m c ⟨n + 1, hn⟩ h
      have e' : stAt m c (n + 1) hn = _ := e
      rw [e']
      have hr := first_rows m c ⟨n + 1, hn⟩ b hb h x15
      refine ⟨hr, ?_⟩
      exact end_eq (inp m c) b _ _ hr _ _ _ _ _ _ _ (fun k j => blk4 m c _ k j) (fun j => blk5 m c _ j) (fun h x p => blk6 m c _ h x p) (fun j => blk7 m c _ j) (fun h x p => blk8 m c _ h x p) (fun j => blk9 m c _ j) (fun j => blk10 m c _ j) _ (fun j => by
        rw [pay4_apply, show 256 * ((n + 1) % 8) = 0 from by omega]; exact blk3 m c _ b hb j)
    · have e : stAt m c (n + 1) hn = _ := stAt_later m c ⟨n + 1, hn⟩ h
      obtain ⟨i1, i2, i3⟩ := ih (Nat.lt_of_succ_lt hn) (by omega)
      have hq : n % 8 = (n + 1) % 8 - 1 := by omega
      rw [hq] at i1
      have hr := later_rows m c ⟨n + 1, hn⟩ b hb h _ i1
      rw [e]
      refine ⟨hr, ?_⟩
      exact end_eq (inp m c) b _ _ hr _ _ _ _ _ _ _ (fun k j => blk4 m c _ k j) (fun j => blk5 m c _ j) (fun h x p => blk6 m c _ h x p) (fun j => blk7 m c _ j) (fun h x p => blk8 m c _ h x p) (fun j => blk9 m c _ j) (fun j => blk10 m c _ j) _ (fun j => by
        rw [pay40_apply]
        refine (i2 j).trans ?_
        congr 1
        show 256 * (n % 8) + 256 = 256 * ((n + 1) % 8)
        omega)

/-! ## The arrays after the run -/

/-- The states at every row, times the activated gate. -/
def outY (I : In) : S8192x1024.Idx → EReal := fun i =>
  I.H ⟨(i 0).val / 2048, by have h : (i 0).val < 8192 := (i 0).isLt; omega⟩ ((i 0).val % 2048 + 1) (i 1)
    * I.gl ⟨(i 0).val / 2048, by have h : (i 0).val < 8192 := (i 0).isLt; omega⟩ ((i 0).val % 2048) (i 1)
/-- The state after the sequence. -/
def outH (I : In) : S4x1x1024.Idx → EReal := fun i => I.H (i 0) 2048 (i 2)

theorem idx11 : ∀ t : Fin cfg0.N, win0_11.index t 0 = t.val ∧ win0_11.index t 1 = 0 :=
  (by decide +kernel : ∀ t : Fin grid0.N, _)
theorem idx12 : ∀ t : Fin cfg0.N, win0_12.index t 0 = t.val / 8 ∧ win0_12.index t 1 = 0 ∧ win0_12.index t 2 = 0 :=
  (by decide +kernel : ∀ t : Fin grid0.N, _)

theorem flushed11 (c : Dev nD) (t : Fin cfg0.N) :
    (dats m 0 c).flushed 11 t = ((cfg0.win 11).blk t).view.read (Elt Ideal) (outY (inp m c) : Buf (Elt Ideal) ((c : Thread nD τ).loc main_v10_0)) := by
  show (cfg0.win 11).cut (grid0.coords t) ((dats m 0 c).after 11 t) = _
  rw [after0_11]
  have hN : t.val < 32 := lt_of_lt_of_eq t.isLt N_0
  funext y
  have hy0 : (y 0).val < 256 := (y 0).isLt
  have hy1 : (y 1).val < 1024 := (y 1).isLt
  obtain ⟨d0, d1⟩ := idx11 t
  have hx : (cfg0.win 11).xinj (grid0.coords t) y = (ix2 ⟨(y 0).val, hy0⟩ ⟨(y 1).val, hy1⟩ : S256x1024.Idx) := by
    funext a; apply Fin.ext
    match a with
    | ⟨0, _⟩ => rfl
    | ⟨1, _⟩ => rfl
  have he : ((cfg0.win 11).blk t).view.emb y = (ix2 ⟨256 * t.val + (y 0).val, by omega⟩ ⟨(y 1).val, hy1⟩ : S8192x1024.Idx) := by
    funext a; apply Fin.ext
    match a with
    | ⟨0, _⟩ => show win0_11.index t 0 * 256 + 1 * (y 0).val = 256 * t.val + (y 0).val; rw [d0]; omega
    | ⟨1, _⟩ => show win0_11.index t 1 * 1024 + 1 * (y 1).val = (y 1).val; rw [d1]; omega
  show k0_pay1 (stAt m c t.val t.isLt).2.2 (iblk m c 1 t) ((cfg0.win 11).xinj (grid0.coords t) y) = outY (inp m c) (((cfg0.win 11).blk t).view.emb y)
  rw [hx, he, pay1_apply]
  have hb : (⟨(256 * t.val + (y 0).val) / 2048, by omega⟩ : Fin 4).val = t.val / 8 := by show (256 * t.val + (y 0).val) / 2048 = _; omega
  rw [(stAt_ok m c t.val t.isLt _ hb).2.2, blk1 m c t ⟨(y 0).val, hy0⟩ ⟨(y 1).val, hy1⟩ ⟨256 * t.val + (y 0).val, by omega⟩ rfl ⟨1024 + (y 1).val, by omega⟩ rfl]
  unfold outY In.gl
  have e1 : 256 * (t.val % 8) + (y 0).val + 1 = (256 * t.val + (y 0).val) % 2048 + 1 := by omega
  have e2 : (⟨(2048 * ((256 * t.val + (y 0).val) / 2048) + (256 * t.val + (y 0).val) % 2048) % 8192, Nat.mod_lt _ (by decide)⟩ : Fin 8192) = ⟨256 * t.val + (y 0).val, by omega⟩ :=
    Fin.ext (by show (2048 * ((256 * t.val + (y 0).val) / 2048) + (256 * t.val + (y 0).val) % 2048) % 8192 = 256 * t.val + (y 0).val; omega)
  show (inp m c).H _ (256 * (t.val % 8) + (y 0).val + 1) _ * geluE _ = (inp m c).H _ ((256 * t.val + (y 0).val) % 2048 + 1) _ * geluE ((inp m c).ug ⟨(2048 * ((256 * t.val + (y 0).val) / 2048) + (256 * t.val + (y 0).val) % 2048) % 8192, _⟩ ⟨1024 + (y 1).val, _⟩)
  rw [e1, e2]
  rfl

theorem mem_blk11 (t : Fin cfg0.N) (i : S8192x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v10_0).slice (win0_11.rect t)).set ↔ _
  rw [View.set_slice_whole, Rect.mem_set_unit]
  exact Iff.rfl

theorem final11 (c : Dev nD) : (dats m 0 c).arrAt 11 cfg0.N = (outY (inp m c) : Buf (Elt Ideal) ((c : Thread nD τ).loc main_v10_0)) :=
  (dats m 0 c).arrAt_eq_of_cover 11 _ (fun t _ => flushed11 m c t) (fun i => by
    have h0 : (i 0).val < 8192 := (i 0).isLt
    have h1 : (i 1).val < 1024 := (i 1).isLt
    have hlt : (i 0).val / 256 < cfg0.N := lt_of_lt_of_eq (by omega) N_0.symm
    refine ⟨⟨(i 0).val / 256, hlt⟩, flush0_11 _, ?_⟩
    rw [mem_blk11]
    obtain ⟨d0, d1⟩ := idx11 ⟨(i 0).val / 256, hlt⟩
    intro a
    match a with
    | ⟨0, _⟩ =>
      show win0_11.index _ 0 * 256 ≤ (i 0).val ∧ (i 0).val < win0_11.index _ 0 * 256 + 256
      rw [d0]
      show (i 0).val / 256 * 256 ≤ (i 0).val ∧ (i 0).val < (i 0).val / 256 * 256 + 256
      omega
    | ⟨1, _⟩ =>
      show win0_11.index _ 1 * 1024 ≤ (i 1).val ∧ (i 1).val < win0_11.index _ 1 * 1024 + 1024
      rw [d1]
      omega)

theorem flushed12 (c : Dev nD) (t : Fin cfg0.N) (hf : (cfg0.win 12).flush t = true) :
    (dats m 0 c).flushed 12 t = ((cfg0.win 12).blk t).view.read (Elt Ideal) (outH (inp m c) : Buf (Elt Ideal) ((c : Thread nD τ).loc main_v10_1)) := by
  show (cfg0.win 12).cut (grid0.coords t) ((dats m 0 c).after 12 t) = _
  rw [after0_12]
  have hN : t.val < 32 := lt_of_lt_of_eq t.isLt N_0
  have h7 : t.val % 8 = 7 := (flush0_12 t).mp hf
  funext y
  have hy0 : (y 0).val < 1 := (y 0).isLt
  have hy1 : (y 1).val < 1 := (y 1).isLt
  have hy2 : (y 2).val < 1024 := (y 2).isLt
  obtain ⟨d0, d1, d2⟩ := idx12 t
  have hx : (cfg0.win 12).xinj (grid0.coords t) y = (ix3 0 0 ⟨(y 2).val, hy2⟩ : S1x1x1024.Idx) := by
    funext a; apply Fin.ext
    match a with
    | ⟨0, _⟩ => show (y 0).val = 0; omega
    | ⟨1, _⟩ => show (y 1).val = 0; omega
    | ⟨2, _⟩ => rfl
  have he : ((cfg0.win 12).blk t).view.emb y = (ix3 ⟨t.val / 8, by omega⟩ 0 ⟨(y 2).val, hy2⟩ : S4x1x1024.Idx) := by
    funext a; apply Fin.ext
    match a with
    | ⟨0, _⟩ => show win0_12.index t 0 * 1 + 1 * (y 0).val = t.val / 8; rw [d0]; omega
    | ⟨1, _⟩ => show win0_12.index t 1 * 1 + 1 * (y 1).val = 0; rw [d1]; omega
    | ⟨2, _⟩ => show win0_12.index t 2 * 1024 + 1 * (y 2).val = (y 2).val; rw [d2]; omega
  show k0_pay2 (stAt m c t.val t.isLt).2.1 ((cfg0.win 12).xinj (grid0.coords t) y) = outH (inp m c) (((cfg0.win 12).blk t).view.emb y)
  rw [hx, he, pay2_apply, (stAt_ok m c t.val t.isLt ⟨t.val / 8, by omega⟩ rfl).2.1, show 256 * (t.val % 8) + 256 = 2048 from by omega]
  rfl

theorem mem_blk12 (t : Fin cfg0.N) (i : S4x1x1024.Idx) :
    i ∈ ((cfg0.win 12).blk t).view.set ↔ ∀ a : Fin 3, win0_12.index t a * S1x1x1024.size a ≤ (i a).val ∧ (i a).val < win0_12.index t a * S1x1x1024.size a + S1x1x1024.size a := by
  show i ∈ ((View.whole main_v10_1).slice (win0_12.rect t)).set ↔ _
  rw [View.set_slice_whole, Rect.mem_set_unit]
  exact Iff.rfl

theorem final12 (c : Dev nD) : (dats m 0 c).arrAt 12 cfg0.N = (outH (inp m c) : Buf (Elt Ideal) ((c : Thread nD τ).loc main_v10_1)) :=
  (dats m 0 c).arrAt_eq_of_cover 12 _ (fun t hf => flushed12 m c t hf) (fun i => by
    have h0 : (i 0).val < 4 := (i 0).isLt
    have h1 : (i 1).val < 1 := (i 1).isLt
    have h2 : (i 2).val < 1024 := (i 2).isLt
    have hlt : 8 * (i 0).val + 7 < cfg0.N := lt_of_lt_of_eq (by omega) N_0.symm
    refine ⟨⟨8 * (i 0).val + 7, hlt⟩, (flush0_12 _).mpr (by show (8 * (i 0).val + 7) % 8 = 7; omega), ?_⟩
    rw [mem_blk12]
    obtain ⟨d0, d1, d2⟩ := idx12 ⟨8 * (i 0).val + 7, hlt⟩
    intro a
    match a with
    | ⟨0, _⟩ =>
      show win0_12.index _ 0 * 1 ≤ (i 0).val ∧ (i 0).val < win0_12.index _ 0 * 1 + 1
      rw [d0]
      show (8 * (i 0).val + 7) / 8 * 1 ≤ (i 0).val ∧ (i 0).val < (8 * (i 0).val + 7) / 8 * 1 + 1
      omega
    | ⟨1, _⟩ =>
      show win0_12.index _ 1 * 1 ≤ (i 1).val ∧ (i 1).val < win0_12.index _ 1 * 1 + 1
      rw [d1]
      omega
    | ⟨2, _⟩ =>
      show win0_12.index _ 2 * 1024 ≤ (i 2).val ∧ (i 2).val < win0_12.index _ 2 * 1024 + 1024
      rw [d2]
      omega)

/-- The run, its two results at the recurrence's values, the arguments unchanged. -/
theorem value_run (ρ : Dev nD → PrngReg) : θ_run defs (onTc (τ := τ) (main (F := Ideal))) ⟨m, fun _ => 0, ρ⟩ (fun r => ∀ c : Dev nD,
    (r.2.mem ((c : Thread nD τ).loc main_v10_0) = outY (inp m c) ∧ r.2.mem ((c : Thread nD τ).loc main_v10_1) = outH (inp m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  (θ_run defs _ _).mono (fun r h c => ⟨⟨(h.1 c).1, (h.1 c).2⟩, h.2.1 c⟩)
    (θ_run_and ((θ_run defs _ _).mono (fun r h => fun (c : Dev nD) => And.intro (((h.1 c).1 11).trans (final11 m c)) (((h.1 c).1 12).trans (final12 m c))) (run_main m ρ)) (frame_run m ρ))

end Cert.KernelIdeal.Lru
end
-- ==== Proof.LruRefParts.lean ====
/-
  What the recurrence's reference computes before its loop, read at an index of the ideal instance: the convolved row, the two gates, the decay, what a row
  adds, the activated gate.
-/
module

public import proofs.«01_k».proof.Proof.LruValue
public import proofs.«01_k».proof.Proof.Gen.ReferenceIdeal.Step

@[expose] public section

set_option maxRecDepth 16384

noncomputable section

open Idealize.ShloMosaic Idealize.ShloMosaic.TcCoe Idealize.SL.Sem
open Cert.KernelIdeal.Lru (In mkIn gsum sp logA addend geluE)

namespace Cert.ReferenceIdeal.LruRef

open Cert.ReferenceIdeal Cert.ReferenceIdeal.Gen Cert.ReferenceIdeal.Step

variable (x0 : S8192x2048.Idx → EReal) (x1 : S4x3x1024.Idx → EReal) (x2 x3 : S4x1024.Idx → EReal) (x4 : S1024.Idx → EReal) (x5 : S8x128x128.Idx → EReal)
  (x6 : S8x128.Idx → EReal) (x7 : S8x128x128.Idx → EReal) (x8 : S8x128.Idx → EReal) (x9 : S1024.Idx → EReal)

theorem full_eq (b : Fin 4) (s : Fin 2051) (j : Fin 1024) :
    A_main_v3 (F := Ideal) x0 x1 x3 x4 x5 x6 x7 x8 x9 (ix3 b s j) = (mkIn x0 x1 x2 x3 x4 x5 x6 x7 x8 x9).full b s.val j := by
  unfold A_main_v3 A_main_v1 A_main_v0
  unfold In.full
  pointwise
  by_cases h : s.val < 3
  · rw [dif_pos h, dif_pos h]
    rfl
  · rw [dif_neg h, dif_neg h]
    exact congrArg (fun r : Fin 8192 => x0 (ix2 r ⟨j.val, by omega⟩)) (Fin.ext (by show b.val * 2048 + (s.val - 3) = (2048 * b.val + (s.val - 3)) % 8192; omega))

theorem uc_eq (b : Fin 4) (t : Fin 2048) (j : Fin 1024) :
    A_main_v33 (F := Ideal) x0 x1 x3 x4 x5 x6 x7 x8 x9 (ix3 b t j) = (mkIn x0 x1 x2 x3 x4 x5 x6 x7 x8 x9).uc b t.val j := by
  unfold A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v13 A_main_v12 A_main_v11 A_main_v10 A_main_v9 A_main_v8 A_main_v7 A_main_v6 A_main_v5 A_main_v4
  have hf := fun s => full_eq x0 x1 x2 x3 x4 x5 x6 x7 x8 x9 b s j
  generalize A_main_v3 (F := Ideal) x0 x1 x3 x4 x5 x6 x7 x8 x9 = X at hf ⊢
  unfold In.uc
  pointwise
  simp only [hf]
  rw [Nat.add_comm 1 t.val, Nat.add_comm 2 t.val, Nat.add_comm 3 t.val]
  rfl

theorem gr_eq (b : Fin 4) (t : Fin 2048) (j : Fin 1024) :
    A_main_v46 (F := Ideal) x0 x1 x3 x4 x5 x6 x7 x8 x9 (ix3 b t j) = (mkIn x0 x1 x2 x3 x4 x5 x6 x7 x8 x9).gr b t.val j := by
  unfold A_main_v46 A_main_v45 A_main_v43 A_main_v41 A_main_v40 A_main_v39 A_main_v38 A_main_v37 A_main_v36 A_main_v35 A_main_v34 K_main_v42 K_main_v44 K_main_cst K_main_cst_0
  have hf := fun j => uc_eq x0 x1 x2 x3 x4 x5 x6 x7 x8 x9 b t j
  generalize A_main_v33 (F := Ideal) x0 x1 x3 x4 x5 x6 x7 x8 x9 = X at hf ⊢
  unfold In.gr gsum
  pointwise
  unfold Ideal.logistic
  refine congrArg (fun s : EReal => Ideal.div 1 (1 + Ideal.exp (-(s + x6 (ix2 ⟨j.val / 128, by omega⟩ ⟨j.val % 128, by omega⟩))))) (Finset.sum_congr (M := EReal) rfl fun x _ => ?_)
  rw [hf, mul_comm]
  exact congrArg (fun k : Fin 1024 => (mkIn x0 x1 x2 x3 x4 x5 x6 x7 x8 x9).uc b t.val k * x5 (ix3 ⟨j.val / 128, by omega⟩ x ⟨j.val % 128, by omega⟩)) (Fin.ext (by show j.val / 128 * 128 + x.val = 128 * (j.val / 128) + x.val; omega))

theorem gi_eq (b : Fin 4) (t : Fin 2048) (j : Fin 1024) :
    A_main_v58 (F := Ideal) x0 x1 x3 x4 x5 x6 x7 x8 x9 (ix3 b t j) = (mkIn x0 x1 x2 x3 x4 x5 x6 x7 x8 x9).gi b t.val j := by
  unfold A_main_v58 A_main_v57 A_main_v55 A_main_v53 A_main_v52 A_main_v51 A_main_v50 A_main_v49 A_main_v48 A_main_v47 A_main_v34 K_main_v54 K_main_v56 K_main_cst_1 K_main_cst_2
  have hf := fun j => uc_eq x0 x1 x2 x3 x4 x5 x6 x7 x8 x9 b t j
  generalize A_main_v33 (F := Ideal) x0 x1 x3 x4 x5 x6 x7 x8 x9 = X at hf ⊢
  unfold In.gi gsum
  pointwise
  unfold Ideal.logistic
  refine congrArg (fun s : EReal => Ideal.div 1 (1 + Ideal.exp (-(s + x8 (ix2 ⟨j.val / 128, by omega⟩ ⟨j.val % 128, by omega⟩))))) (Finset.sum_congr (M := EReal) rfl fun x _ => ?_)
  rw [hf, mul_comm]
  exact congrArg (fun k : Fin 1024 => (mkIn x0 x1 x2 x3 x4 x5 x6 x7 x8 x9).uc b t.val k * x7 (ix3 ⟨j.val / 128, by omega⟩ x ⟨j.val % 128, by omega⟩)) (Fin.ext (by show j.val / 128 * 128 + x.val = 128 * (j.val / 128) + x.val; omega))

theorem logA_eq (b : Fin 4) (t : Fin 2048) (j : Fin 1024) :
    A_main_v65 (F := Ideal) x0 x1 x3 x4 x5 x6 x7 x8 x9 (ix3 b t j) = logA ((mkIn x0 x1 x2 x3 x4 x5 x6 x7 x8 x9).gr b t.val j) (x9 (ix1 j)) := by
  unfold A_main_v65 A_main_v64 A_main_v63 A_main_v62 A_main_call0_v11 A_main_call0_v10 A_main_call0_v9 A_main_call0_v8 A_main_call0_v7 A_main_call0_v6 A_main_call0_v4 A_main_call0_v3 A_main_call0_v1 A_main_v61 A_main_v60 K_main_v59 K_main_cst_3 K_main_call0_v0 K_main_call0_v2 K_main_call0_v5 K_main_call0_cst
  have hf := fun j => gr_eq x0 x1 x2 x3 x4 x5 x6 x7 x8 x9 b t j
  generalize A_main_v46 (F := Ideal) x0 x1 x3 x4 x5 x6 x7 x8 x9 = X at hf ⊢
  unfold logA sp
  pointwise
  rw [hf]
  simp only [ne_eq, not_true_eq_false, if_false, sub_zero, zero_sub, ite_false]

theorem a_eq (b : Fin 4) (t : Fin 2048) (j : Fin 1024) :
    A_main_v66 (F := Ideal) x0 x1 x3 x4 x5 x6 x7 x8 x9 (ix3 b t j) = (mkIn x0 x1 x2 x3 x4 x5 x6 x7 x8 x9).a b t.val j := by
  unfold A_main_v66 In.a
  have hf := fun j => logA_eq x0 x1 x2 x3 x4 x5 x6 x7 x8 x9 b t j
  generalize A_main_v65 (F := Ideal) x0 x1 x3 x4 x5 x6 x7 x8 x9 = X at hf ⊢
  pointwise
  rw [hf]
  rfl

theorem ad_eq (b : Fin 4) (t : Fin 2048) (j : Fin 1024) :
    A_main_v73 (F := Ideal) x0 x1 x3 x4 x5 x6 x7 x8 x9 (ix3 b t j) = (mkIn x0 x1 x2 x3 x4 x5 x6 x7 x8 x9).ad b t.val j := by
  unfold A_main_v73 A_main_v72 A_main_v71 A_main_v70 A_main_v69 A_main_v68 K_main_v67 K_main_cst_4 In.ad addend
  have hf := fun j => logA_eq x0 x1 x2 x3 x4 x5 x6 x7 x8 x9 b t j
  have hi := fun j => gi_eq x0 x1 x2 x3 x4 x5 x6 x7 x8 x9 b t j
  have hu := fun j => uc_eq x0 x1 x2 x3 x4 x5 x6 x7 x8 x9 b t j
  generalize A_main_v65 (F := Ideal) x0 x1 x3 x4 x5 x6 x7 x8 x9 = X at hf ⊢
  generalize A_main_v58 (F := Ideal) x0 x1 x3 x4 x5 x6 x7 x8 x9 = Y at hi ⊢
  generalize A_main_v33 (F := Ideal) x0 x1 x3 x4 x5 x6 x7 x8 x9 = Z at hu ⊢
  pointwise
  rw [hf, hi, hu]
  rfl

theorem gl_eq (b : Fin 4) (t : Fin 2048) (j : Fin 1024) :
    A_main_v86 (F := Ideal) x0 x1 x3 x4 x5 x6 x7 x8 x9 (ix3 b t j) = (mkIn x0 x1 x2 x3 x4 x5 x6 x7 x8 x9).gl b t.val j := by
  unfold A_main_v86 A_main_v85 A_main_v83 A_main_v81 A_main_v80 A_main_v78 A_main_v77 A_main_v75 A_main_v74 A_main_v2 A_main_v0 K_main_v84 K_main_v82 K_main_v79 K_main_v76 K_main_cst_5 K_main_cst_6 K_main_cst_7 K_main_cst_8
  unfold In.gl geluE
  pointwise
  have e : (⟨(2048 * b.val + t.val) % 8192, Nat.mod_lt _ (by decide)⟩ : Fin 8192) = ⟨b.val * 2048 + t.val, by omega⟩ := Fin.ext (by show (2048 * b.val + t.val) % 8192 = b.val * 2048 + t.val; omega)
  rw [e, mul_assoc (x0 _) (x0 _) (x0 _)]
  rfl

end Cert.ReferenceIdeal.LruRef
end
-- ==== Proof.LruRef.lean ====
/-
  The recurrence's reference, trip by trip: before row `t` the carried state is the recurrence's at `t`, and the rows written so far are the state after each
  times the activated gate. The two results follow after the last row.
-/
module

public import proofs.«01_k».proof.Proof.LruRefParts
public import proofs.«01_k».proof.Proof.Gen.ReferenceIdeal.Run
public import Idealize.ShloMosaic.Lib.DynamicIndex
public import Idealize.ShloMosaic.Lib.Pipeline.Value

@[expose] public section

set_option maxRecDepth 16384

noncomputable section

open Idealize.ShloMosaic Idealize.ShloMosaic.TcCoe Idealize.SL.Sem Idealize.ShloMosaic.StableHlo
open Cert.KernelIdeal.Lru (In mkIn outY outH)

namespace Cert.ReferenceIdeal.LruRef

open Cert.ReferenceIdeal Cert.ReferenceIdeal.Gen Cert.ReferenceIdeal.Step Cert.ReferenceIdeal.Value

/-! ## One row of a time-major array, read and written at a row number -/

theorem row_read (X : S2048x4x1024.Idx → EReal) (start : Fin 3 → Int) (t : Fin 2048) (hs : ∀ a, start a = ((![t.val, 0, 0] : Fin 3 → ℕ) a : Int))
    (hf : S2048x4x1024.Slices (fun _ => 0) S1x4x1024) (hc) (b : Fin 4) (j : Fin 1024) :
    shapeCast S4x1024 (Host.dynamicSlice S1x4x1024 X start hf) hc (ix2 b j) = X (ix3 t b j) := by
  have ht := t.isLt
  have ho : S2048x4x1024.Slices (![t.val, 0, 0] : Fin 3 → ℕ) S1x4x1024 := ⟨rfl, fun a => by
    match a with
    | ⟨0, _⟩ => show t.val + 1 ≤ 2048; omega
    | ⟨1, _⟩ => show 0 + 4 ≤ 4; omega
    | ⟨2, _⟩ => show 0 + 1024 ≤ 1024; omega⟩
  rw [Host.dynamicSlice_eq_extractStridedSlice S1x4x1024 X start _ hf ho hs]
  pointwise

theorem row_write (X : S2048x4x1024.Idx → EReal) (u : S1x4x1024.Idx → EReal) (start : Fin 3 → Int) (t : Fin 2048)
    (hs : ∀ a, start a = ((![t.val, 0, 0] : Fin 3 → ℕ) a : Int)) (hf : S2048x4x1024.Slices (fun _ => 0) S1x4x1024) (s : Fin 2048) (b : Fin 4) (j : Fin 1024) :
    Host.dynamicUpdateSlice X u start hf (ix3 s b j) = if s = t then u (ix3 0 b j) else X (ix3 s b j) := by
  have ht := t.isLt
  have hb := b.isLt
  have hj := j.isLt
  have ho : S2048x4x1024.Slices (![t.val, 0, 0] : Fin 3 → ℕ) S1x4x1024 := ⟨rfl, fun a => by
    match a with
    | ⟨0, _⟩ => show t.val + 1 ≤ 2048; omega
    | ⟨1, _⟩ => show 0 + 4 ≤ 4; omega
    | ⟨2, _⟩ => show 0 + 1024 ≤ 1024; omega⟩
  rw [Host.dynamicUpdateSlice_eq_updateSlice X u start hf (![t.val, 0, 0] : Fin 3 → ℕ) (fun a => by have := ho.2 a; rw [hs a]; omega) ho]
  unfold updateSlice
  by_cases h : s = t
  · rw [if_pos h]
    subst h
    refine (dif_pos (fun a => ?_)).trans (congrArg u (funext fun a => Fin.ext ?_))
    · match a with
      | ⟨0, _⟩ => show s.val ≤ s.val ∧ s.val < s.val + 1; omega
      | ⟨1, _⟩ => show 0 ≤ b.val ∧ b.val < 0 + 4; omega
      | ⟨2, _⟩ => show 0 ≤ j.val ∧ j.val < 0 + 1024; omega
    · match a with
      | ⟨0, _⟩ => show s.val - s.val = 0; omega
      | ⟨1, _⟩ => show b.val - 0 = b.val; omega
      | ⟨2, _⟩ => show j.val - 0 = j.val; omega
  · rw [if_neg h]
    refine dif_neg (fun hall => h (Fin.ext ?_))
    have h0 : t.val ≤ s.val ∧ s.val < t.val + 1 := hall 0
    omega

variable (m : (ℓ : Loc nD τ sig) → Buf (Elt Ideal) ℓ)

abbrev a0 (c : Dev nD) : Vec Ideal S8192x2048 .f32 := m ((c.tc : Thread nD τ).loc main_arg0)
abbrev a1 (c : Dev nD) : Vec Ideal S4x3x1024 .f32 := m ((c.tc : Thread nD τ).loc main_arg1)
abbrev a2 (c : Dev nD) : Vec Ideal S4x1024 .f32 := m ((c.tc : Thread nD τ).loc main_arg2)
abbrev a3 (c : Dev nD) : Vec Ideal S4x1024 .f32 := m ((c.tc : Thread nD τ).loc main_arg3)
abbrev a4 (c : Dev nD) : Vec Ideal S1024 .f32 := m ((c.tc : Thread nD τ).loc main_arg4)
abbrev a5 (c : Dev nD) : Vec Ideal S8x128x128 .f32 := m ((c.tc : Thread nD τ).loc main_arg5)
abbrev a6 (c : Dev nD) : Vec Ideal S8x128 .f32 := m ((c.tc : Thread nD τ).loc main_arg6)
abbrev a7 (c : Dev nD) : Vec Ideal S8x128x128 .f32 := m ((c.tc : Thread nD τ).loc main_arg7)
abbrev a8 (c : Dev nD) : Vec Ideal S8x128 .f32 := m ((c.tc : Thread nD τ).loc main_arg8)
abbrev a9 (c : Dev nD) : Vec Ideal S1024 .f32 := m ((c.tc : Thread nD τ).loc main_arg9)

/-- The launch's inputs. -/
def inp (c : Dev nD) : In := mkIn (a0 m c) (a1 m c) (a2 m c) (a3 m c) (a4 m c) (a5 m c) (a6 m c) (a7 m c) (a8 m c) (a9 m c)

/-- What the buffers hold before row `t`. -/
structure Good (c : Dev nD) (V : Valuation τ sig (Elt Ideal)) (t : ℕ) : Prop where
  decay : V (Proc.devRef .tc main_v91_0) = A_main_v87 (F := Ideal) (a0 m c) (a1 m c) (a3 m c) (a4 m c) (a5 m c) (a6 m c) (a7 m c) (a8 m c) (a9 m c)
  adds : V (Proc.devRef .tc main_v91_1) = A_main_v88 (F := Ideal) (a0 m c) (a1 m c) (a3 m c) (a4 m c) (a5 m c) (a6 m c) (a7 m c) (a8 m c) (a9 m c)
  gate : V (Proc.devRef .tc main_v91_2) = A_main_v89 (F := Ideal) (a0 m c) (a1 m c) (a3 m c) (a4 m c) (a5 m c) (a6 m c) (a7 m c) (a8 m c) (a9 m c)
  num : V (Proc.devRef .tc main_v91_3) = constantI S_ 32 (BitVec.ofNat 32 t)
  state : ∀ (b : Fin 4) (j : Fin 1024), (V (Proc.devRef .tc main_v91_4) : Vec Ideal S4x1024 .f32) (ix2 b j) = (inp m c).H b t j
  rows : ∀ s : Fin 2048, s.val < t → ∀ (b : Fin 4) (j : Fin 1024),
    (V (Proc.devRef .tc main_v91_5) : Vec Ideal S2048x4x1024 .f32) (ix3 s b j) = (inp m c).H b (s.val + 1) j * (inp m c).gl b s.val j

theorem decay_eq (c : Dev nD) (t : Fin 2048) (b : Fin 4) (j : Fin 1024) :
    A_main_v87 (F := Ideal) (a0 m c) (a1 m c) (a3 m c) (a4 m c) (a5 m c) (a6 m c) (a7 m c) (a8 m c) (a9 m c) (ix3 t b j) = (inp m c).a b t.val j := by
  rw [show (inp m c).a b t.val j = _ from (a_eq (a0 m c) (a1 m c) (a2 m c) (a3 m c) (a4 m c) (a5 m c) (a6 m c) (a7 m c) (a8 m c) (a9 m c) b t j).symm]
  unfold A_main_v87
  generalize A_main_v66 (F := Ideal) (a0 m c) (a1 m c) (a3 m c) (a4 m c) (a5 m c) (a6 m c) (a7 m c) (a8 m c) (a9 m c) = X
  pointwise

theorem adds_eq (c : Dev nD) (t : Fin 2048) (b : Fin 4) (j : Fin 1024) :
    A_main_v88 (F := Ideal) (a0 m c) (a1 m c) (a3 m c) (a4 m c) (a5 m c) (a6 m c) (a7 m c) (a8 m c) (a9 m c) (ix3 t b j) = (inp m c).ad b t.val j := by
  rw [show (inp m c).ad b t.val j = _ from (ad_eq (a0 m c) (a1 m c) (a2 m c) (a3 m c) (a4 m c) (a5 m c) (a6 m c) (a7 m c) (a8 m c) (a9 m c) b t j).symm]
  unfold A_main_v88
  generalize A_main_v73 (F := Ideal) (a0 m c) (a1 m c) (a3 m c) (a4 m c) (a5 m c) (a6 m c) (a7 m c) (a8 m c) (a9 m c) = X
  pointwise

theorem gate_eq (c : Dev nD) (t : Fin 2048) (b : Fin 4) (j : Fin 1024) :
    A_main_v89 (F := Ideal) (a0 m c) (a1 m c) (a3 m c) (a4 m c) (a5 m c) (a6 m c) (a7 m c) (a8 m c) (a9 m c) (ix3 t b j) = (inp m c).gl b t.val j := by
  rw [show (inp m c).gl b t.val j = _ from (gl_eq (a0 m c) (a1 m c) (a2 m c) (a3 m c) (a4 m c) (a5 m c) (a6 m c) (a7 m c) (a8 m c) (a9 m c) b t j).symm]
  unfold A_main_v89
  generalize A_main_v86 (F := Ideal) (a0 m c) (a1 m c) (a3 m c) (a4 m c) (a5 m c) (a6 m c) (a7 m c) (a8 m c) (a9 m c) = X
  pointwise

theorem start_eq (V : Valuation τ sig (Elt Ideal)) (t : ℕ) (ht : t < 2048) (hn : V (Proc.devRef .tc main_v91_3) = constantI S_ 32 (BitVec.ofNat 32 t)) (a : Fin 3) :
    ((![V (Proc.devRef .tc main_v91_3), constantI S_ 32 0#32, constantI S_ 32 0#32] : Fin 3 → (⟨S_, .i32⟩ : BufTy).Contents (Elt Ideal)) a (Shape.Idx.first h_S_)).toInt
      = ((![t, 0, 0] : Fin 3 → ℕ) a : Int) := by
  rw [hn]
  match a with
  | ⟨0, _⟩ =>
    show (BitVec.ofNat 32 t).toInt = (t : Int)
    rw [BitVec.toInt_eq_toNat_of_lt (by rw [BitVec.toNat_ofNat]; omega), BitVec.toNat_ofNat, Nat.mod_eq_of_lt (by omega)]
  | ⟨1, _⟩ => rfl
  | ⟨2, _⟩ => rfl

theorem next_state (c : Dev nD) (V : Valuation τ sig (Elt Ideal)) (t : Fin 2048) (g : Good m c V t.val) (b : Fin 4) (j : Fin 1024) :
    (res_main_while0b_v100 V : Vec Ideal S4x1024 .f32) (ix2 b j) = (inp m c).H b (t.val + 1) j := by
  show _ = (inp m c).a b t.val j * (inp m c).H b t.val j + (inp m c).ad b t.val j
  rw [← g.state b j, ← decay_eq, ← adds_eq, ← g.decay, ← g.adds]
  unfold res_main_while0b_v100
  rw [show ∀ x y : Vec Ideal S4x1024 .f32, (addf x y : FVec Ideal S4x1024 .f32) (ix2 b j) = x (ix2 b j) + y (ix2 b j) from fun _ _ => rfl]
  rw [show ∀ x y : Vec Ideal S4x1024 .f32, (mulf x y : FVec Ideal S4x1024 .f32) (ix2 b j) = x (ix2 b j) * y (ix2 b j) from fun _ _ => rfl]
  exact congrArg₂ (fun x y : EReal => x * (V (Proc.devRef .tc main_v91_4) : Vec Ideal S4x1024 .f32) (ix2 b j) + y)
    (row_read _ _ t (start_eq V t.val t.isLt g.num) _ _ b j) (row_read _ _ t (start_eq V t.val t.isLt g.num) _ _ b j)

theorem next_rows (c : Dev nD) (V : Valuation τ sig (Elt Ideal)) (t : Fin 2048) (g : Good m c V t.val) (s : Fin 2048) (hs : s.val < t.val + 1) (b : Fin 4) (j : Fin 1024) :
    (Value.step_main_v91_5 V : Vec Ideal S2048x4x1024 .f32) (ix3 s b j) = (inp m c).H b (s.val + 1) j * (inp m c).gl b s.val j := by
  unfold Value.step_main_v91_5
  refine (row_write _ _ _ t (start_eq V t.val t.isLt g.num) _ s b j).trans ?_
  by_cases h : s = t
  · rw [if_pos h]
    subst h
    rw [← next_state m c V s g b j, ← gate_eq, ← g.gate, ← row_read (V (Proc.devRef .tc main_v91_2)) _ s (start_eq V s.val s.isLt g.num) sliceFits_S2048x4x1024_S1x4x1024 shapeCasts_S1x4x1024_S4x1024 b j]
    generalize res_main_while0b_v100 V = X
    generalize (shapeCast S4x1024 _ _ : Vec Ideal S4x1024 .f32) = Y
    pointwise
  · rw [if_neg h]
    exact g.rows s (by have : s.val ≠ t.val := fun e => h (Fin.ext e); omega) b j

theorem good_step (c : Dev nD) (V : Valuation τ sig (Elt Ideal)) (t : Fin 2048) (g : Good m c V t.val) : Good m c (STEP V) (t.val + 1) where
  decay := (STEP_main_v91_0 V).trans g.decay
  adds := (STEP_main_v91_1 V).trans g.adds
  gate := (STEP_main_v91_2 V).trans g.gate
  num := by
    rw [STEP_main_v91_3]
    unfold Value.step_main_v91_3
    rw [g.num]
    funext i
    show BitVec.ofNat 32 t.val + 1#32 = BitVec.ofNat 32 (t.val + 1)
    rw [BitVec.ofNat_add]
  state b j := by
    rw [STEP_main_v91_4]
    exact next_state m c V t g b j
  rows s hs b j := by
    rw [STEP_main_v91_5]
    exact next_rows m c V t g s hs b j

set_option maxRecDepth 65536 in
set_option maxHeartbeats 1000000 in
theorem entry_decay (c : Dev nD) : entryContents preI m c (Proc.devRef .tc main_v91_0) = A_main_v87 (F := Ideal) (a0 m c) (a1 m c) (a3 m c) (a4 m c) (a5 m c) (a6 m c) (a7 m c) (a8 m c) (a9 m c) := by
  simp only [entryContents, afterL_cons, afterL_nil]; after_reads_simp; rfl
set_option maxRecDepth 65536 in
set_option maxHeartbeats 1000000 in
theorem entry_adds (c : Dev nD) : entryContents preI m c (Proc.devRef .tc main_v91_1) = A_main_v88 (F := Ideal) (a0 m c) (a1 m c) (a3 m c) (a4 m c) (a5 m c) (a6 m c) (a7 m c) (a8 m c) (a9 m c) := by
  simp only [entryContents, afterL_cons, afterL_nil]; after_reads_simp; rfl
set_option maxRecDepth 65536 in
set_option maxHeartbeats 1000000 in
theorem entry_gate (c : Dev nD) : entryContents preI m c (Proc.devRef .tc main_v91_2) = A_main_v89 (F := Ideal) (a0 m c) (a1 m c) (a3 m c) (a4 m c) (a5 m c) (a6 m c) (a7 m c) (a8 m c) (a9 m c) := by
  simp only [entryContents, afterL_cons, afterL_nil]; after_reads_simp; rfl
set_option maxRecDepth 65536 in
set_option maxHeartbeats 1000000 in
theorem entry_num (c : Dev nD) : entryContents preI m c (Proc.devRef .tc main_v91_3) = constantI S_ 32 (BitVec.ofNat 32 0) := by
  simp only [entryContents, afterL_cons, afterL_nil]; after_reads_simp; rfl
set_option maxRecDepth 65536 in
set_option maxHeartbeats 1000000 in
theorem entry_state (c : Dev nD) : entryContents preI m c (Proc.devRef .tc main_v91_4) = a2 m c := by
  simp only [entryContents, afterL_cons, afterL_nil]; after_reads_simp; rfl

theorem good (c : Dev nD) (n : ℕ) (hn : n ≤ 2048) : Good m c (STEP^[n] (entryContents preI m c)) n := by
  induction n with
  | zero => exact ⟨entry_decay m c, entry_adds m c, entry_gate m c, entry_num m c, fun b j => congrFun (entry_state m c) (ix2 b j), fun s hs => absurd hs (Nat.not_lt_zero _)⟩
  | succ n ih =>
    rw [Function.iterate_succ_apply']
    exact good_step m c _ ⟨n, hn⟩ (ih (Nat.le_of_succ_le hn))

theorem result_y (c : Dev nD) : (out_main_v94 (STEP^[2048] (entryContents preI m c)) : Vec Ideal S8192x1024 .bf16) = outY (inp m c) := by
  have g := (good m c 2048 le_rfl).rows
  funext i
  idx_vars i
  unfold out_main_v94
  generalize (STEP^[2048] (entryContents preI m c)) (Proc.devRef .tc main_v91_5) = X at g ⊢
  pointwise
  exact g _ (Nat.mod_lt _ (by decide)) _ _

theorem result_h (c : Dev nD) : (out_main_v95 (STEP^[2048] (entryContents preI m c)) : Vec Ideal S4x1x1024 .f32) = outH (inp m c) := by
  have g := (good m c 2048 le_rfl).state
  funext i
  idx_vars i
  unfold out_main_v95
  generalize (STEP^[2048] (entryContents preI m c)) (Proc.devRef .tc main_v91_4) = X at g ⊢
  pointwise
  exact g _ _

end Cert.ReferenceIdeal.LruRef
end
-- ==== Proof.MemValue.lean ====
/-
  The value of the memory-key product (Kernel3): each grid point multiplies the whole array of rows, rounded once at
  the first point into the carried scratch, by one column block of one layer's matrix. At the ideal instance rounding is the
  identity, so the result array is, per layer, the matrix product of the reshaped rows with that layer's matrix — what
  the reference's contraction holds at the same index.
-/
module

public import proofs.«01_k».proof.Defs
public import proofs.«01_k».proof.Proof.Gen.Kernel3Ideal.Value
public import proofs.«01_k».proof.Proof.Gen.Reference3Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel3Ideal.Mem

open Cert.Kernel3Ideal Cert.Kernel3Ideal.Gen

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- The first point leaves the rounded rows in the scratch. -/
theorem sout_A (c : Dev nD) (i : grid0.Coords) (a3 : Memref sig .tc .vmem S1024x2048 .f32) (h3 : a3.IsWhole) (a4 : Memref sig .tc .vmem S1x2048x512 .f32) (h4 : a4.IsWhole) (a5 : Memref sig .tc .vmem S1x1024x512 .f32) (h5 : a5.IsWhole) (a6 : Memref sig .tc .vmem S1024x2048 .bf16) (h6 : a6.IsWhole) (hc : cond0_0 i)
    (x0 : Vec Ideal S1024x2048 .f32) (x1 : Vec Ideal S1x2048x512 .f32) :
    sout0_A_0 c i a3 h3 a4 h4 a5 h5 a6 h6 hc x0 x1 = k0_pay1 x0 := by
  unfold sout0_A_0
  rw [View.read_writes_eq_canon _ _ _ (scover0_A_0 c i a3 h3 a4 h4 a5 h5 a6 h6 hc x0 x1)]
  unfold kernelRun0_A
  dsimp only
  sl_unfold_words
  rw [View.canon_unit_zero (S := S1024x2048) hz2]
  simp -proj only [View.readAt_eq_ld, h3.read_unread, View.ld_unit_zero (S := S1024x2048) hz2]

/-- The first point's block: the product of the rows just rounded. -/
theorem out_A (c : Dev nD) (i : grid0.Coords) (a3 : Memref sig .tc .vmem S1024x2048 .f32) (h3 : a3.IsWhole) (a4 : Memref sig .tc .vmem S1x2048x512 .f32) (h4 : a4.IsWhole) (a5 : Memref sig .tc .vmem S1x1024x512 .f32) (h5 : a5.IsWhole) (a6 : Memref sig .tc .vmem S1024x2048 .bf16) (h6 : a6.IsWhole) (hc : cond0_0 i)
    (x0 : Vec Ideal S1024x2048 .f32) (x1 : Vec Ideal S1x2048x512 .f32) :
    out0_A_2 c i a3 h3 a4 h4 a5 h5 a6 h6 hc x0 x1 = k0_pay2 (k0_pay1 x0) x1 := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero (S := S1x1024x512) hz3, View.readCov_unit_zero (S := S1024x2048) _ hz2]
  simp -proj only [View.readAt_eq_ld, h3.read_unread, h4.read_unread, View.ld_unit_zero (S := S1024x2048) hz2, View.ld_unit_zero (S := S1x2048x512) hz3]

/-- A later point's block: the product of the rows the scratch holds. -/
theorem out_B (c : Dev nD) (i : grid0.Coords) (a3 : Memref sig .tc .vmem S1024x2048 .f32) (h3 : a3.IsWhole) (a4 : Memref sig .tc .vmem S1x2048x512 .f32) (h4 : a4.IsWhole) (a5 : Memref sig .tc .vmem S1x1024x512 .f32) (h5 : a5.IsWhole) (a6 : Memref sig .tc .vmem S1024x2048 .bf16) (h6 : a6.IsWhole) (hc : ¬cond0_0 i)
    (x0 : Vec Ideal S1024x2048 .f32) (x1 : Vec Ideal S1x2048x512 .f32) (xs : Vec Ideal S1024x2048 .bf16) :
    out0_B_2 c i a3 h3 a4 h4 a5 h5 a6 h6 hc x0 x1 xs = k0_pay2 xs x1 := by
  unfold out0_B_2
  rw [View.read_writes_eq_canon _ _ _ (cover0_B_2 c i a3 h3 a4 h4 a5 h5 a6 h6 hc x0 x1 xs)]
  unfold kernelRun0_B
  dsimp only
  sl_unfold_words
  rw [View.canon_unit_zero (S := S1x1024x512) hz3]
  simp -proj only [View.readAt_eq_ld, h6.read_unread, h4.read_unread, View.ld_unit_zero (S := S1024x2048) hz2, View.ld_unit_zero (S := S1x2048x512) hz3]

/-- The rows as the kernel is handed them: the first argument reshaped. -/
abbrev rows (c : Dev nD) : S1024x2048.Idx → Ideal .f32 := V m c main_v0

theorem idx0 : ∀ t : Fin cfg0.N, win0_0.index t 0 = 0 ∧ win0_0.index t 1 = 0 :=
  (by decide +kernel : ∀ t : Fin grid0.N, _)

theorem idx1 : ∀ t : Fin cfg0.N, win0_1.index t 0 = t.val / 4 ∧ win0_1.index t 1 = 0 ∧ win0_1.index t 2 = t.val % 4 :=
  (by decide +kernel : ∀ t : Fin grid0.N, _)

theorem blk0 (c : Dev nD) (t : Fin cfg0.N) (j : S1024x2048.Idx) : (iblk m c 0 t : Vec Ideal S1024x2048 .f32) j = rows m c j := by
  unfold iblk
  rw [View.read_apply]
  show V m c main_v0 _ = V m c main_v0 j
  congr 1
  funext a
  apply Fin.ext
  match a with
  | ⟨0, _⟩ => show win0_0.index t 0 * 1024 + 1 * (j 0).val = (j 0).val; rw [(idx0 t).1]; omega
  | ⟨1, _⟩ => show win0_0.index t 1 * 2048 + 1 * (j 1).val = (j 1).val; rw [(idx0 t).2]; omega

theorem blk1 (c : Dev nD) (t : Fin cfg0.N) (k : Fin 2048) (j : Fin 512) (l : Fin 4) (e : Fin 2048) (hl : l.val = t.val / 4) (he : e.val = 512 * (t.val % 4) + j.val) :
    (iblk m c 1 t : Vec Ideal S1x2048x512 .f32) (ix3 0 k j) = (V m c main_arg1 : Vec Ideal S4x2048x2048 .f32) (ix3 l k e) := by
  unfold iblk
  rw [View.read_apply]
  show V m c main_arg1 _ = V m c main_arg1 _
  congr 1
  funext a
  apply Fin.ext
  match a with
  | ⟨0, _⟩ => show win0_1.index t 0 * 1 + 1 * 0 = l.val; rw [(idx1 t).1]; omega
  | ⟨1, _⟩ => show win0_1.index t 1 * 2048 + 1 * k.val = k.val; rw [(idx1 t).2.1]; omega
  | ⟨2, _⟩ => show win0_1.index t 2 * 512 + 1 * j.val = e.val; rw [(idx1 t).2.2]; omega

/-- The scratch holds the rows after the first point … -/
theorem scr_zero (c : Dev nD) (h : 0 < cfg0.N) (j : S1024x2048.Idx) : (outsAt0 m c 0 h).2 j = rows m c j := by
  rw [outsAt0_A m c ⟨0, h⟩ rfl]
  dsimp only
  rw [sout_A]
  unfold_payloads
  idx_vars j
  pointwise
  exact blk0 m c _ _

/-- … and a later point keeps them … -/
theorem scr_succ (c : Dev nD) (n : ℕ) (h : n + 1 < cfg0.N) : (outsAt0 m c (n + 1) h).2 = (outsAt0 m c n (Nat.lt_of_succ_lt h)).2 := by
  have hN : cfg0.N = 16 := N_0
  have hB : ¬(⟨n + 1, h⟩ : Fin cfg0.N).val % 16 = 0 := by dsimp only; omega
  rw [outsAt0_B m c ⟨n + 1, h⟩ hB]
  rfl

/-- … so it holds them after every point. -/
theorem scr_eq (c : Dev nD) (n : ℕ) (h : n < cfg0.N) (j : S1024x2048.Idx) : (outsAt0 m c n h).2 j = rows m c j := by
  induction n with
  | zero => exact scr_zero m c h j
  | succ n ih => rw [scr_succ m c n h]; exact ih _

/-- What a point leaves in its block, at an index. -/
theorem out_eq (c : Dev nD) (n : ℕ) (h : n < cfg0.N) (r : Fin 1024) (j : Fin 512) :
    (outsAt0 m c n h).1 (ix3 0 r j) = ∑ k : Fin 2048, rows m c (ix2 r k) * (iblk m c 1 ⟨n, h⟩ : Vec Ideal S1x2048x512 .f32) (ix3 0 k j) := by
  have hN : cfg0.N = 16 := N_0
  cases n with
  | zero =>
    rw [outsAt0_A m c ⟨0, h⟩ rfl]
    dsimp only
    rw [out_A]
    unfold_payloads
    pointwise [blk0]
  | succ n =>
    have hB : ¬(⟨n + 1, h⟩ : Fin cfg0.N).val % 16 = 0 := by dsimp only; omega
    rw [outsAt0_B m c ⟨n + 1, h⟩ hB]
    dsimp only
    rw [out_B]
    unfold_payloads
    pointwise [scr_eq]

/-- The result array: per layer, the rows' product with that layer's matrix. -/
theorem G_apply (c : Dev nD) (l : Fin 4) (r : Fin 1024) (e : Fin 2048) :
    (Value.G2 m c : Vec Ideal S4x1024x2048 .f32) (ix3 l r e) = ∑ k : Fin 2048, rows m c (ix2 r k) * (m ((c : Thread nD τ).loc main_arg1) : Vec Ideal S4x2048x2048 .f32) (ix3 l k e) := by
  have hN : cfg0.N = 16 := N_0
  have hp : Value.pt2Of (ix3 l r e : S4x1024x2048.Idx) = 4 * l.val + e.val / 512 := by
    show 4 * (l.val / 1 - 0) + 4 * (r.val / 1024 - 0) + 1 * (e.val / 512 - 0) = _
    omega
  have hlt : Value.pt2Of (ix3 l r e : S4x1024x2048.Idx) < cfg0.N := by rw [hp, hN]; omega
  have hloc : Value.loc2Of (ix3 l r e : S4x1024x2048.Idx) = ix3 0 r ⟨e.val % 512, Nat.mod_lt _ (by decide)⟩ := by
    funext a
    apply Fin.ext
    match a with
    | ⟨0, _⟩ => show l.val % 1 = 0; omega
    | ⟨1, _⟩ => show r.val % 1024 = r.val; omega
    | ⟨2, _⟩ => rfl
  have e1 : (Value.G2 m c : Vec Ideal S4x1024x2048 .f32) (ix3 l r e) = (outsAt0 m c (Value.pt2Of (ix3 l r e : S4x1024x2048.Idx)) hlt).1 (ix3 0 r ⟨e.val % 512, Nat.mod_lt _ (by decide)⟩) := by
    unfold Value.G2
    rw [dif_pos hlt, hloc, ← Value.outsAt0_sweep m c _ hlt]
  rw [e1, out_eq]
  refine Finset.sum_congr (M := EReal) rfl fun k _ => ?_
  rw [blk1 m c _ k _ l e (by show l.val = Value.pt2Of (ix3 l r e : S4x1024x2048.Idx) / 4; rw [hp]; omega) (by show e.val = 512 * (Value.pt2Of (ix3 l r e : S4x1024x2048.Idx) % 4) + e.val % 512; rw [hp]; omega),
    V_main_arg1]

/-- The rows, read in the first argument. -/
theorem rows_apply (c : Dev nD) (r : Fin 1024) (k : Fin 2048) :
    rows m c (ix2 r k) = (m ((c : Thread nD τ).loc main_arg0) : Vec Ideal S4x256x2048 .f32) (ix3 ⟨r.val / 256, by omega⟩ ⟨r.val % 256, by omega⟩ k) := by
  have e : (V m c main_v0 : Vec Ideal S1024x2048 .f32) = shapeCast S1024x2048 (m ((c : Thread nD τ).loc main_arg0) : Vec Ideal S4x256x2048 .f32) shapeCasts_S4x256x2048_S1024x2048 := by
    unfold V hostOps0
    after_results <;> rfl
  show (V m c main_v0 : Vec Ideal S1024x2048 .f32) _ = _
  rw [e]
  generalize (m ((c : Thread nD τ).loc main_arg0) : Vec Ideal S4x256x2048 .f32) = x
  refine shapeCast_apply (s := S4x256x2048) (t := S1024x2048) x _ _ _ ?_
  rewrite [Shape.rowMajor_val_three, Shape.rowMajor_val_two]
  show (r.val / 256 * 256 + r.val % 256) * 2048 + k.val = r.val * 2048 + k.val
  omega

/-- The reference's value of the same arguments is the kernel's. -/
theorem value (c : Dev nD) :
    (Value.G2 m c : Vec Ideal S4x1024x2048 .f32) = Cert.Reference3Ideal.Read.val_main_v2 (F := Ideal)
      (m ((c : Thread nD τ).loc main_arg0)) (m ((c : Thread nD τ).loc main_arg1)) := by
  funext i
  idx_vars i
  rw [G_apply, Cert.Reference3Ideal.Read.val_main_v2_apply, Cert.Reference3Ideal.Read.val_main_v1_apply, Cert.Reference3Ideal.Read.val_main_v0_apply]
  refine Finset.sum_congr (M := EReal) rfl fun k _ => ?_
  rw [rows_apply, mul_comm]
  generalize (m ((c : Thread nD τ).loc main_arg0) : Vec Ideal S4x256x2048 .f32) = x
  generalize (m ((c : Thread nD τ).loc main_arg1) : Vec Ideal S4x2048x2048 .f32) = w
  congr 1
  · congr 1
    funext a
    apply Fin.ext
    match a with
    | ⟨0, _⟩ => show i0.val = ((i0.val * 1024 + i1.val) * 2048 + i2.val) / 2097152; omega
    | ⟨1, _⟩ => rfl
    | ⟨2, _⟩ => show i2.val = ((i0.val * 1024 + i1.val) * 2048 + i2.val) % 2048; omega
  · congr 1
    funext a
    apply Fin.ext
    match a with
    | ⟨0, _⟩ => show i1.val / 256 = ((i0.val * 1024 + i1.val) * 2048 + i2.val) / 524288 % 4; omega
    | ⟨1, _⟩ => show i1.val % 256 = ((i0.val * 1024 + i1.val) * 2048 + i2.val) / 2048 % 256; omega
    | ⟨2, _⟩ => rfl

end Cert.Kernel3Ideal.Mem

end
-- ==== Proof.MlpValue.lean ====
/-
  The value of the block of the perceptron (Kernel2): a grid point multiplies 512 rows by one column tile of the first
  matrix, squares what is positive, and multiplies by the matching row tile of the second; the products of the eight
  tiles are accumulated in the scratch, and the last point of a row block adds the scaled rows and normalises. At the
  ideal instance the eight partial sums are the one sum the reference contracts over.
-/
module

public import proofs.«01_k».proof.Defs
public import proofs.«01_k».proof.Proof.Gen.Kernel2Ideal.Value
public import proofs.«01_k».proof.Proof.Gen.Reference2Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel2Ideal.Mlp

open Cert.Kernel2Ideal Cert.Kernel2Ideal.Gen

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- One row of the layer normalisation the kernel and the reference end with. -/
def lnRow (y g b : Fin 2048 → EReal) (e : Fin 2048) : EReal :=
  (y e - Ideal.div (∑ x, y x) (Ideal.ofBits FTy.f32 1157627904#32))
    * Ideal.rsqrt (Ideal.div (∑ x, (y x - Ideal.div (∑ x, y x) (Ideal.ofBits FTy.f32 1157627904#32)) * (y x - Ideal.div (∑ x, y x) (Ideal.ofBits FTy.f32 1157627904#32)))
        (Ideal.ofBits FTy.f32 1157627904#32) + Ideal.ofBits FTy.f32 925353388#32)
    * g e + b e

/-- The squared positive part of one entry of the first product. -/
def act (xr : Fin 2048 → EReal) (w : Fin 2048 → EReal) : EReal :=
  max (∑ k, xr k * w k) 0 * max (∑ k, xr k * w k) 0

theorem pay2_apply (v15 : Vec Ideal S512x2048 .f32) (r : Fin 512) (k : Fin 2048) : k0_pay2 v15 (ix2 r k) = v15 (ix2 r k) := by
  unfold_payloads
  pointwise

theorem pay3_apply (v11 : Vec Ideal S2048x1024 .bf16) (v13 : Vec Ideal S1024x2048 .bf16) (v15 : Vec Ideal S512x2048 .f32) (r : Fin 512) (e : Fin 2048) :
    k0_pay3 v11 v13 v15 (ix2 r e) = ∑ f : Fin 1024, act (fun k => v15 (ix2 r k)) (fun k => v11 (ix2 k f)) * v13 (ix2 f e) := by
  unfold_payloads
  pointwise
  rfl

theorem pay4_apply (v11 : Vec Ideal S2048x1024 .bf16) (v13 : Vec Ideal S1024x2048 .bf16) (v15 : Vec Ideal S512x2048 .bf16) (v22 : Vec Ideal S512x2048 .f32) (r : Fin 512) (e : Fin 2048) :
    k0_pay4 v11 v13 v15 v22 (ix2 r e) = v22 (ix2 r e) + ∑ f : Fin 1024, act (fun k => v15 (ix2 r k)) (fun k => v11 (ix2 k f)) * v13 (ix2 f e) := by
  unfold_payloads
  pointwise
  rfl

/-- The scale of the kernel's residual. -/
abbrev al : EReal := Named.named (F := Ideal) κ "alpha" (φ := .f32) 1071072509#32

theorem first_apply (v11 : Vec Ideal S2048x1024 .bf16) (v13 : Vec Ideal S1024x2048 .bf16) (v15 : Vec Ideal S512x2048 .bf16) (v23 v25 : Vec Ideal S256x2048 .f32)
    (g b : Vec Ideal S1x1x2048 .f32) (r : Fin 256) (e : Fin 2048) :
    k0_pay11 (k0_pay7 g) (k0_pay8 b) (k0_pay9 v11 v13 v15 v23 v25) (k0_pay10 v11 v13 v15 v23 v25) (ix2 r e)
      = lnRow (fun e => al * v25 (ix2 r e) + (v23 (ix2 r e) + ∑ f : Fin 1024, act (fun k => v15 (ix2 ⟨r.val, by omega⟩ k)) (fun k => v11 (ix2 k f)) * v13 (ix2 f e)))
          (fun e => g (ix3 0 0 e)) (fun e => b (ix3 0 0 e)) e := by
  unfold_payloads
  pointwise
  rfl

theorem second_apply (v11 : Vec Ideal S2048x1024 .bf16) (v13 : Vec Ideal S1024x2048 .bf16) (v15 : Vec Ideal S512x2048 .bf16) (v23 v25 : Vec Ideal S256x2048 .f32)
    (g b : Vec Ideal S1x1x2048 .f32) (r : Fin 256) (e : Fin 2048) :
    k0_pay12 (k0_pay5 v13) (k0_pay6 v11 v15) v23 v25 g b (ix2 r e)
      = lnRow (fun e => al * v25 (ix2 r e) + (v23 (ix2 r e) + ∑ f : Fin 1024, act (fun k => v15 (ix2 ⟨256 + r.val, by omega⟩ k)) (fun k => v11 (ix2 k f)) * v13 (ix2 f e)))
          (fun e => g (ix3 0 0 e)) (fun e => b (ix3 0 0 e)) e := by
  unfold_payloads
  pointwise
  rfl

theorem ref_y (x : S8192x2048.Idx → Ideal .f32) (wu : S2048x8192.Idx → Ideal .f32) (wd : S8192x2048.Idx → Ideal .f32) (r : Fin 8192) (e : Fin 2048) :
    Cert.Reference2Ideal.Read.val_main_v8 (F := Ideal) x wu wd (ix2 r e)
      = Ideal.sqrt (Ideal.sqrt (Ideal.ofBits FTy.f32 1090519040#32)) * x (ix2 r e)
        + ∑ n : Fin 8192, act (fun k => x (ix2 r k)) (fun k => wu (ix2 k n)) * wd (ix2 n e) := by
  unfold Cert.Reference2Ideal.Read.val_main_v8 Cert.Reference2Ideal.Read.val_main_v7 Cert.Reference2Ideal.Read.val_main_v6 Cert.Reference2Ideal.Read.val_main_v5 Cert.Reference2Ideal.Read.val_main_v4 Cert.Reference2Ideal.Read.val_main_v3 Cert.Reference2Ideal.Read.val_main_v2 Cert.Reference2Ideal.Read.val_main_v1 Cert.Reference2Ideal.Read.val_main_v0 Cert.Reference2Ideal.Read.val_main_cst Cert.Reference2Ideal.Read.val_main_call0_v0 Cert.Reference2Ideal.Read.val_main_call0_cst
  pointwise
  rfl

theorem ref_ln (x : S8192x2048.Idx → Ideal .f32) (wu : S2048x8192.Idx → Ideal .f32) (wd : S8192x2048.Idx → Ideal .f32) (g b : S2048.Idx → Ideal .f32) (r : Fin 8192) (e : Fin 2048) :
    Cert.Reference2Ideal.Read.val_main_v32 (F := Ideal) x wu wd g b (ix2 r e)
      = lnRow (fun e => Cert.Reference2Ideal.Read.val_main_v8 (F := Ideal) x wu wd (ix2 r e)) (fun e => g (ix1 e)) (fun e => b (ix1 e)) e := by
  unfold Cert.Reference2Ideal.Read.val_main_v32 Cert.Reference2Ideal.Read.val_main_v31 Cert.Reference2Ideal.Read.val_main_v30 Cert.Reference2Ideal.Read.val_main_v29 Cert.Reference2Ideal.Read.val_main_v28 Cert.Reference2Ideal.Read.val_main_v27 Cert.Reference2Ideal.Read.val_main_v26 Cert.Reference2Ideal.Read.val_main_v25 Cert.Reference2Ideal.Read.val_main_v24 Cert.Reference2Ideal.Read.val_main_v23 Cert.Reference2Ideal.Read.val_main_v22 Cert.Reference2Ideal.Read.val_main_v21 Cert.Reference2Ideal.Read.val_main_v20 Cert.Reference2Ideal.Read.val_main_v19 Cert.Reference2Ideal.Read.val_main_v18 Cert.Reference2Ideal.Read.val_main_v17 Cert.Reference2Ideal.Read.val_main_v16 Cert.Reference2Ideal.Read.val_main_v15 Cert.Reference2Ideal.Read.val_main_v14 Cert.Reference2Ideal.Read.val_main_v13 Cert.Reference2Ideal.Read.val_main_v12 Cert.Reference2Ideal.Read.val_main_v11 Cert.Reference2Ideal.Read.val_main_v10 Cert.Reference2Ideal.Read.val_main_v9 Cert.Reference2Ideal.Read.val_main_cst_0 Cert.Reference2Ideal.Read.val_main_cst_1 Cert.Reference2Ideal.Read.val_main_cst_2 Cert.Reference2Ideal.Read.val_main_cst_3 Cert.Reference2Ideal.Read.val_main_cst_4
  generalize Cert.Reference2Ideal.Read.val_main_v8 (F := Ideal) x wu wd = y
  pointwise
  rfl

/-- The kernel's named scale is the reference's two roots of eight. -/
theorem al_eq : al = Ideal.sqrt (Ideal.sqrt (Ideal.ofBits FTy.f32 1090519040#32)) := by
  have e8 : Ideal.ofBits FTy.f32 1090519040#32 = ((8 : ℝ) : EReal) := by
    simp [Ideal.ofBits, Ideal.ieee, -EReal.coe_mul]; norm_num
  have ea : al = ((Real.sqrt (Real.sqrt 8) : ℝ) : EReal) := IdealRules.named_const.ideal_named_scalar _ _ _ _ rfl
  rw [ea, e8, Ideal.sqrt_coe, if_neg (by norm_num), Ideal.sqrt_coe, if_neg (not_lt.mpr (Real.sqrt_nonneg 8))]

section cases
variable (c : Dev nD) (i : grid0.Coords) (a2 : Memref sig .tc .vmem S512x2048 .f32) (h2 : a2.IsWhole) (a3 : Memref sig .tc .vmem S2048x1024 .bf16) (h3 : a3.IsWhole) (a4 : Memref sig .tc .vmem S1024x2048 .bf16) (h4 : a4.IsWhole) (a5 : Memref sig .tc .vmem S1x1x2048 .f32) (h5 : a5.IsWhole) (a6 : Memref sig .tc .vmem S1x1x2048 .f32) (h6 : a6.IsWhole) (a7 : Memref sig .tc .vmem S512x2048 .f32) (h7 : a7.IsWhole) (a8 : Memref sig .tc .vmem S512x2048 .bf16) (h8 : a8.IsWhole) (a9 : Memref sig .tc .vmem S512x2048 .f32) (h9 : a9.IsWhole)
  (x0 : Vec Ideal S512x2048 .f32) (x1 : Vec Ideal S2048x1024 .bf16) (x2 : Vec Ideal S1024x2048 .bf16) (x3 x4 : Vec Ideal S1x1x2048 .f32)

theorem sA0 (hc0 : cond0_0 i) (hc1 : ¬cond0_1 i) (hc2 : ¬cond0_2 i) : sout0_A_0 c i a2 h2 a3 h3 a4 h4 a5 h5 a6 h6 a7 h7 a8 h8 a9 h9 hc0 hc1 hc2 x0 x1 x2 x3 x4 = k0_pay2 x0 := by
  unfold sout0_A_0
  rw [View.read_writes_eq_canon _ _ _ (scover0_A_0 c i a2 h2 a3 h3 a4 h4 a5 h5 a6 h6 a7 h7 a8 h8 a9 h9 hc0 hc1 hc2 x0 x1 x2 x3 x4)]
  unfold kernelRun0_A
  dsimp only
  sl_unfold_words
  rw [View.canon_unit_zero (S := S512x2048) hz2]
  simp -proj only [View.readAt_eq_ld, h2.read_unread, View.ld_unit_zero (S := S512x2048) hz2]

theorem sA1 (hc0 : cond0_0 i) (hc1 : ¬cond0_1 i) (hc2 : ¬cond0_2 i) : sout0_A_1 c i a2 h2 a3 h3 a4 h4 a5 h5 a6 h6 a7 h7 a8 h8 a9 h9 hc0 hc1 hc2 x0 x1 x2 x3 x4 = k0_pay3 x1 x2 x0 := by
  unfold sout0_A_1
  rw [View.read_writes_eq_canon _ _ _ (scover0_A_1 c i a2 h2 a3 h3 a4 h4 a5 h5 a6 h6 a7 h7 a8 h8 a9 h9 hc0 hc1 hc2 x0 x1 x2 x3 x4)]
  unfold kernelRun0_A
  dsimp only
  sl_unfold_words
  rw [View.canon_unit_zero (S := S512x2048) hz2]
  simp -proj only [View.readAt_eq_ld, h2.read_unread, h3.read_unread, h4.read_unread, View.ld_unit_zero (S := S512x2048) hz2, View.ld_unit_zero (S := S2048x1024) hz2, View.ld_unit_zero (S := S1024x2048) hz2]

theorem sB1 (hc0 : ¬cond0_0 i) (hc1 : cond0_1 i) (hc2 : ¬cond0_2 i) (xs0 : Vec Ideal S512x2048 .bf16) (xs1 : Vec Ideal S512x2048 .f32) :
    sout0_B_1 c i a2 h2 a3 h3 a4 h4 a5 h5 a6 h6 a7 h7 a8 h8 a9 h9 hc0 hc1 hc2 x0 x1 x2 x3 x4 xs0 xs1 = k0_pay4 x1 x2 xs0 xs1 := by
  unfold sout0_B_1
  rw [View.read_writes_eq_canon _ _ _ (scover0_B_1 c i a2 h2 a3 h3 a4 h4 a5 h5 a6 h6 a7 h7 a8 h8 a9 h9 hc0 hc1 hc2 x0 x1 x2 x3 x4 xs0 xs1)]
  unfold kernelRun0_B
  dsimp only
  sl_unfold_words
  rw [View.canon_unit_zero (S := S512x2048) hz2]
  simp -proj only [View.readAt_eq_ld, h3.read_unread, h4.read_unread, h8.read_unread, h9.read_unread, View.ld_unit_zero (S := S512x2048) hz2, View.ld_unit_zero (S := S2048x1024) hz2, View.ld_unit_zero (S := S1024x2048) hz2]

theorem oC (hc0 : ¬cond0_0 i) (hc1 : ¬cond0_1 i) (hc2 : cond0_2 i) (xs0 : Vec Ideal S512x2048 .bf16) (xs1 : Vec Ideal S512x2048 .f32) (r : Fin 512) (e : Fin 2048) :
    out0_C_5 c i a2 h2 a3 h3 a4 h4 a5 h5 a6 h6 a7 h7 a8 h8 a9 h9 hc0 hc1 hc2 x0 x1 x2 x3 x4 xs0 xs1 (ix2 r e)
      = lnRow (fun e => al * x0 (ix2 r e) + (xs1 (ix2 r e) + ∑ f : Fin 1024, act (fun k => xs0 (ix2 r k)) (fun k => x1 (ix2 k f)) * x2 (ix2 f e)))
          (fun e => x3 (ix3 0 0 e)) (fun e => x4 (ix3 0 0 e)) e := by
  unfold out0_C_5
  rw [View.read_writes_eq_canon _ _ _ (cover0_C_5 c i a2 h2 a3 h3 a4 h4 a5 h5 a6 h6 a7 h7 a8 h8 a9 h9 hc0 hc1 hc2 x0 x1 x2 x3 x4 xs0 xs1)]
  unfold kernelRun0_C
  dsimp only
  sl_unfold_words
  simp -proj only [View.readAt_eq_ld, h2.read_unread, h3.read_unread, h4.read_unread, h5.read_unread, h6.read_unread, h8.read_unread, h9.read_unread, View.ld_unit_zero (S := S512x2048) hz2, View.ld_unit_zero (S := S2048x1024) hz2, View.ld_unit_zero (S := S1024x2048) hz2, View.ld_unit_zero (S := S1x1x2048) hz3]
  by_cases hr : r.val < 256
  · rw [View.canon_cons_of_not_mem _ _ (by
      rw [Rect.mem_set_unit]
      intro h
      have h1 := (h 0).1
      change 256 ≤ r.val at h1
      omega)]
    have ej : (ix2 r e : S512x2048.Idx) = (Rect.unit (s := S512x2048) ![0, 0] ![256, 2048] inb_S512x2048_S256x2048_0_0).emb (ix2 (⟨r.val, hr⟩ : Fin 256) e) := by
      funext a
      apply Fin.ext
      match a with
      | ⟨0, _⟩ => show r.val = 0 + 1 * r.val; omega
      | ⟨1, _⟩ => show e.val = 0 + 1 * e.val; omega
    rw [ej, View.canon_cons_emb, first_apply]
    have e0 : ∀ (X : Vec Ideal S512x2048 .f32) (e : Fin 2048), View.ld X (Rect.unit (s := S512x2048) ![0, 0] S256x2048.size inb_S512x2048_S256x2048_0_0) (ix2 (⟨r.val, hr⟩ : Fin 256) e) = X (ix2 r e) := fun X e =>
      congrArg X (funext fun a => Fin.ext (by
        match a with
        | ⟨0, _⟩ => show 0 + 1 * r.val = r.val; omega
        | ⟨1, _⟩ => show 0 + 1 * e.val = e.val; omega))
    exact congrArg (fun y => lnRow y _ _ e) (funext fun e => congrArg₂ (· + ·) (congrArg (al * ·) (e0 x0 e)) (congrArg₂ (· + ·) (e0 xs1 e) rfl))
  · have ej : (ix2 r e : S512x2048.Idx) = (Rect.unit (s := S512x2048) ![256, 0] ![256, 2048] inb_S512x2048_S256x2048_256_0).emb (ix2 (⟨r.val - 256, by omega⟩ : Fin 256) e) := by
      funext a
      apply Fin.ext
      match a with
      | ⟨0, _⟩ => show r.val = 256 + 1 * (r.val - 256); omega
      | ⟨1, _⟩ => show e.val = 0 + 1 * e.val; omega
    rw [ej, View.canon_cons_emb, second_apply]
    have e0 : ∀ (X : Vec Ideal S512x2048 .f32) (e : Fin 2048), View.ld X (Rect.unit (s := S512x2048) ![256, 0] S256x2048.size inb_S512x2048_S256x2048_256_0) (ix2 (⟨r.val - 256, by omega⟩ : Fin 256) e) = X (ix2 r e) := fun X e =>
      congrArg X (funext fun a => Fin.ext (by
        match a with
        | ⟨0, _⟩ => show 256 + 1 * (r.val - 256) = r.val; omega
        | ⟨1, _⟩ => show 0 + 1 * e.val = e.val; omega))
    have e1 : (⟨256 + (r.val - 256), by omega⟩ : Fin 512) = r := Fin.ext (by show 256 + (r.val - 256) = r.val; omega)
    exact congrArg (fun y => lnRow y _ _ e) (funext fun e => congrArg₂ (· + ·) (congrArg (al * ·) (e0 x0 e)) (congrArg₂ (· + ·) (e0 xs1 e) (by rw [e1])))
end cases

/-! ## The arrays and the blocks of a point -/

/-- The rows, the two matrices, and the normalisation's two vectors, as the arguments hold them. -/
abbrev X (c : Dev nD) : Vec Ideal S8192x2048 .f32 := m ((c : Thread nD τ).loc main_arg0)
abbrev WU (c : Dev nD) : Vec Ideal S2048x8192 .f32 := m ((c : Thread nD τ).loc main_arg1)
abbrev WD (c : Dev nD) : Vec Ideal S8192x2048 .f32 := m ((c : Thread nD τ).loc main_arg2)
abbrev G (c : Dev nD) : Vec Ideal S2048 .f32 := m ((c : Thread nD τ).loc main_arg3)
abbrev B (c : Dev nD) : Vec Ideal S2048 .f32 := m ((c : Thread nD τ).loc main_arg4)

theorem V0_apply (c : Dev nD) (k : Fin 2048) (n : Fin 8192) : (V m c main_v0 : Vec Ideal S2048x8192 .bf16) (ix2 k n) = WU m c (ix2 k n) := by
  have e : (V m c main_v0 : Vec Ideal S2048x8192 .bf16) = (truncf .bf16 (WU m c : FVec Ideal S2048x8192 .f32) bitsLt_bf16_f32 : FVec Ideal S2048x8192 .bf16) := by
    unfold V hostOps0
    after_results <;> rfl
  rw [e]
  pointwise

theorem V1_apply (c : Dev nD) (n : Fin 8192) (k : Fin 2048) : (V m c main_v1 : Vec Ideal S8192x2048 .bf16) (ix2 n k) = WD m c (ix2 n k) := by
  have e : (V m c main_v1 : Vec Ideal S8192x2048 .bf16) = (truncf .bf16 (WD m c : FVec Ideal S8192x2048 .f32) bitsLt_bf16_f32 : FVec Ideal S8192x2048 .bf16) := by
    unfold V hostOps0
    after_results <;> rfl
  rw [e]
  pointwise

theorem V2_apply (c : Dev nD) (k : Fin 2048) : (V m c main_v2 : Vec Ideal S1x1x2048 .f32) (ix3 0 0 k) = G m c (ix1 k) := by
  have e : (V m c main_v2 : Vec Ideal S1x1x2048 .f32) = broadcastInDim S1x1x2048 ![2] bcast_S2048_S1x1x2048_2 (G m c) := by
    unfold V hostOps0
    after_results <;> rfl
  rw [e]
  pointwise

theorem V3_apply (c : Dev nD) (k : Fin 2048) : (V m c main_v3 : Vec Ideal S1x1x2048 .f32) (ix3 0 0 k) = B m c (ix1 k) := by
  have e : (V m c main_v3 : Vec Ideal S1x1x2048 .f32) = broadcastInDim S1x1x2048 ![2] bcast_S2048_S1x1x2048_2 (B m c) := by
    unfold V hostOps0
    after_results <;> rfl
  rw [e]
  pointwise

theorem idx0 : ∀ t : Fin cfg0.N, win0_0.index t 0 = t.val / 8 ∧ win0_0.index t 1 = 0 :=
  (by decide +kernel : ∀ t : Fin grid0.N, _)
theorem idx1 : ∀ t : Fin cfg0.N, win0_1.index t 0 = 0 ∧ win0_1.index t 1 = t.val % 8 :=
  (by decide +kernel : ∀ t : Fin grid0.N, _)
theorem idx2 : ∀ t : Fin cfg0.N, win0_2.index t 0 = t.val % 8 ∧ win0_2.index t 1 = 0 :=
  (by decide +kernel : ∀ t : Fin grid0.N, _)
theorem idx3 : ∀ t : Fin cfg0.N, win0_3.index t 0 = 0 ∧ win0_3.index t 1 = 0 ∧ win0_3.index t 2 = 0 :=
  (by decide +kernel : ∀ t : Fin grid0.N, _)
theorem idx4 : ∀ t : Fin cfg0.N, win0_4.index t 0 = 0 ∧ win0_4.index t 1 = 0 ∧ win0_4.index t 2 = 0 :=
  (by decide +kernel : ∀ t : Fin grid0.N, _)

theorem blk0 (c : Dev nD) (t : Fin cfg0.N) (r : Fin 512) (k : Fin 2048) (R : Fin 8192) (hR : R.val = 512 * (t.val / 8) + r.val) :
    (iblk m c 0 t : Vec Ideal S512x2048 .f32) (ix2 r k) = X m c (ix2 R k) := by
  rw [show X m c = V m c main_arg0 from (V_main_arg0 m c).symm]
  unfold iblk
  rw [View.read_apply]
  show V m c main_arg0 _ = V m c main_arg0 _
  congr 1
  funext a
  apply Fin.ext
  match a with
  | ⟨0, _⟩ => show win0_0.index t 0 * 512 + 1 * r.val = R.val; rw [(idx0 t).1]; omega
  | ⟨1, _⟩ => show win0_0.index t 1 * 2048 + 1 * k.val = k.val; rw [(idx0 t).2]; omega

theorem blk1 (c : Dev nD) (t : Fin cfg0.N) (k : Fin 2048) (f : Fin 1024) (n : Fin 8192) (hn : n.val = 1024 * (t.val % 8) + f.val) :
    (iblk m c 1 t : Vec Ideal S2048x1024 .bf16) (ix2 k f) = WU m c (ix2 k n) := by
  rw [← V0_apply]
  unfold iblk
  rw [View.read_apply]
  show V m c main_v0 _ = V m c main_v0 _
  congr 1
  funext a
  apply Fin.ext
  match a with
  | ⟨0, _⟩ => show win0_1.index t 0 * 2048 + 1 * k.val = k.val; rw [(idx1 t).1]; omega
  | ⟨1, _⟩ => show win0_1.index t 1 * 1024 + 1 * f.val = n.val; rw [(idx1 t).2]; omega

theorem blk2 (c : Dev nD) (t : Fin cfg0.N) (f : Fin 1024) (k : Fin 2048) (n : Fin 8192) (hn : n.val = 1024 * (t.val % 8) + f.val) :
    (iblk m c 2 t : Vec Ideal S1024x2048 .bf16) (ix2 f k) = WD m c (ix2 n k) := by
  rw [← V1_apply]
  unfold iblk
  rw [View.read_apply]
  show V m c main_v1 _ = V m c main_v1 _
  congr 1
  funext a
  apply Fin.ext
  match a with
  | ⟨0, _⟩ => show win0_2.index t 0 * 1024 + 1 * f.val = n.val; rw [(idx2 t).1]; omega
  | ⟨1, _⟩ => show win0_2.index t 1 * 2048 + 1 * k.val = k.val; rw [(idx2 t).2]; omega

theorem blk3 (c : Dev nD) (t : Fin cfg0.N) (k : Fin 2048) : (iblk m c 3 t : Vec Ideal S1x1x2048 .f32) (ix3 0 0 k) = G m c (ix1 k) := by
  rw [← V2_apply]
  unfold iblk
  rw [View.read_apply]
  show V m c main_v2 _ = V m c main_v2 _
  congr 1
  funext a
  apply Fin.ext
  match a with
  | ⟨0, _⟩ => show win0_3.index t 0 * 1 + 1 * 0 = 0; rw [(idx3 t).1]
  | ⟨1, _⟩ => show win0_3.index t 1 * 1 + 1 * 0 = 0; rw [(idx3 t).2.1]
  | ⟨2, _⟩ => show win0_3.index t 2 * 2048 + 1 * k.val = k.val; rw [(idx3 t).2.2]; omega

theorem blk4 (c : Dev nD) (t : Fin cfg0.N) (k : Fin 2048) : (iblk m c 4 t : Vec Ideal S1x1x2048 .f32) (ix3 0 0 k) = B m c (ix1 k) := by
  rw [← V3_apply]
  unfold iblk
  rw [View.read_apply]
  show V m c main_v3 _ = V m c main_v3 _
  congr 1
  funext a
  apply Fin.ext
  match a with
  | ⟨0, _⟩ => show win0_4.index t 0 * 1 + 1 * 0 = 0; rw [(idx4 t).1]
  | ⟨1, _⟩ => show win0_4.index t 1 * 1 + 1 * 0 = 0; rw [(idx4 t).2.1]
  | ⟨2, _⟩ => show win0_4.index t 2 * 2048 + 1 * k.val = k.val; rw [(idx4 t).2.2]; omega

/-! ## The sum over the hidden units, tile by tile -/

/-- Hidden unit `n`'s part of entry `(R, e)` of the second product. -/
def tr (c : Dev nD) (R : Fin 8192) (e : Fin 2048) (n : ℕ) : EReal :=
  if h : n < 8192 then act (fun k => X m c (ix2 R k)) (fun k => WU m c (ix2 k ⟨n, h⟩)) * WD m c (ix2 ⟨n, h⟩ e) else 0

/-- A point's product is the part of its own 1024 hidden units. -/
theorem tile_eq (c : Dev nD) (t : Fin cfg0.N) (xr : Fin 2048 → EReal) (R : Fin 8192) (e : Fin 2048) (hx : ∀ k, xr k = X m c (ix2 R k)) :
    ∑ f : Fin 1024, act xr (fun k => (iblk m c 1 t : Vec Ideal S2048x1024 .bf16) (ix2 k f)) * (iblk m c 2 t : Vec Ideal S1024x2048 .bf16) (ix2 f e)
      = ∑ f ∈ Finset.range 1024, tr m c R e (1024 * (t.val % 8) + f) := by
  rw [← Fin.sum_univ_eq_sum_range (fun f => tr m c R e (1024 * (t.val % 8) + f)) 1024]
  refine Finset.sum_congr (M := EReal) rfl fun f _ => ?_
  have hn : 1024 * (t.val % 8) + f.val < 8192 := by omega
  rw [tr, dif_pos hn, blk2 m c t f e ⟨_, hn⟩ rfl, show xr = fun k => X m c (ix2 R k) from funext hx]
  congr 2
  funext k
  exact blk1 m c t k f ⟨_, hn⟩ rfl

/-- After every point but a row block's last, the scratches hold the rows and the sum over the tiles so far. -/
theorem inv (c : Dev nD) (n : ℕ) (h : n < cfg0.N) (hq : n % 8 ≤ 6) (r : Fin 512) (R : Fin 8192) (hR : R.val = 512 * (n / 8) + r.val) :
    (∀ k, (outsAt0 m c n h).2.1 (ix2 r k) = X m c (ix2 R k))
      ∧ ∀ e, (outsAt0 m c n h).2.2 (ix2 r e) = ∑ f ∈ Finset.range (1024 * (n % 8 + 1)), tr m c R e f := by
  have first : ∀ t : Fin cfg0.N, t.val % 8 = 0 → R.val = 512 * (t.val / 8) + r.val →
      (∀ k, (outsAt0 m c t.val t.isLt).2.1 (ix2 r k) = X m c (ix2 R k))
      ∧ ∀ e, (outsAt0 m c t.val t.isLt).2.2 (ix2 r e) = ∑ f ∈ Finset.range (1024 * (t.val % 8 + 1)), tr m c R e f := by
    intro t h0 hR
    rw [outsAt0_A m c t h0 (by omega) (by omega)]
    dsimp only
    rw [sA0, sA1]
    refine ⟨fun k => ?_, fun e => ?_⟩
    · rw [pay2_apply]; exact blk0 m c t r k R hR
    · rw [pay3_apply, tile_eq m c t _ R e (fun k => blk0 m c t r k R hR), h0]
      simp only [Nat.mul_zero, Nat.zero_add, Nat.mul_one]
  induction n with
  | zero => exact first ⟨0, h⟩ rfl hR
  | succ n ih =>
    by_cases h0 : (n + 1) % 8 = 0
    · exact first ⟨n + 1, h⟩ h0 hR
    · have ih' := ih (Nat.lt_of_succ_lt h) (by omega) (by omega)
      rw [outsAt0_B m c ⟨n + 1, h⟩ h0 (by dsimp only; omega) (by dsimp only; omega)]
      dsimp only
      rw [sB1]
      refine ⟨fun k => ih'.1 k, fun e => ?_⟩
      rw [pay4_apply, tile_eq m c ⟨n + 1, h⟩ (fun k => (outsAt0 m c (n + 1 - 1) (Nat.lt_of_le_of_lt (Nat.sub_le _ _) h)).2.1 (ix2 r k)) R e (fun k => ih'.1 k)]
      have e2 : (outsAt0 m c (n + 1 - 1) (Nat.lt_of_le_of_lt (Nat.sub_le _ _) h)).2.2 (ix2 r e) = ∑ f ∈ Finset.range (1024 * (n % 8 + 1)), tr m c R e f := ih'.2 e
      rw [e2]
      have e3 : 1024 * ((n + 1) % 8 + 1) = 1024 * (n % 8 + 1) + 1024 := by omega
      have e4 : 1024 * ((n + 1) % 8) = 1024 * (n % 8 + 1) := by omega
      rw [e3, Finset.sum_range_add]
      dsimp only
      rw [e4]

/-- What the last point of a row block leaves in its block. -/
theorem out_eq (c : Dev nD) (n : ℕ) (h : n < cfg0.N) (hq : n % 8 = 7) (r : Fin 512) (R : Fin 8192) (hR : R.val = 512 * (n / 8) + r.val) (e : Fin 2048) :
    (outsAt0 m c n h).1 (ix2 r e) = lnRow (fun e => al * X m c (ix2 R e) + ∑ f : Fin 8192, act (fun k => X m c (ix2 R k)) (fun k => WU m c (ix2 k f)) * WD m c (ix2 f e))
      (fun e => G m c (ix1 e)) (fun e => B m c (ix1 e)) e := by
  have hp : n - 1 < cfg0.N := by omega
  have hi := inv m c (n - 1) hp (by omega) r R (by omega)
  rw [outsAt0_C m c ⟨n, h⟩ (by dsimp only; omega) (by dsimp only; omega) hq]
  dsimp only
  rw [oC]
  congr 1
  · funext e
    rw [tile_eq m c ⟨n, h⟩ _ R e (fun k => hi.1 k), blk0 m c ⟨n, h⟩ r e R hR]
    congr 1
    rw [hi.2 e]
    have e3 : (n - 1) % 8 + 1 = 7 := by omega
    have hn : (⟨n, h⟩ : Fin cfg0.N).val % 8 = 7 := hq
    rw [e3, hn, ← Finset.sum_range_add (fun f => tr m c R e f) (1024 * 7) 1024, ← Fin.sum_univ_eq_sum_range (fun f => tr m c R e f)]
    refine Finset.sum_congr (M := EReal) rfl fun f _ => ?_
    unfold tr
    rw [dif_pos f.isLt]
  · funext e; exact blk3 m c ⟨n, h⟩ e
  · funext e; exact blk4 m c ⟨n, h⟩ e

/-- The reference's value of the same arguments is the kernel's. -/
theorem value (c : Dev nD) :
    (Value.G5 m c : Vec Ideal S8192x2048 .f32) = Cert.Reference2Ideal.Read.val_main_v32 (F := Ideal) (X m c) (WU m c) (WD m c) (G m c) (B m c) := by
  funext i
  idx_vars i
  have hN : cfg0.N = 128 := N_0
  have hp : Value.pt5Of (ix2 i0 i1 : S8192x2048.Idx) = 8 * (i0.val / 512) + 7 := by
    show 8 * (1 * (i0.val / 512 - 0) + 1 * (i1.val / 2048 - 0)) + 7 = _
    omega
  have hlt : Value.pt5Of (ix2 i0 i1 : S8192x2048.Idx) < cfg0.N := by rw [hp, hN]; omega
  have hloc : Value.loc5Of (ix2 i0 i1 : S8192x2048.Idx) = ix2 ⟨i0.val % 512, Nat.mod_lt _ (by decide)⟩ i1 := by
    funext a
    apply Fin.ext
    match a with
    | ⟨0, _⟩ => rfl
    | ⟨1, _⟩ => show i1.val % 2048 = i1.val; omega
  have e1 : (Value.G5 m c : Vec Ideal S8192x2048 .f32) (ix2 i0 i1) = (outsAt0 m c (Value.pt5Of (ix2 i0 i1 : S8192x2048.Idx)) hlt).1 (ix2 ⟨i0.val % 512, Nat.mod_lt _ (by decide)⟩ i1) := by
    unfold Value.G5
    rw [dif_pos hlt, hloc, ← Value.outsAt0_sweep m c _ hlt]
  rw [e1, out_eq m c _ hlt (by rw [hp]; omega) _ i0 (by rw [hp]; show i0.val = 512 * ((8 * (i0.val / 512) + 7) / 8) + i0.val % 512; omega), ref_ln]
  congr 1
  funext e
  rw [ref_y, al_eq]

end Cert.Kernel2Ideal.Mlp

end
-- ==== Proof.InProjSpec.lean ====
/-
  Plain functions of extended reals that the input projection's blocks and its reference both reduce to: a row's scaled
  root-mean-square norm, and the rotation of a row's two halves by a position's angles.
-/
module

public import Idealize.ShloMosaic.Lib.Pointwise
public import Idealize.ShloMosaic.Lib.Tactic

@[expose] public section

noncomputable section

open Idealize.ShloMosaic

namespace Cert.InProjSpec

/-- One entry of a row divided by the row's root mean square, times a gain. -/
def rms {n : ℕ} (f : Fin n → EReal) (N : BitVec 32) (g : EReal) (j : Fin n) : EReal :=
  f j * Ideal.rsqrt (Ideal.div (∑ x, f x * f x) (Ideal.ofBits .f32 N) + Ideal.ofBits .f32 897988541#32) * g

/-- A row of two halves rotated by the angles whose cosines and sines are given. -/
def rot (f : Fin 64 → EReal) (co si : Fin 32 → EReal) (j : Fin 64) : EReal :=
  if h : j.val < 32 then f ⟨j.val, by omega⟩ * co ⟨j.val, h⟩ - f ⟨32 + j.val, by omega⟩ * si ⟨j.val, h⟩
  else f ⟨j.val - 32, by omega⟩ * si ⟨j.val - 32, by omega⟩ + f ⟨32 + (j.val - 32), by omega⟩ * co ⟨j.val - 32, by omega⟩

/-- The lane's comparison that picks the half to exchange with: whether the lane, reduced by the word's remainder, is in the first half. -/
def laneBit (j : ℕ) : BitVec 1 :=
  IntOp.cmpi CmpIPredicate.slt
    (Scalar.select
      (IntOp.andi
        (IntOp.xori
          (IntOp.cmpi CmpIPredicate.slt
            (IntOp.remsi ArithUnit.vector (BitVec.ofNat 32 j)
              (Scalar.select (Scalar.cmpi CmpIPredicate.eq 64#32 0#32) 1#32 64#32))
            0#32)
          (Scalar.cmpi CmpIPredicate.slt (Scalar.select (Scalar.cmpi CmpIPredicate.eq 64#32 0#32) 1#32 64#32)
            0#32))
        (IntOp.cmpi CmpIPredicate.ne
          (IntOp.remsi ArithUnit.vector (BitVec.ofNat 32 j)
            (Scalar.select (Scalar.cmpi CmpIPredicate.eq 64#32 0#32) 1#32 64#32))
          0#32))
      (IntOp.addi
        (IntOp.remsi ArithUnit.vector (BitVec.ofNat 32 j)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 j)
        (Scalar.select (Scalar.cmpi CmpIPredicate.eq 64#32 0#32) 1#32 64#32)))
    32#32

theorem laneBit_eq : ∀ j : Fin 64, laneBit j.val = if j.val < 32 then 1#1 else 0#1 := by decide +kernel

/-- The kernel's form of the rotation: each lane times its cosine, plus the other half's lane times a signed sine. -/
theorem rot_lanes (f : Fin 64 → EReal) (co si : Fin 32 → EReal) (j : Fin 64) (A B sg : EReal) (cj : EReal)
    (hc : cj = co ⟨j.val % 32, by omega⟩) (hs : sg = if j.val % 64 < 32 then - si ⟨j.val % 32, by omega⟩ else si ⟨j.val % 32, by omega⟩)
    (hA : ∀ h : j.val < 32, A = f ⟨32 + j.val, by omega⟩) (hB : ∀ h : ¬ j.val < 32, B = f ⟨j.val - 32, by omega⟩) :
    f j * cj + Scalar.select (laneBit j.val) A B * sg = rot f co si j := by
  have hj : j.val < 64 := j.isLt
  rw [hc, hs, laneBit_eq j]
  unfold rot
  by_cases h : j.val < 32
  · have e : (⟨j.val % 32, by omega⟩ : Fin 32) = ⟨j.val, h⟩ := Fin.ext (by show j.val % 32 = j.val; omega)
    rw [if_pos h, if_pos (by omega), dif_pos h, hA h, e]
    show f j * co _ + f _ * -si _ = _
    rw [mul_neg, ← sub_eq_add_neg]
  · have e : (⟨j.val % 32, by omega⟩ : Fin 32) = ⟨j.val - 32, by omega⟩ := Fin.ext (by show j.val % 32 = j.val - 32; omega)
    have e2 : (⟨32 + (j.val - 32), by omega⟩ : Fin 64) = j := Fin.ext (by show 32 + (j.val - 32) = j.val; omega)
    rw [if_neg h, if_neg (by omega), dif_neg h, hB h, e, e2]
    show f j * co _ + f _ * si _ = _
    rw [add_comm]

end Cert.InProjSpec

end
-- ==== Proof.InProjValue.lean ====
/-
  The value of the input projection (Kernel4) at the ideal instance, block by block: the product's columns, the two
  latents' columns normed by their root mean square, and the key's columns rotated by the position — index by index what
  the reference computes from the reshaped rows.
-/
module

public import proofs.«01_k».proof.Defs
public import proofs.«01_k».proof.Proof.InProjSpec
public import proofs.«01_k».proof.Proof.Gen.Kernel4Ideal.Value
public import proofs.«01_k».proof.Proof.Gen.Reference4Ideal.Read
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open Cert.InProjSpec

namespace Cert.Reference4Ideal.InProj
open Cert.Reference4Ideal Cert.Reference4Ideal.Read

variable (x0 : Vec Ideal S8192x2048 .f32) (x1 : Vec Ideal S2048x2880 .f32) (x2 : Vec Ideal S512 .f32) (x3 : Vec Ideal S256 .f32)

/-- The product's entry. -/
def z (R : Fin 8192) (j : Fin 2880) : EReal := ∑ k : Fin 2048, x0 (ix2 R k) * x1 (ix2 k j)

theorem z_apply (R : Fin 8192) (b : Fin 4) (t : Fin 2048) (hb : b.val = R.val / 2048) (ht : t.val = R.val % 2048) (j : Fin 2880) :
    val_main_v4 x0 x1 (ix3 b t j) = z x0 x1 R j := by
  have hR : (⟨b.val * 2048 + t.val, by omega⟩ : Fin 8192) = R := Fin.ext (by show b.val * 2048 + t.val = R.val; omega)
  rw [← hR]
  unfold val_main_v4 val_main_v3
  pointwise
  rfl

theorem r40 (r : Fin 8192) (j : Fin 2048) : val_main_v40 x0 x1 (ix2 r j) = z x0 x1 r ⟨j.val, by omega⟩ := by
  have hz := z_apply x0 x1 r ⟨r.val / 2048, by omega⟩ ⟨r.val % 2048, by omega⟩ rfl rfl
  unfold val_main_v40 val_main_v5
  generalize val_main_v4 x0 x1 = zz at hz ⊢
  pointwise
  exact hz _

theorem r55 (r : Fin 8192) (j : Fin 512) : val_main_v55 x0 x1 x2 (ix2 r j) = rms (fun i : Fin 512 => z x0 x1 r ⟨2048 + i.val, by omega⟩) 1140850688#32 (x2 (ix1 j)) j := by
  have hz := z_apply x0 x1 r ⟨r.val / 2048, by omega⟩ ⟨r.val % 2048, by omega⟩ rfl rfl
  unfold val_main_v55 val_main_v54 val_main_v53 val_main_v52 val_main_v51 val_main_v50 val_main_v49 val_main_v48 val_main_v47 val_main_v46 val_main_v45 val_main_v44 val_main_v43 val_main_v42 val_main_v41 val_main_v6 val_main_cst_1 val_main_cst_2 val_main_cst_3
  generalize val_main_v4 x0 x1 = zz at hz ⊢
  pointwise
  simp only [hz]
  rfl

theorem r69 (r : Fin 8192) (j : Fin 256) : val_main_v69 x0 x1 x3 (ix2 r j) = rms (fun i : Fin 256 => z x0 x1 r ⟨2560 + i.val, by omega⟩) 1132462080#32 (x3 (ix1 j)) j := by
  have hz := z_apply x0 x1 r ⟨r.val / 2048, by omega⟩ ⟨r.val % 2048, by omega⟩ rfl rfl
  unfold val_main_v69 val_main_v68 val_main_v67 val_main_v66 val_main_v65 val_main_v64 val_main_v63 val_main_v62 val_main_v61 val_main_v60 val_main_v59 val_main_v58 val_main_v57 val_main_v56 val_main_v7 val_main_cst_4 val_main_cst_5 val_main_cst_6
  generalize val_main_v4 x0 x1 = zz at hz ⊢
  pointwise
  simp only [hz]
  rfl

theorem r70 (r : Fin 8192) (j : Fin 64) : val_main_v70 x0 x1 (ix2 r j) = rot (fun i : Fin 64 => z x0 x1 r ⟨2816 + i.val, by omega⟩)
    (fun i => val_main_v21 (F := Ideal) (ix2 ⟨r.val % 2048, by omega⟩ i)) (fun i => val_main_v22 (F := Ideal) (ix2 ⟨r.val % 2048, by omega⟩ i)) j := by
  have hz := z_apply x0 x1 r ⟨r.val / 2048, by omega⟩ ⟨r.val % 2048, by omega⟩ rfl rfl
  unfold val_main_v70 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v8
  generalize val_main_v4 x0 x1 = zz at hz ⊢
  generalize val_main_v21 (F := Ideal) = C
  generalize val_main_v22 (F := Ideal) = S
  pointwise
  simp only [hz]
  rfl

end Cert.Reference4Ideal.InProj

namespace Cert.Kernel4Ideal.InProj

open Cert.Kernel4Ideal Cert.Kernel4Ideal.Gen

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

section Blocks

variable (x0 : Vec Ideal S512x2048 .f32) (x1 : Vec Ideal S1x2048x2880 .bf16) (x2 : Vec Ideal S1x1x512 .f32) (x3 : Vec Ideal S1x1x256 .f32) (x4 : Vec Ideal S512x128 .f32) (x5 : Vec Ideal S512x128 .f32)

theorem ld1 (k : Fin 2048) (j : Fin 832) : View.ld x1 r0_1 (ix3 0 k j) = x1 (ix3 0 k ⟨2048 + j.val, by omega⟩) := by
  show x1 _ = x1 _
  congr 1
  funext a
  apply Fin.ext
  match a with
  | ⟨0, _⟩ => rfl
  | ⟨1, _⟩ => show 0 + 1 * k.val = k.val; omega
  | ⟨2, _⟩ => show 2048 + 1 * j.val = 2048 + j.val; omega

theorem ld8 (k : Fin 2048) (j : Fin 2048) : View.ld x1 r0_8 (ix3 0 k j) = x1 (ix3 0 k ⟨j.val, by omega⟩) := by
  show x1 _ = x1 _
  congr 1
  funext a
  apply Fin.ext
  match a with
  | ⟨0, _⟩ => rfl
  | ⟨1, _⟩ => show 0 + 1 * k.val = k.val; omega
  | ⟨2, _⟩ => show 0 + 1 * j.val = j.val; omega

/-- The block's product entry. -/
def zb (r : Fin 512) (j : Fin 2880) : EReal := ∑ k : Fin 2048, x0 (ix2 r k) * x1 (ix3 0 k j)

theorem o6 (r : Fin 512) (j : Fin 2048) : out0_6 x0 x1 x2 x3 x4 x5 (ix2 r j) = zb x0 x1 r ⟨j.val, by omega⟩ := by
  unfold out0_6
  rw [View.canon_unit_zero (S := S512x2048) hz2]
  simp -proj only [View.ld_unit_zero (S := S512x2048) hz2]
  unfold_payloads
  pointwise [ld8]
  rfl

theorem zz (r : Fin 512) (j : Fin 832) : k0_pay3 x0 (View.ld x1 r0_1) (ix2 r j) = zb x0 x1 r ⟨2048 + j.val, by omega⟩ := by
  unfold_payloads
  pointwise [ld1]
  rfl

theorem o7 (r : Fin 512) (j : Fin 512) : out0_7 x0 x1 x2 x3 x4 x5 (ix2 r j) = rms (fun i : Fin 512 => zb x0 x1 r ⟨2048 + i.val, by omega⟩) 1140850688#32 (x2 (ix3 0 0 j)) j := by
  unfold out0_7
  rw [View.canon_unit_zero (S := S512x512) hz2]
  simp -proj only [View.ld_unit_zero (S := S512x2048) hz2, View.ld_unit_zero (S := S1x1x512) hz3]
  unfold k0_pay4
  pointwise [zz]
  rfl

theorem o8 (r : Fin 512) (j : Fin 256) : out0_8 x0 x1 x2 x3 x4 x5 (ix2 r j) = rms (fun i : Fin 256 => zb x0 x1 r ⟨2560 + i.val, by omega⟩) 1132462080#32 (x3 (ix3 0 0 j)) j := by
  have e : ∀ i : Fin 256, (⟨2048 + (512 + i.val), by omega⟩ : Fin 2880) = ⟨2560 + i.val, by omega⟩ := fun i => Fin.ext (by show 2048 + (512 + i.val) = 2560 + i.val; omega)
  unfold out0_8
  rw [View.canon_unit_zero (S := S512x256) hz2]
  simp -proj only [View.ld_unit_zero (S := S512x2048) hz2, View.ld_unit_zero (S := S1x1x256) hz3]
  unfold k0_pay5
  pointwise [zz]
  simp only [e]
  rfl

theorem o9 (r : Fin 512) (j : Fin 64) (co si : Fin 32 → EReal)
    (hc : x4 (ix2 r ⟨j.val, by omega⟩) = co ⟨j.val % 32, by omega⟩) (hs : x5 (ix2 r ⟨j.val, by omega⟩) = if j.val % 64 < 32 then - si ⟨j.val % 32, by omega⟩ else si ⟨j.val % 32, by omega⟩) :
    out0_9 x0 x1 x2 x3 x4 x5 (ix2 r j) = rot (fun i : Fin 64 => zb x0 x1 r ⟨2816 + i.val, by omega⟩) co si j := by
  have hj : j.val < 64 := j.isLt
  unfold out0_9
  rw [View.canon_unit_zero (S := S512x64) hz2]
  simp -proj only [View.ld_unit_zero (S := S512x2048) hz2, View.ld_unit_zero (S := S512x128) hz2]
  unfold k0_pay6
  pointwise [zz]
  refine Eq.trans ?_ (rot_lanes (fun i : Fin 64 => zb x0 x1 r ⟨2816 + i.val, by omega⟩) co si j
    (if h : (j.val + 128 - 96) % 128 < 64 then zb x0 x1 r ⟨2048 + (768 + (j.val + 128 - 96) % 128), by omega⟩ else 0)
    (if h : (j.val + 128 - 32) % 128 < 64 then zb x0 x1 r ⟨2048 + (768 + (j.val + 128 - 32) % 128), by omega⟩ else 0) _ _ hc hs ?_ ?_)
  · refine congrArg₂ (· + ·) (congrArg₂ (· * ·) (congrArg _ (Fin.ext (by show 2048 + (768 + j.val) = 2816 + j.val; omega))) rfl) rfl
  · intro h
    rw [dif_pos (by omega)]
    exact congrArg _ (Fin.ext (by show 2048 + (768 + (j.val + 128 - 96) % 128) = 2816 + (32 + j.val); omega))
  · intro h
    rw [dif_pos (by omega)]
    exact congrArg _ (Fin.ext (by show 2048 + (768 + (j.val + 128 - 32) % 128) = 2816 + (j.val - 32); omega))

end Blocks

abbrev X0 (c : Dev nD) : Vec Ideal S8192x2048 .f32 := m ((c : Thread nD τ).loc main_arg0)
abbrev X1 (c : Dev nD) : Vec Ideal S2048x2880 .f32 := m ((c : Thread nD τ).loc main_arg1)
abbrev X2 (c : Dev nD) : Vec Ideal S512 .f32 := m ((c : Thread nD τ).loc main_arg2)
abbrev X3 (c : Dev nD) : Vec Ideal S256 .f32 := m ((c : Thread nD τ).loc main_arg3)

abbrev cosT : Vec Ideal S2048x32 .f32 := Cert.Reference4Ideal.Read.val_main_v21 (F := Ideal)
abbrev sinT : Vec Ideal S2048x32 .f32 := Cert.Reference4Ideal.Read.val_main_v22 (F := Ideal)

theorem hostW (c : Dev nD) (k : Fin 2048) (j : Fin 2880) : (V m c main_v27 : Vec Ideal S1x2048x2880 .bf16) (ix3 0 k j) = X1 m c (ix2 k j) := by
  have e : (V m c main_v27 : Vec Ideal S1x2048x2880 .bf16) = broadcastInDim S1x2048x2880 ![1, 2] bcast_S2048x2880_S1x2048x2880_1_2 (truncf .bf16 (X1 m c : FVec Ideal S2048x2880 .f32) bitsLt_bf16_f32 : FVec Ideal S2048x2880 .bf16) := by
    unfold V hostOps0
    after_results <;> rfl
  rw [e]
  pointwise

theorem hostG2 (c : Dev nD) (j : Fin 512) : (V m c main_v28 : Vec Ideal S1x1x512 .f32) (ix3 0 0 j) = X2 m c (ix1 j) := by
  have e : (V m c main_v28 : Vec Ideal S1x1x512 .f32) = broadcastInDim S1x1x512 ![2] bcast_S512_S1x1x512_2 (X2 m c) := by
    unfold V hostOps0
    after_results <;> rfl
  rw [e]
  pointwise

theorem hostG3 (c : Dev nD) (j : Fin 256) : (V m c main_v29 : Vec Ideal S1x1x256 .f32) (ix3 0 0 j) = X3 m c (ix1 j) := by
  have e : (V m c main_v29 : Vec Ideal S1x1x256 .f32) = broadcastInDim S1x1x256 ![2] bcast_S256_S1x1x256_2 (X3 m c) := by
    unfold V hostOps0
    after_results <;> rfl
  rw [e]
  pointwise

theorem hostC (c : Dev nD) (q : Fin 2048) (j : Fin 128) (p : Fin 2048) (hp : p.val = q.val % 2048) : (V m c main_v30 : Vec Ideal S2048x128 .f32) (ix2 q j) = cosT (ix2 p ⟨j.val % 32, by omega⟩) := by
  have e : (V m c main_v30 : Vec Ideal S2048x128 .f32) = extractStridedSlice S2048x128 ![0, 0] (shapeCast S2048x512 (broadcastInDim S1x2048x8x64 ![0, 1, 2, 3] bcast_S1x2048x1x64_S1x2048x8x64_0_1_2_3 (shapeCast S1x2048x1x64 (concatenate S2048x64 1 [⟨S2048x32, cosT⟩, ⟨S2048x32, cosT⟩] concatenates_S2048x32_S2048x32_S2048x64_d1 : Vec Ideal S2048x64 .f32) shapeCasts_S2048x64_S1x2048x1x64)) shapeCasts_S1x2048x8x64_S2048x512) slices_S2048x512_S2048x128_0_0 := by
    unfold V hostOps0
    after_results <;> rfl
  have hpq : p = q := Fin.ext (by omega)
  subst hpq
  rw [e]
  generalize cosT = C
  pointwise
  by_cases h : j.val % 64 < 32
  · simp only [h, if_true, dif_pos]
    first
      | exact congrArg C (congrArg (ix2 _) (Fin.ext (by show j.val % 64 = j.val % 32; omega)))
      | exact congrArg (fun v => -C v) (congrArg (ix2 _) (Fin.ext (by show j.val % 64 = j.val % 32; omega)))
  · simp only [h, if_false, dif_neg, not_false_eq_true]
    exact congrArg C (congrArg (ix2 _) (Fin.ext (by show j.val % 64 - 32 = j.val % 32; omega)))

theorem hostS (c : Dev nD) (q : Fin 2048) (j : Fin 128) (p : Fin 2048) (hp : p.val = q.val % 2048) : (V m c main_v31 : Vec Ideal S2048x128 .f32) (ix2 q j) = if j.val % 64 < 32 then - sinT (ix2 p ⟨j.val % 32, by omega⟩) else sinT (ix2 p ⟨j.val % 32, by omega⟩) := by
  have e : (V m c main_v31 : Vec Ideal S2048x128 .f32) = extractStridedSlice S2048x128 ![0, 0] (shapeCast S2048x512 (broadcastInDim S1x2048x8x64 ![0, 1, 2, 3] bcast_S1x2048x1x64_S1x2048x8x64_0_1_2_3 (shapeCast S1x2048x1x64 (concatenate S2048x64 1 [⟨S2048x32, (Host.negf (sinT : FVec Ideal S2048x32 .f32) : FVec Ideal S2048x32 .f32)⟩, ⟨S2048x32, sinT⟩] concatenates_S2048x32_S2048x32_S2048x64_d1 : Vec Ideal S2048x64 .f32) shapeCasts_S2048x64_S1x2048x1x64)) shapeCasts_S1x2048x8x64_S2048x512) slices_S2048x512_S2048x128_0_0 := by
    unfold V hostOps0
    after_results <;> rfl
  have hpq : p = q := Fin.ext (by omega)
  subst hpq
  rw [e]
  generalize sinT = C
  pointwise
  by_cases h : j.val % 64 < 32
  · simp only [h, if_true, dif_pos]
    first
      | exact congrArg C (congrArg (ix2 _) (Fin.ext (by show j.val % 64 = j.val % 32; omega)))
      | exact congrArg (fun v => -C v) (congrArg (ix2 _) (Fin.ext (by show j.val % 64 = j.val % 32; omega)))
  · simp only [h, if_false, dif_neg, not_false_eq_true]
    exact congrArg C (congrArg (ix2 _) (Fin.ext (by show j.val % 64 - 32 = j.val % 32; omega)))

theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 ∧ win0_1.index t 2 = 0 := (by decide +kernel : ∀ t : Fin grid0.N, _)
theorem idx2 : ∀ t : Fin cfg0.N, win0_2.index t 0 = 0 ∧ win0_2.index t 1 = 0 ∧ win0_2.index t 2 = 0 := (by decide +kernel : ∀ t : Fin grid0.N, _)
theorem idx3 : ∀ t : Fin cfg0.N, win0_3.index t 0 = 0 ∧ win0_3.index t 1 = 0 ∧ win0_3.index t 2 = 0 := (by decide +kernel : ∀ t : Fin grid0.N, _)
theorem idx4 : ∀ t : Fin cfg0.N, win0_4.index t 0 = t.val % 4 ∧ win0_4.index t 1 = 0 := (by decide +kernel : ∀ t : Fin grid0.N, _)
theorem idx5 : ∀ t : Fin cfg0.N, win0_5.index t 0 = t.val % 4 ∧ win0_5.index t 1 = 0 := (by decide +kernel : ∀ t : Fin grid0.N, _)

theorem blk0 (c : Dev nD) (t : Fin cfg0.N) (r : Fin 512) (k : Fin 2048) (R : Fin 8192) (hR : R.val = 512 * t.val + r.val) :
    (iblk m c 0 t : Vec Ideal S512x2048 .f32) (ix2 r k) = X0 m c (ix2 R k) := by
  rw [show X0 m c = V m c main_arg0 from (V_main_arg0 m c).symm]
  unfold iblk
  rw [View.read_apply]
  show V m c main_arg0 _ = V m c main_arg0 _
  congr 1
  funext a
  apply Fin.ext
  match a with
  | ⟨0, _⟩ => show win0_0.index t 0 * 512 + 1 * r.val = R.val; rw [(idx0 t).1] <;> omega
  | ⟨1, _⟩ => show win0_0.index t 1 * 2048 + 1 * k.val = k.val; rw [(idx0 t).2] <;> omega

theorem blk1 (c : Dev nD) (t : Fin cfg0.N) (k : Fin 2048) (j : Fin 2880) :
    (iblk m c 1 t : Vec Ideal S1x2048x2880 .bf16) (ix3 0 k j) = X1 m c (ix2 k j) := by
  rw [← hostW]
  unfold iblk
  rw [View.read_apply]
  show V m c main_v27 _ = V m c main_v27 _
  congr 1
  funext a
  apply Fin.ext
  match a with
  | ⟨0, _⟩ => show win0_1.index t 0 * 1 + 1 * 0 = 0; rw [(idx1 t).1] <;> omega
  | ⟨1, _⟩ => show win0_1.index t 1 * 2048 + 1 * k.val = k.val; rw [(idx1 t).2.1] <;> omega
  | ⟨2, _⟩ => show win0_1.index t 2 * 2880 + 1 * j.val = j.val; rw [(idx1 t).2.2] <;> omega

theorem blk2 (c : Dev nD) (t : Fin cfg0.N) (j : Fin 512) : (iblk m c 2 t : Vec Ideal S1x1x512 .f32) (ix3 0 0 j) = X2 m c (ix1 j) := by
  rw [← hostG2]
  unfold iblk
  rw [View.read_apply]
  show V m c main_v28 _ = V m c main_v28 _
  congr 1
  funext a
  apply Fin.ext
  match a with
  | ⟨0, _⟩ => show win0_2.index t 0 * 1 + 1 * 0 = 0; rw [(idx2 t).1] <;> omega
  | ⟨1, _⟩ => show win0_2.index t 1 * 1 + 1 * 0 = 0; rw [(idx2 t).2.1] <;> omega
  | ⟨2, _⟩ => show win0_2.index t 2 * 512 + 1 * j.val = j.val; rw [(idx2 t).2.2] <;> omega

theorem blk3 (c : Dev nD) (t : Fin cfg0.N) (j : Fin 256) : (iblk m c 3 t : Vec Ideal S1x1x256 .f32) (ix3 0 0 j) = X3 m c (ix1 j) := by
  rw [← hostG3]
  unfold iblk
  rw [View.read_apply]
  show V m c main_v29 _ = V m c main_v29 _
  congr 1
  funext a
  apply Fin.ext
  match a with
  | ⟨0, _⟩ => show win0_3.index t 0 * 1 + 1 * 0 = 0; rw [(idx3 t).1] <;> omega
  | ⟨1, _⟩ => show win0_3.index t 1 * 1 + 1 * 0 = 0; rw [(idx3 t).2.1] <;> omega
  | ⟨2, _⟩ => show win0_3.index t 2 * 256 + 1 * j.val = j.val; rw [(idx3 t).2.2] <;> omega

theorem blk4 (c : Dev nD) (t : Fin cfg0.N) (r : Fin 512) (j : Fin 128) (p : Fin 2048) (hp : p.val = (512 * t.val + r.val) % 2048) :
    (iblk m c 4 t : Vec Ideal S512x128 .f32) (ix2 r j) = cosT (ix2 p ⟨j.val % 32, by omega⟩) := by
  have hN : t.val < 16 := lt_of_lt_of_eq t.isLt N_0
  rw [← hostC m c ⟨(512 * t.val + r.val) % 2048, by omega⟩ j p (by show p.val = ((512 * t.val + r.val) % 2048) % 2048; omega)]
  unfold iblk
  rw [View.read_apply]
  show V m c main_v30 _ = V m c main_v30 _
  congr 1
  funext a
  apply Fin.ext
  match a with
  | ⟨0, _⟩ => show win0_4.index t 0 * 512 + 1 * r.val = (512 * t.val + r.val) % 2048; rw [(idx4 t).1]; omega
  | ⟨1, _⟩ => show win0_4.index t 1 * 128 + 1 * j.val = j.val; rw [(idx4 t).2] <;> omega

theorem blk5 (c : Dev nD) (t : Fin cfg0.N) (r : Fin 512) (j : Fin 128) (p : Fin 2048) (hp : p.val = (512 * t.val + r.val) % 2048) :
    (iblk m c 5 t : Vec Ideal S512x128 .f32) (ix2 r j) = if j.val % 64 < 32 then - sinT (ix2 p ⟨j.val % 32, by omega⟩) else sinT (ix2 p ⟨j.val % 32, by omega⟩) := by
  have hN : t.val < 16 := lt_of_lt_of_eq t.isLt N_0
  rw [← hostS m c ⟨(512 * t.val + r.val) % 2048, by omega⟩ j p (by show p.val = ((512 * t.val + r.val) % 2048) % 2048; omega)]
  unfold iblk
  rw [View.read_apply]
  show V m c main_v31 _ = V m c main_v31 _
  congr 1
  funext a
  apply Fin.ext
  match a with
  | ⟨0, _⟩ => show win0_5.index t 0 * 512 + 1 * r.val = (512 * t.val + r.val) % 2048; rw [(idx5 t).1]; omega
  | ⟨1, _⟩ => show win0_5.index t 1 * 128 + 1 * j.val = j.val; rw [(idx5 t).2] <;> omega

theorem zb_eq (c : Dev nD) (t : Fin cfg0.N) (r : Fin 512) (R : Fin 8192) (hR : R.val = 512 * t.val + r.val) (j : Fin 2880) :
    zb (iblk m c 0 t) (iblk m c 1 t) r j = Cert.Reference4Ideal.InProj.z (X0 m c) (X1 m c) R j := by
  unfold zb Cert.Reference4Ideal.InProj.z
  refine Finset.sum_congr (M := EReal) rfl fun k _ => ?_
  rw [blk0 m c t r k R hR, blk1]

/-- Output window 6's final array is the reference's. -/
abbrev G6 (c : Dev nD) : Vec Ideal S8192x2048 .f32 := Cert.Reference4Ideal.Read.val_main_v40 (F := Ideal) (X0 m c) (X1 m c)

theorem idx6 : ∀ t : Fin cfg0.N, win0_6.index t 0 = t.val ∧ win0_6.index t 1 = 0 := (by decide +kernel : ∀ t : Fin grid0.N, _)

theorem entry6 (c : Dev nD) (t : Fin cfg0.N) (r : Fin 512) (j : Fin 2048) (R : Fin 8192) (hR : R.val = 512 * t.val + r.val) :
    out0_6 (iblk m c 0 t) (iblk m c 1 t) (iblk m c 2 t) (iblk m c 3 t) (iblk m c 4 t) (iblk m c 5 t) (ix2 r j) = G6 m c (ix2 R j) := by
  rw [o6, zb_eq m c t r R hR]
  exact (Cert.Reference4Ideal.InProj.r40 (X0 m c) (X1 m c) R j).symm

theorem flushed6 (c : Dev nD) (t : Fin cfg0.N) :
    (dats m 0 c).flushed 6 t = ((cfg0.win 6).blk t).view.read (Elt Ideal) (G6 m c : Buf (Elt Ideal) ((c : Thread nD τ).loc main_v32_0)) := by
  rw [Value.flushed6]
  have hN : t.val < 16 := lt_of_lt_of_eq t.isLt N_0
  funext y
  have hy0 : (y 0).val < 512 := (y 0).isLt
  have hy1 : (y 1).val < 2048 := (y 1).isLt
  obtain ⟨d0, d1⟩ := idx6 t
  have hx : (cfg0.win 6).xinj (grid0.coords t) y = (ix2 ⟨(y 0).val, hy0⟩ ⟨(y 1).val, hy1⟩ : S512x2048.Idx) := by
    funext a; apply Fin.ext
    match a with
    | ⟨0, _⟩ => rfl
    | ⟨1, _⟩ => rfl
  have he : ((cfg0.win 6).blk t).view.emb y = (ix2 ⟨512 * t.val + (y 0).val, by omega⟩ ⟨(y 1).val, hy1⟩ : S8192x2048.Idx) := by
    funext a; apply Fin.ext
    match a with
    | ⟨0, _⟩ => show win0_6.index t 0 * 512 + 1 * (y 0).val = 512 * t.val + (y 0).val; rw [d0]; omega
    | ⟨1, _⟩ => show win0_6.index t 1 * 2048 + 1 * (y 1).val = (y 1).val; rw [d1]; omega
  show out0_6 (iblk m c 0 t) (iblk m c 1 t) (iblk m c 2 t) (iblk m c 3 t) (iblk m c 4 t) (iblk m c 5 t) ((cfg0.win 6).xinj (grid0.coords t) y) = G6 m c (((cfg0.win 6).blk t).view.emb y)
  rw [hx, he]
  exact entry6 m c t _ _ _ rfl

theorem mem_blk6 (t : Fin cfg0.N) (i : S8192x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v32_0).slice (win0_6.rect t)).set ↔ _
  rw [View.set_slice_whole, Rect.mem_set_unit]
  exact Iff.rfl

theorem final6 (c : Dev nD) : (dats m 0 c).arrAt 6 cfg0.N = (G6 m c : Buf (Elt Ideal) ((c : Thread nD τ).loc main_v32_0)) :=
  (dats m 0 c).arrAt_eq_of_cover 6 _ (fun t _ => flushed6 m c t) (fun i => by
    have h0 : (i 0).val < 8192 := (i 0).isLt
    have h1 : (i 1).val < 2048 := (i 1).isLt
    have hlt : (i 0).val / 512 < cfg0.N := lt_of_lt_of_eq (by omega) N_0.symm
    refine ⟨⟨(i 0).val / 512, hlt⟩, flush0_6 _, ?_⟩
    rw [mem_blk6]
    obtain ⟨d0, d1⟩ := idx6 ⟨(i 0).val / 512, hlt⟩
    intro a
    match a with
    | ⟨0, _⟩ =>
      show win0_6.index _ 0 * 512 ≤ (i 0).val ∧ (i 0).val < win0_6.index _ 0 * 512 + 512
      rw [d0]
      show (i 0).val / 512 * 512 ≤ (i 0).val ∧ (i 0).val < (i 0).val / 512 * 512 + 512
      omega
    | ⟨1, _⟩ =>
      show win0_6.index _ 1 * 2048 ≤ (i 1).val ∧ (i 1).val < win0_6.index _ 1 * 2048 + 2048
      rw [d1]
      omega)

/-- Output window 7's final array is the reference's. -/
abbrev G7 (c : Dev nD) : Vec Ideal S8192x512 .bf16 := Cert.Reference4Ideal.Read.val_main_v55 (F := Ideal) (X0 m c) (X1 m c) (X2 m c)

theorem idx7 : ∀ t : Fin cfg0.N, win0_7.index t 0 = t.val ∧ win0_7.index t 1 = 0 := (by decide +kernel : ∀ t : Fin grid0.N, _)

theorem entry7 (c : Dev nD) (t : Fin cfg0.N) (r : Fin 512) (j : Fin 512) (R : Fin 8192) (hR : R.val = 512 * t.val + r.val) :
    out0_7 (iblk m c 0 t) (iblk m c 1 t) (iblk m c 2 t) (iblk m c 3 t) (iblk m c 4 t) (iblk m c 5 t) (ix2 r j) = G7 m c (ix2 R j) := by
  rw [o7, blk2]
  simp only [zb_eq m c t r R hR]
  exact (Cert.Reference4Ideal.InProj.r55 (X0 m c) (X1 m c) (X2 m c) R j).symm

theorem flushed7 (c : Dev nD) (t : Fin cfg0.N) :
    (dats m 0 c).flushed 7 t = ((cfg0.win 7).blk t).view.read (Elt Ideal) (G7 m c : Buf (Elt Ideal) ((c : Thread nD τ).loc main_v32_1)) := by
  rw [Value.flushed7]
  have hN : t.val < 16 := lt_of_lt_of_eq t.isLt N_0
  funext y
  have hy0 : (y 0).val < 512 := (y 0).isLt
  have hy1 : (y 1).val < 512 := (y 1).isLt
  obtain ⟨d0, d1⟩ := idx7 t
  have hx : (cfg0.win 7).xinj (grid0.coords t) y = (ix2 ⟨(y 0).val, hy0⟩ ⟨(y 1).val, hy1⟩ : S512x512.Idx) := by
    funext a; apply Fin.ext
    match a with
    | ⟨0, _⟩ => rfl
    | ⟨1, _⟩ => rfl
  have he : ((cfg0.win 7).blk t).view.emb y = (ix2 ⟨512 * t.val + (y 0).val, by omega⟩ ⟨(y 1).val, hy1⟩ : S8192x512.Idx) := by
    funext a; apply Fin.ext
    match a with
    | ⟨0, _⟩ => show win0_7.index t 0 * 512 + 1 * (y 0).val = 512 * t.val + (y 0).val; rw [d0]; omega
    | ⟨1, _⟩ => show win0_7.index t 1 * 512 + 1 * (y 1).val = (y 1).val; rw [d1]; omega
  show out0_7 (iblk m c 0 t) (iblk m c 1 t) (iblk m c 2 t) (iblk m c 3 t) (iblk m c 4 t) (iblk m c 5 t) ((cfg0.win 7).xinj (grid0.coords t) y) = G7 m c (((cfg0.win 7).blk t).view.emb y)
  rw [hx, he]
  exact entry7 m c t _ _ _ rfl

theorem mem_blk7 (t : Fin cfg0.N) (i : S8192x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v32_1).slice (win0_7.rect t)).set ↔ _
  rw [View.set_slice_whole, Rect.mem_set_unit]
  exact Iff.rfl

theorem final7 (c : Dev nD) : (dats m 0 c).arrAt 7 cfg0.N = (G7 m c : Buf (Elt Ideal) ((c : Thread nD τ).loc main_v32_1)) :=
  (dats m 0 c).arrAt_eq_of_cover 7 _ (fun t _ => flushed7 m c t) (fun i => by
    have h0 : (i 0).val < 8192 := (i 0).isLt
    have h1 : (i 1).val < 512 := (i 1).isLt
    have hlt : (i 0).val / 512 < cfg0.N := lt_of_lt_of_eq (by omega) N_0.symm
    refine ⟨⟨(i 0).val / 512, hlt⟩, flush0_7 _, ?_⟩
    rw [mem_blk7]
    obtain ⟨d0, d1⟩ := idx7 ⟨(i 0).val / 512, hlt⟩
    intro a
    match a with
    | ⟨0, _⟩ =>
      show win0_7.index _ 0 * 512 ≤ (i 0).val ∧ (i 0).val < win0_7.index _ 0 * 512 + 512
      rw [d0]
      show (i 0).val / 512 * 512 ≤ (i 0).val ∧ (i 0).val < (i 0).val / 512 * 512 + 512
      omega
    | ⟨1, _⟩ =>
      show win0_7.index _ 1 * 512 ≤ (i 1).val ∧ (i 1).val < win0_7.index _ 1 * 512 + 512
      rw [d1]
      omega)

/-- Output window 8's final array is the reference's. -/
abbrev G8 (c : Dev nD) : Vec Ideal S8192x256 .f32 := Cert.Reference4Ideal.Read.val_main_v69 (F := Ideal) (X0 m c) (X1 m c) (X3 m c)

theorem idx8 : ∀ t : Fin cfg0.N, win0_8.index t 0 = t.val ∧ win0_8.index t 1 = 0 := (by decide +kernel : ∀ t : Fin grid0.N, _)

theorem entry8 (c : Dev nD) (t : Fin cfg0.N) (r : Fin 512) (j : Fin 256) (R : Fin 8192) (hR : R.val = 512 * t.val + r.val) :
    out0_8 (iblk m c 0 t) (iblk m c 1 t) (iblk m c 2 t) (iblk m c 3 t) (iblk m c 4 t) (iblk m c 5 t) (ix2 r j) = G8 m c (ix2 R j) := by
  rw [o8, blk3]
  simp only [zb_eq m c t r R hR]
  exact (Cert.Reference4Ideal.InProj.r69 (X0 m c) (X1 m c) (X3 m c) R j).symm

theorem flushed8 (c : Dev nD) (t : Fin cfg0.N) :
    (dats m 0 c).flushed 8 t = ((cfg0.win 8).blk t).view.read (Elt Ideal) (G8 m c : Buf (Elt Ideal) ((c : Thread nD τ).loc main_v32_2)) := by
  rw [Value.flushed8]
  have hN : t.val < 16 := lt_of_lt_of_eq t.isLt N_0
  funext y
  have hy0 : (y 0).val < 512 := (y 0).isLt
  have hy1 : (y 1).val < 256 := (y 1).isLt
  obtain ⟨d0, d1⟩ := idx8 t
  have hx : (cfg0.win 8).xinj (grid0.coords t) y = (ix2 ⟨(y 0).val, hy0⟩ ⟨(y 1).val, hy1⟩ : S512x256.Idx) := by
    funext a; apply Fin.ext
    match a with
    | ⟨0, _⟩ => rfl
    | ⟨1, _⟩ => rfl
  have he : ((cfg0.win 8).blk t).view.emb y = (ix2 ⟨512 * t.val + (y 0).val, by omega⟩ ⟨(y 1).val, hy1⟩ : S8192x256.Idx) := by
    funext a; apply Fin.ext
    match a with
    | ⟨0, _⟩ => show win0_8.index t 0 * 512 + 1 * (y 0).val = 512 * t.val + (y 0).val; rw [d0]; omega
    | ⟨1, _⟩ => show win0_8.index t 1 * 256 + 1 * (y 1).val = (y 1).val; rw [d1]; omega
  show out0_8 (iblk m c 0 t) (iblk m c 1 t) (iblk m c 2 t) (iblk m c 3 t) (iblk m c 4 t) (iblk m c 5 t) ((cfg0.win 8).xinj (grid0.coords t) y) = G8 m c (((cfg0.win 8).blk t).view.emb y)
  rw [hx, he]
  exact entry8 m c t _ _ _ rfl

theorem mem_blk8 (t : Fin cfg0.N) (i : S8192x256.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v32_2).slice (win0_8.rect t)).set ↔ _
  rw [View.set_slice_whole, Rect.mem_set_unit]
  exact Iff.rfl

theorem final8 (c : Dev nD) : (dats m 0 c).arrAt 8 cfg0.N = (G8 m c : Buf (Elt Ideal) ((c : Thread nD τ).loc main_v32_2)) :=
  (dats m 0 c).arrAt_eq_of_cover 8 _ (fun t _ => flushed8 m c t) (fun i => by
    have h0 : (i 0).val < 8192 := (i 0).isLt
    have h1 : (i 1).val < 256 := (i 1).isLt
    have hlt : (i 0).val / 512 < cfg0.N := lt_of_lt_of_eq (by omega) N_0.symm
    refine ⟨⟨(i 0).val / 512, hlt⟩, flush0_8 _, ?_⟩
    rw [mem_blk8]
    obtain ⟨d0, d1⟩ := idx8 ⟨(i 0).val / 512, hlt⟩
    intro a
    match a with
    | ⟨0, _⟩ =>
      show win0_8.index _ 0 * 512 ≤ (i 0).val ∧ (i 0).val < win0_8.index _ 0 * 512 + 512
      rw [d0]
      show (i 0).val / 512 * 512 ≤ (i 0).val ∧ (i 0).val < (i 0).val / 512 * 512 + 512
      omega
    | ⟨1, _⟩ =>
      show win0_8.index _ 1 * 256 ≤ (i 1).val ∧ (i 1).val < win0_8.index _ 1 * 256 + 256
      rw [d1]
      omega)

/-- Output window 9's final array is the reference's. -/
abbrev G9 (c : Dev nD) : Vec Ideal S8192x64 .f32 := Cert.Reference4Ideal.Read.val_main_v70 (F := Ideal) (X0 m c) (X1 m c)

theorem idx9 : ∀ t : Fin cfg0.N, win0_9.index t 0 = t.val ∧ win0_9.index t 1 = 0 := (by decide +kernel : ∀ t : Fin grid0.N, _)

theorem entry9 (c : Dev nD) (t : Fin cfg0.N) (r : Fin 512) (j : Fin 64) (R : Fin 8192) (hR : R.val = 512 * t.val + r.val) :
    out0_9 (iblk m c 0 t) (iblk m c 1 t) (iblk m c 2 t) (iblk m c 3 t) (iblk m c 4 t) (iblk m c 5 t) (ix2 r j) = G9 m c (ix2 R j) := by
  have hp : R.val % 2048 = (512 * t.val + r.val) % 2048 := by rw [hR]
  rw [o9 (iblk m c 0 t) (iblk m c 1 t) (iblk m c 2 t) (iblk m c 3 t) (iblk m c 4 t) (iblk m c 5 t) r j (fun i => cosT (ix2 ⟨R.val % 2048, Nat.mod_lt _ (by decide)⟩ i)) (fun i => sinT (ix2 ⟨R.val % 2048, Nat.mod_lt _ (by decide)⟩ i))
    (blk4 m c t r _ _ hp) (blk5 m c t r _ _ hp)]
  simp only [zb_eq m c t r R hR]
  exact (Cert.Reference4Ideal.InProj.r70 (X0 m c) (X1 m c) R j).symm

theorem flushed9 (c : Dev nD) (t : Fin cfg0.N) :
    (dats m 0 c).flushed 9 t = ((cfg0.win 9).blk t).view.read (Elt Ideal) (G9 m c : Buf (Elt Ideal) ((c : Thread nD τ).loc main_v32_3)) := by
  rw [Value.flushed9]
  have hN : t.val < 16 := lt_of_lt_of_eq t.isLt N_0
  funext y
  have hy0 : (y 0).val < 512 := (y 0).isLt
  have hy1 : (y 1).val < 64 := (y 1).isLt
  obtain ⟨d0, d1⟩ := idx9 t
  have hx : (cfg0.win 9).xinj (grid0.coords t) y = (ix2 ⟨(y 0).val, hy0⟩ ⟨(y 1).val, hy1⟩ : S512x64.Idx) := by
    funext a; apply Fin.ext
    match a with
    | ⟨0, _⟩ => rfl
    | ⟨1, _⟩ => rfl
  have he : ((cfg0.win 9).blk t).view.emb y = (ix2 ⟨512 * t.val + (y 0).val, by omega⟩ ⟨(y 1).val, hy1⟩ : S8192x64.Idx) := by
    funext a; apply Fin.ext
    match a with
    | ⟨0, _⟩ => show win0_9.index t 0 * 512 + 1 * (y 0).val = 512 * t.val + (y 0).val; rw [d0]; omega
    | ⟨1, _⟩ => show win0_9.index t 1 * 64 + 1 * (y 1).val = (y 1).val; rw [d1]; omega
  show out0_9 (iblk m c 0 t) (iblk m c 1 t) (iblk m c 2 t) (iblk m c 3 t) (iblk m c 4 t) (iblk m c 5 t) ((cfg0.win 9).xinj (grid0.coords t) y) = G9 m c (((cfg0.win 9).blk t).view.emb y)
  rw [hx, he]
  exact entry9 m c t _ _ _ rfl

theorem mem_blk9 (t : Fin cfg0.N) (i : S8192x64.Idx) :
    i ∈ ((cfg0.win 9).blk t).view.set ↔ ∀ a : Fin 2, win0_9.index t a * S512x64.size a ≤ (i a).val ∧ (i a).val < win0_9.index t a * S512x64.size a + S512x64.size a := by
  show i ∈ ((View.whole main_v32_3).slice (win0_9.rect t)).set ↔ _
  rw [View.set_slice_whole, Rect.mem_set_unit]
  exact Iff.rfl

theorem final9 (c : Dev nD) : (dats m 0 c).arrAt 9 cfg0.N = (G9 m c : Buf (Elt Ideal) ((c : Thread nD τ).loc main_v32_3)) :=
  (dats m 0 c).arrAt_eq_of_cover 9 _ (fun t _ => flushed9 m c t) (fun i => by
    have h0 : (i 0).val < 8192 := (i 0).isLt
    have h1 : (i 1).val < 64 := (i 1).isLt
    have hlt : (i 0).val / 512 < cfg0.N := lt_of_lt_of_eq (by omega) N_0.symm
    refine ⟨⟨(i 0).val / 512, hlt⟩, flush0_9 _, ?_⟩
    rw [mem_blk9]
    obtain ⟨d0, d1⟩ := idx9 ⟨(i 0).val / 512, hlt⟩
    intro a
    match a with
    | ⟨0, _⟩ =>
      show win0_9.index _ 0 * 512 ≤ (i 0).val ∧ (i 0).val < win0_9.index _ 0 * 512 + 512
      rw [d0]
      show (i 0).val / 512 * 512 ≤ (i 0).val ∧ (i 0).val < (i 0).val / 512 * 512 + 512
      omega
    | ⟨1, _⟩ =>
      show win0_9.index _ 1 * 64 ≤ (i 1).val ∧ (i 1).val < win0_9.index _ 1 * 64 + 64
      rw [d1]
      omega)

end Cert.Kernel4Ideal.InProj

end
-- ==== Proof.InProjSample.lean ====
/-
  The value of the input projection (Kernel5) at the ideal instance, block by block: the product's columns, the two
  latents' columns normed by their root mean square, and the key's columns rotated by the position — index by index what
  the reference computes from the reshaped rows.
-/
module

public import proofs.«01_k».proof.Defs
public import proofs.«01_k».proof.Proof.InProjSpec
public import proofs.«01_k».proof.Proof.Gen.Kernel5Ideal.Value
public import proofs.«01_k».proof.Proof.Gen.Reference5Ideal.Read
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open Cert.InProjSpec

namespace Cert.Reference5Ideal.InProj
open Cert.Reference5Ideal Cert.Reference5Ideal.Read

variable (x0 : Vec Ideal S256x2048 .f32) (x1 : Vec Ideal S2048x2880 .f32) (x2 : Vec Ideal S512 .f32) (x3 : Vec Ideal S256 .f32)

/-- The product's entry. -/
def z (R : Fin 256) (j : Fin 2880) : EReal := ∑ k : Fin 2048, x0 (ix2 R k) * x1 (ix2 k j)

theorem z_apply (R : Fin 256) (b : Fin 8) (t : Fin 32) (hb : b.val = R.val / 32) (ht : t.val = R.val % 32) (j : Fin 2880) :
    val_main_v4 x0 x1 (ix3 b t j) = z x0 x1 R j := by
  have hR : (⟨b.val * 32 + t.val, by omega⟩ : Fin 256) = R := Fin.ext (by show b.val * 32 + t.val = R.val; omega)
  rw [← hR]
  unfold val_main_v4 val_main_v3
  pointwise
  rfl

theorem r40 (r : Fin 256) (j : Fin 2048) : val_main_v40 x0 x1 (ix2 r j) = z x0 x1 r ⟨j.val, by omega⟩ := by
  have hz := z_apply x0 x1 r ⟨r.val / 32, by omega⟩ ⟨r.val % 32, by omega⟩ rfl rfl
  unfold val_main_v40 val_main_v5
  generalize val_main_v4 x0 x1 = zz at hz ⊢
  pointwise
  exact hz _

theorem r55 (r : Fin 256) (j : Fin 512) : val_main_v55 x0 x1 x2 (ix2 r j) = rms (fun i : Fin 512 => z x0 x1 r ⟨2048 + i.val, by omega⟩) 1140850688#32 (x2 (ix1 j)) j := by
  have hz := z_apply x0 x1 r ⟨r.val / 32, by omega⟩ ⟨r.val % 32, by omega⟩ rfl rfl
  unfold val_main_v55 val_main_v54 val_main_v53 val_main_v52 val_main_v51 val_main_v50 val_main_v49 val_main_v48 val_main_v47 val_main_v46 val_main_v45 val_main_v44 val_main_v43 val_main_v42 val_main_v41 val_main_v6 val_main_cst_1 val_main_cst_2 val_main_cst_3
  generalize val_main_v4 x0 x1 = zz at hz ⊢
  pointwise
  simp only [hz]
  rfl

theorem r69 (r : Fin 256) (j : Fin 256) : val_main_v69 x0 x1 x3 (ix2 r j) = rms (fun i : Fin 256 => z x0 x1 r ⟨2560 + i.val, by omega⟩) 1132462080#32 (x3 (ix1 j)) j := by
  have hz := z_apply x0 x1 r ⟨r.val / 32, by omega⟩ ⟨r.val % 32, by omega⟩ rfl rfl
  unfold val_main_v69 val_main_v68 val_main_v67 val_main_v66 val_main_v65 val_main_v64 val_main_v63 val_main_v62 val_main_v61 val_main_v60 val_main_v59 val_main_v58 val_main_v57 val_main_v56 val_main_v7 val_main_cst_4 val_main_cst_5 val_main_cst_6
  generalize val_main_v4 x0 x1 = zz at hz ⊢
  pointwise
  simp only [hz]
  rfl

theorem r70 (r : Fin 256) (j : Fin 64) : val_main_v70 x0 x1 (ix2 r j) = rot (fun i : Fin 64 => z x0 x1 r ⟨2816 + i.val, by omega⟩)
    (fun i => val_main_v21 (F := Ideal) (ix2 ⟨r.val % 32, by omega⟩ i)) (fun i => val_main_v22 (F := Ideal) (ix2 ⟨r.val % 32, by omega⟩ i)) j := by
  have hz := z_apply x0 x1 r ⟨r.val / 32, by omega⟩ ⟨r.val % 32, by omega⟩ rfl rfl
  unfold val_main_v70 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v8
  generalize val_main_v4 x0 x1 = zz at hz ⊢
  generalize val_main_v21 (F := Ideal) = C
  generalize val_main_v22 (F := Ideal) = S
  pointwise
  simp only [hz]
  rfl

end Cert.Reference5Ideal.InProj

namespace Cert.Kernel5Ideal.InProj

open Cert.Kernel5Ideal Cert.Kernel5Ideal.Gen

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

section Blocks

variable (x0 : Vec Ideal S256x2048 .f32) (x1 : Vec Ideal S1x2048x2880 .bf16) (x2 : Vec Ideal S1x1x512 .f32) (x3 : Vec Ideal S1x1x256 .f32) (x4 : Vec Ideal S256x128 .f32) (x5 : Vec Ideal S256x128 .f32)

theorem ld1 (k : Fin 2048) (j : Fin 832) : View.ld x1 r0_1 (ix3 0 k j) = x1 (ix3 0 k ⟨2048 + j.val, by omega⟩) := by
  show x1 _ = x1 _
  congr 1
  funext a
  apply Fin.ext
  match a with
  | ⟨0, _⟩ => rfl
  | ⟨1, _⟩ => show 0 + 1 * k.val = k.val; omega
  | ⟨2, _⟩ => show 2048 + 1 * j.val = 2048 + j.val; omega

theorem ld8 (k : Fin 2048) (j : Fin 2048) : View.ld x1 r0_8 (ix3 0 k j) = x1 (ix3 0 k ⟨j.val, by omega⟩) := by
  show x1 _ = x1 _
  congr 1
  funext a
  apply Fin.ext
  match a with
  | ⟨0, _⟩ => rfl
  | ⟨1, _⟩ => show 0 + 1 * k.val = k.val; omega
  | ⟨2, _⟩ => show 0 + 1 * j.val = j.val; omega

/-- The block's product entry. -/
def zb (r : Fin 256) (j : Fin 2880) : EReal := ∑ k : Fin 2048, x0 (ix2 r k) * x1 (ix3 0 k j)

theorem o6 (r : Fin 256) (j : Fin 2048) : out0_6 x0 x1 x2 x3 x4 x5 (ix2 r j) = zb x0 x1 r ⟨j.val, by omega⟩ := by
  unfold out0_6
  rw [View.canon_unit_zero (S := S256x2048) hz2]
  simp -proj only [View.ld_unit_zero (S := S256x2048) hz2]
  unfold_payloads
  pointwise [ld8]
  rfl

theorem zz (r : Fin 256) (j : Fin 832) : k0_pay3 x0 (View.ld x1 r0_1) (ix2 r j) = zb x0 x1 r ⟨2048 + j.val, by omega⟩ := by
  unfold_payloads
  pointwise [ld1]
  rfl

theorem o7 (r : Fin 256) (j : Fin 512) : out0_7 x0 x1 x2 x3 x4 x5 (ix2 r j) = rms (fun i : Fin 512 => zb x0 x1 r ⟨2048 + i.val, by omega⟩) 1140850688#32 (x2 (ix3 0 0 j)) j := by
  unfold out0_7
  rw [View.canon_unit_zero (S := S256x512) hz2]
  simp -proj only [View.ld_unit_zero (S := S256x2048) hz2, View.ld_unit_zero (S := S1x1x512) hz3]
  unfold k0_pay4
  pointwise [zz]
  rfl

theorem o8 (r : Fin 256) (j : Fin 256) : out0_8 x0 x1 x2 x3 x4 x5 (ix2 r j) = rms (fun i : Fin 256 => zb x0 x1 r ⟨2560 + i.val, by omega⟩) 1132462080#32 (x3 (ix3 0 0 j)) j := by
  have e : ∀ i : Fin 256, (⟨2048 + (512 + i.val), by omega⟩ : Fin 2880) = ⟨2560 + i.val, by omega⟩ := fun i => Fin.ext (by show 2048 + (512 + i.val) = 2560 + i.val; omega)
  unfold out0_8
  rw [View.canon_unit_zero (S := S256x256) hz2]
  simp -proj only [View.ld_unit_zero (S := S256x2048) hz2, View.ld_unit_zero (S := S1x1x256) hz3]
  unfold k0_pay5
  pointwise [zz]
  simp only [e]
  rfl

theorem o9 (r : Fin 256) (j : Fin 64) (co si : Fin 32 → EReal)
    (hc : x4 (ix2 r ⟨j.val, by omega⟩) = co ⟨j.val % 32, by omega⟩) (hs : x5 (ix2 r ⟨j.val, by omega⟩) = if j.val % 64 < 32 then - si ⟨j.val % 32, by omega⟩ else si ⟨j.val % 32, by omega⟩) :
    out0_9 x0 x1 x2 x3 x4 x5 (ix2 r j) = rot (fun i : Fin 64 => zb x0 x1 r ⟨2816 + i.val, by omega⟩) co si j := by
  have hj : j.val < 64 := j.isLt
  unfold out0_9
  rw [View.canon_unit_zero (S := S256x64) hz2]
  simp -proj only [View.ld_unit_zero (S := S256x2048) hz2, View.ld_unit_zero (S := S256x128) hz2]
  unfold k0_pay6
  pointwise [zz]
  refine Eq.trans ?_ (rot_lanes (fun i : Fin 64 => zb x0 x1 r ⟨2816 + i.val, by omega⟩) co si j
    (if h : (j.val + 128 - 96) % 128 < 64 then zb x0 x1 r ⟨2048 + (768 + (j.val + 128 - 96) % 128), by omega⟩ else 0)
    (if h : (j.val + 128 - 32) % 128 < 64 then zb x0 x1 r ⟨2048 + (768 + (j.val + 128 - 32) % 128), by omega⟩ else 0) _ _ hc hs ?_ ?_)
  · refine congrArg₂ (· + ·) (congrArg₂ (· * ·) (congrArg _ (Fin.ext (by show 2048 + (768 + j.val) = 2816 + j.val; omega))) rfl) rfl
  · intro h
    rw [dif_pos (by omega)]
    exact congrArg _ (Fin.ext (by show 2048 + (768 + (j.val + 128 - 96) % 128) = 2816 + (32 + j.val); omega))
  · intro h
    rw [dif_pos (by omega)]
    exact congrArg _ (Fin.ext (by show 2048 + (768 + (j.val + 128 - 32) % 128) = 2816 + (j.val - 32); omega))

end Blocks

abbrev X0 (c : Dev nD) : Vec Ideal S256x2048 .f32 := m ((c : Thread nD τ).loc main_arg0)
abbrev X1 (c : Dev nD) : Vec Ideal S2048x2880 .f32 := m ((c : Thread nD τ).loc main_arg1)
abbrev X2 (c : Dev nD) : Vec Ideal S512 .f32 := m ((c : Thread nD τ).loc main_arg2)
abbrev X3 (c : Dev nD) : Vec Ideal S256 .f32 := m ((c : Thread nD τ).loc main_arg3)

abbrev cosT : Vec Ideal S32x32 .f32 := Cert.Reference5Ideal.Read.val_main_v21 (F := Ideal)
abbrev sinT : Vec Ideal S32x32 .f32 := Cert.Reference5Ideal.Read.val_main_v22 (F := Ideal)

theorem hostW (c : Dev nD) (k : Fin 2048) (j : Fin 2880) : (V m c main_v27 : Vec Ideal S1x2048x2880 .bf16) (ix3 0 k j) = X1 m c (ix2 k j) := by
  have e : (V m c main_v27 : Vec Ideal S1x2048x2880 .bf16) = broadcastInDim S1x2048x2880 ![1, 2] bcast_S2048x2880_S1x2048x2880_1_2 (truncf .bf16 (X1 m c : FVec Ideal S2048x2880 .f32) bitsLt_bf16_f32 : FVec Ideal S2048x2880 .bf16) := by
    unfold V hostOps0
    after_results <;> rfl
  rw [e]
  pointwise

theorem hostG2 (c : Dev nD) (j : Fin 512) : (V m c main_v28 : Vec Ideal S1x1x512 .f32) (ix3 0 0 j) = X2 m c (ix1 j) := by
  have e : (V m c main_v28 : Vec Ideal S1x1x512 .f32) = broadcastInDim S1x1x512 ![2] bcast_S512_S1x1x512_2 (X2 m c) := by
    unfold V hostOps0
    after_results <;> rfl
  rw [e]
  pointwise

theorem hostG3 (c : Dev nD) (j : Fin 256) : (V m c main_v29 : Vec Ideal S1x1x256 .f32) (ix3 0 0 j) = X3 m c (ix1 j) := by
  have e : (V m c main_v29 : Vec Ideal S1x1x256 .f32) = broadcastInDim S1x1x256 ![2] bcast_S256_S1x1x256_2 (X3 m c) := by
    unfold V hostOps0
    after_results <;> rfl
  rw [e]
  pointwise

theorem hostC (c : Dev nD) (q : Fin 256) (j : Fin 128) (p : Fin 32) (hp : p.val = q.val % 32) : (V m c main_v33 : Vec Ideal S256x128 .f32) (ix2 q j) = cosT (ix2 p ⟨j.val % 32, by omega⟩) := by
  have e : (V m c main_v33 : Vec Ideal S256x128 .f32) = extractStridedSlice S256x128 ![0, 0] (shapeCast S256x512 (broadcastInDim S8x32x1x512 ![0, 1, 2, 3] bcast_S1x32x1x512_S8x32x1x512_0_1_2_3 (shapeCast S1x32x1x512 (shapeCast S32x512 (broadcastInDim S1x32x8x64 ![0, 1, 2, 3] bcast_S1x32x1x64_S1x32x8x64_0_1_2_3 (shapeCast S1x32x1x64 (concatenate S32x64 1 [⟨S32x32, cosT⟩, ⟨S32x32, cosT⟩] concatenates_S32x32_S32x32_S32x64_d1 : Vec Ideal S32x64 .f32) shapeCasts_S32x64_S1x32x1x64)) shapeCasts_S1x32x8x64_S32x512) shapeCasts_S32x512_S1x32x1x512)) shapeCasts_S8x32x1x512_S256x512) slices_S256x512_S256x128_0_0 := by
    unfold V hostOps0
    after_results <;> rfl
  have hpq : p = ⟨q.val % 32, Nat.mod_lt _ (by decide)⟩ := Fin.ext hp
  subst hpq
  rw [e]
  generalize cosT = C
  pointwise
  by_cases h : j.val % 64 < 32
  · simp only [h, if_true, dif_pos]
    first
      | exact congrArg C (congrArg (ix2 _) (Fin.ext (by show j.val % 64 = j.val % 32; omega)))
      | exact congrArg (fun v => -C v) (congrArg (ix2 _) (Fin.ext (by show j.val % 64 = j.val % 32; omega)))
  · simp only [h, if_false, dif_neg, not_false_eq_true]
    exact congrArg C (congrArg (ix2 _) (Fin.ext (by show j.val % 64 - 32 = j.val % 32; omega)))

theorem hostS (c : Dev nD) (q : Fin 256) (j : Fin 128) (p : Fin 32) (hp : p.val = q.val % 32) : (V m c main_v37 : Vec Ideal S256x128 .f32) (ix2 q j) = if j.val % 64 < 32 then - sinT (ix2 p ⟨j.val % 32, by omega⟩) else sinT (ix2 p ⟨j.val % 32, by omega⟩) := by
  have e : (V m c main_v37 : Vec Ideal S256x128 .f32) = extractStridedSlice S256x128 ![0, 0] (shapeCast S256x512 (broadcastInDim S8x32x1x512 ![0, 1, 2, 3] bcast_S1x32x1x512_S8x32x1x512_0_1_2_3 (shapeCast S1x32x1x512 (shapeCast S32x512 (broadcastInDim S1x32x8x64 ![0, 1, 2, 3] bcast_S1x32x1x64_S1x32x8x64_0_1_2_3 (shapeCast S1x32x1x64 (concatenate S32x64 1 [⟨S32x32, (Host.negf (sinT : FVec Ideal S32x32 .f32) : FVec Ideal S32x32 .f32)⟩, ⟨S32x32, sinT⟩] concatenates_S32x32_S32x32_S32x64_d1 : Vec Ideal S32x64 .f32) shapeCasts_S32x64_S1x32x1x64)) shapeCasts_S1x32x8x64_S32x512) shapeCasts_S32x512_S1x32x1x512)) shapeCasts_S8x32x1x512_S256x512) slices_S256x512_S256x128_0_0 := by
    unfold V hostOps0
    after_results <;> rfl
  have hpq : p = ⟨q.val % 32, Nat.mod_lt _ (by decide)⟩ := Fin.ext hp
  subst hpq
  rw [e]
  generalize sinT = C
  pointwise
  by_cases h : j.val % 64 < 32
  · simp only [h, if_true, dif_pos]
    first
      | exact congrArg C (congrArg (ix2 _) (Fin.ext (by show j.val % 64 = j.val % 32; omega)))
      | exact congrArg (fun v => -C v) (congrArg (ix2 _) (Fin.ext (by show j.val % 64 = j.val % 32; omega)))
  · simp only [h, if_false, dif_neg, not_false_eq_true]
    exact congrArg C (congrArg (ix2 _) (Fin.ext (by show j.val % 64 - 32 = j.val % 32; omega)))

theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 ∧ win0_1.index t 2 = 0 := (by decide +kernel : ∀ t : Fin grid0.N, _)
theorem idx2 : ∀ t : Fin cfg0.N, win0_2.index t 0 = 0 ∧ win0_2.index t 1 = 0 ∧ win0_2.index t 2 = 0 := (by decide +kernel : ∀ t : Fin grid0.N, _)
theorem idx3 : ∀ t : Fin cfg0.N, win0_3.index t 0 = 0 ∧ win0_3.index t 1 = 0 ∧ win0_3.index t 2 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)

theorem blk0 (c : Dev nD) (t : Fin cfg0.N) (r : Fin 256) (k : Fin 2048) (R : Fin 256) (hR : R.val = 256 * t.val + r.val) :
    (iblk m c 0 t : Vec Ideal S256x2048 .f32) (ix2 r k) = X0 m c (ix2 R k) := by
  rw [show X0 m c = V m c main_arg0 from (V_main_arg0 m c).symm]
  unfold iblk
  rw [View.read_apply]
  show V m c main_arg0 _ = V m c main_arg0 _
  congr 1
  funext a
  apply Fin.ext
  match a with
  | ⟨0, _⟩ => show win0_0.index t 0 * 256 + 1 * r.val = R.val; rw [(idx0 t).1] <;> omega
  | ⟨1, _⟩ => show win0_0.index t 1 * 2048 + 1 * k.val = k.val; rw [(idx0 t).2] <;> omega

theorem blk1 (c : Dev nD) (t : Fin cfg0.N) (k : Fin 2048) (j : Fin 2880) :
    (iblk m c 1 t : Vec Ideal S1x2048x2880 .bf16) (ix3 0 k j) = X1 m c (ix2 k j) := by
  rw [← hostW]
  unfold iblk
  rw [View.read_apply]
  show V m c main_v27 _ = V m c main_v27 _
  congr 1
  funext a
  apply Fin.ext
  match a with
  | ⟨0, _⟩ => show win0_1.index t 0 * 1 + 1 * 0 = 0; rw [(idx1 t).1] <;> omega
  | ⟨1, _⟩ => show win0_1.index t 1 * 2048 + 1 * k.val = k.val; rw [(idx1 t).2.1] <;> omega
  | ⟨2, _⟩ => show win0_1.index t 2 * 2880 + 1 * j.val = j.val; rw [(idx1 t).2.2] <;> omega

theorem blk2 (c : Dev nD) (t : Fin cfg0.N) (j : Fin 512) : (iblk m c 2 t : Vec Ideal S1x1x512 .f32) (ix3 0 0 j) = X2 m c (ix1 j) := by
  rw [← hostG2]
  unfold iblk
  rw [View.read_apply]
  show V m c main_v28 _ = V m c main_v28 _
  congr 1
  funext a
  apply Fin.ext
  match a with
  | ⟨0, _⟩ => show win0_2.index t 0 * 1 + 1 * 0 = 0; rw [(idx2 t).1] <;> omega
  | ⟨1, _⟩ => show win0_2.index t 1 * 1 + 1 * 0 = 0; rw [(idx2 t).2.1] <;> omega
  | ⟨2, _⟩ => show win0_2.index t 2 * 512 + 1 * j.val = j.val; rw [(idx2 t).2.2] <;> omega

theorem blk3 (c : Dev nD) (t : Fin cfg0.N) (j : Fin 256) : (iblk m c 3 t : Vec Ideal S1x1x256 .f32) (ix3 0 0 j) = X3 m c (ix1 j) := by
  rw [← hostG3]
  unfold iblk
  rw [View.read_apply]
  show V m c main_v29 _ = V m c main_v29 _
  congr 1
  funext a
  apply Fin.ext
  match a with
  | ⟨0, _⟩ => show win0_3.index t 0 * 1 + 1 * 0 = 0; rw [(idx3 t).1] <;> omega
  | ⟨1, _⟩ => show win0_3.index t 1 * 1 + 1 * 0 = 0; rw [(idx3 t).2.1] <;> omega
  | ⟨2, _⟩ => show win0_3.index t 2 * 256 + 1 * j.val = j.val; rw [(idx3 t).2.2] <;> omega

theorem blk4 (c : Dev nD) (t : Fin cfg0.N) (r : Fin 256) (j : Fin 128) (p : Fin 32) (hp : p.val = (256 * t.val + r.val) % 32) :
    (iblk m c 4 t : Vec Ideal S256x128 .f32) (ix2 r j) = cosT (ix2 p ⟨j.val % 32, by omega⟩) := by
  have hN : t.val < 1 := lt_of_lt_of_eq t.isLt N_0
  rw [← hostC m c ⟨(256 * t.val + r.val) % 256, by omega⟩ j p (by show p.val = ((256 * t.val + r.val) % 256) % 32; omega)]
  unfold iblk
  rw [View.read_apply]
  show V m c main_v33 _ = V m c main_v33 _
  congr 1
  funext a
  apply Fin.ext
  match a with
  | ⟨0, _⟩ => show win0_4.index t 0 * 256 + 1 * r.val = (256 * t.val + r.val) % 256; rw [(idx4 t).1]; omega
  | ⟨1, _⟩ => show win0_4.index t 1 * 128 + 1 * j.val = j.val; rw [(idx4 t).2] <;> omega

theorem blk5 (c : Dev nD) (t : Fin cfg0.N) (r : Fin 256) (j : Fin 128) (p : Fin 32) (hp : p.val = (256 * t.val + r.val) % 32) :
    (iblk m c 5 t : Vec Ideal S256x128 .f32) (ix2 r j) = if j.val % 64 < 32 then - sinT (ix2 p ⟨j.val % 32, by omega⟩) else sinT (ix2 p ⟨j.val % 32, by omega⟩) := by
  have hN : t.val < 1 := lt_of_lt_of_eq t.isLt N_0
  rw [← hostS m c ⟨(256 * t.val + r.val) % 256, by omega⟩ j p (by show p.val = ((256 * t.val + r.val) % 256) % 32; omega)]
  unfold iblk
  rw [View.read_apply]
  show V m c main_v37 _ = V m c main_v37 _
  congr 1
  funext a
  apply Fin.ext
  match a with
  | ⟨0, _⟩ => show win0_5.index t 0 * 256 + 1 * r.val = (256 * t.val + r.val) % 256; rw [(idx5 t).1]; omega
  | ⟨1, _⟩ => show win0_5.index t 1 * 128 + 1 * j.val = j.val; rw [(idx5 t).2] <;> omega

theorem zb_eq (c : Dev nD) (t : Fin cfg0.N) (r : Fin 256) (R : Fin 256) (hR : R.val = 256 * t.val + r.val) (j : Fin 2880) :
    zb (iblk m c 0 t) (iblk m c 1 t) r j = Cert.Reference5Ideal.InProj.z (X0 m c) (X1 m c) R j := by
  unfold zb Cert.Reference5Ideal.InProj.z
  refine Finset.sum_congr (M := EReal) rfl fun k _ => ?_
  rw [blk0 m c t r k R hR, blk1]

/-- Output window 6's final array is the reference's. -/
abbrev G6 (c : Dev nD) : Vec Ideal S256x2048 .f32 := Cert.Reference5Ideal.Read.val_main_v40 (F := Ideal) (X0 m c) (X1 m c)

theorem idx6 : ∀ t : Fin cfg0.N, win0_6.index t 0 = t.val ∧ win0_6.index t 1 = 0 := (by decide +kernel : ∀ t : Fin grid0.N, _)

theorem entry6 (c : Dev nD) (t : Fin cfg0.N) (r : Fin 256) (j : Fin 2048) (R : Fin 256) (hR : R.val = 256 * t.val + r.val) :
    out0_6 (iblk m c 0 t) (iblk m c 1 t) (iblk m c 2 t) (iblk m c 3 t) (iblk m c 4 t) (iblk m c 5 t) (ix2 r j) = G6 m c (ix2 R j) := by
  rw [o6, zb_eq m c t r R hR]
  exact (Cert.Reference5Ideal.InProj.r40 (X0 m c) (X1 m c) R j).symm

theorem flushed6 (c : Dev nD) (t : Fin cfg0.N) :
    (dats m 0 c).flushed 6 t = ((cfg0.win 6).blk t).view.read (Elt Ideal) (G6 m c : Buf (Elt Ideal) ((c : Thread nD τ).loc main_v38_0)) := by
  rw [Value.flushed6]
  have hN : t.val < 1 := lt_of_lt_of_eq t.isLt N_0
  funext y
  have hy0 : (y 0).val < 256 := (y 0).isLt
  have hy1 : (y 1).val < 2048 := (y 1).isLt
  obtain ⟨d0, d1⟩ := idx6 t
  have hx : (cfg0.win 6).xinj (grid0.coords t) y = (ix2 ⟨(y 0).val, hy0⟩ ⟨(y 1).val, hy1⟩ : S256x2048.Idx) := by
    funext a; apply Fin.ext
    match a with
    | ⟨0, _⟩ => rfl
    | ⟨1, _⟩ => rfl
  have he : ((cfg0.win 6).blk t).view.emb y = (ix2 ⟨256 * t.val + (y 0).val, by omega⟩ ⟨(y 1).val, hy1⟩ : S256x2048.Idx) := by
    funext a; apply Fin.ext
    match a with
    | ⟨0, _⟩ => show win0_6.index t 0 * 256 + 1 * (y 0).val = 256 * t.val + (y 0).val; rw [d0]; omega
    | ⟨1, _⟩ => show win0_6.index t 1 * 2048 + 1 * (y 1).val = (y 1).val; rw [d1]; omega
  show out0_6 (iblk m c 0 t) (iblk m c 1 t) (iblk m c 2 t) (iblk m c 3 t) (iblk m c 4 t) (iblk m c 5 t) ((cfg0.win 6).xinj (grid0.coords t) y) = G6 m c (((cfg0.win 6).blk t).view.emb y)
  rw [hx, he]
  exact entry6 m c t _ _ _ rfl

theorem mem_blk6 (t : Fin cfg0.N) (i : S256x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v38_0).slice (win0_6.rect t)).set ↔ _
  rw [View.set_slice_whole, Rect.mem_set_unit]
  exact Iff.rfl

theorem final6 (c : Dev nD) : (dats m 0 c).arrAt 6 cfg0.N = (G6 m c : Buf (Elt Ideal) ((c : Thread nD τ).loc main_v38_0)) :=
  (dats m 0 c).arrAt_eq_of_cover 6 _ (fun t _ => flushed6 m c t) (fun i => by
    have h0 : (i 0).val < 256 := (i 0).isLt
    have h1 : (i 1).val < 2048 := (i 1).isLt
    have hlt : (i 0).val / 256 < cfg0.N := lt_of_lt_of_eq (by omega) N_0.symm
    refine ⟨⟨(i 0).val / 256, hlt⟩, flush0_6 _, ?_⟩
    rw [mem_blk6]
    obtain ⟨d0, d1⟩ := idx6 ⟨(i 0).val / 256, hlt⟩
    intro a
    match a with
    | ⟨0, _⟩ =>
      show win0_6.index _ 0 * 256 ≤ (i 0).val ∧ (i 0).val < win0_6.index _ 0 * 256 + 256
      rw [d0]
      show (i 0).val / 256 * 256 ≤ (i 0).val ∧ (i 0).val < (i 0).val / 256 * 256 + 256
      omega
    | ⟨1, _⟩ =>
      show win0_6.index _ 1 * 2048 ≤ (i 1).val ∧ (i 1).val < win0_6.index _ 1 * 2048 + 2048
      rw [d1]
      omega)

/-- Output window 7's final array is the reference's. -/
abbrev G7 (c : Dev nD) : Vec Ideal S256x512 .bf16 := Cert.Reference5Ideal.Read.val_main_v55 (F := Ideal) (X0 m c) (X1 m c) (X2 m c)

theorem idx7 : ∀ t : Fin cfg0.N, win0_7.index t 0 = t.val ∧ win0_7.index t 1 = 0 := (by decide +kernel : ∀ t : Fin grid0.N, _)

theorem entry7 (c : Dev nD) (t : Fin cfg0.N) (r : Fin 256) (j : Fin 512) (R : Fin 256) (hR : R.val = 256 * t.val + r.val) :
    out0_7 (iblk m c 0 t) (iblk m c 1 t) (iblk m c 2 t) (iblk m c 3 t) (iblk m c 4 t) (iblk m c 5 t) (ix2 r j) = G7 m c (ix2 R j) := by
  rw [o7, blk2]
  simp only [zb_eq m c t r R hR]
  exact (Cert.Reference5Ideal.InProj.r55 (X0 m c) (X1 m c) (X2 m c) R j).symm

theorem flushed7 (c : Dev nD) (t : Fin cfg0.N) :
    (dats m 0 c).flushed 7 t = ((cfg0.win 7).blk t).view.read (Elt Ideal) (G7 m c : Buf (Elt Ideal) ((c : Thread nD τ).loc main_v38_1)) := by
  rw [Value.flushed7]
  have hN : t.val < 1 := lt_of_lt_of_eq t.isLt N_0
  funext y
  have hy0 : (y 0).val < 256 := (y 0).isLt
  have hy1 : (y 1).val < 512 := (y 1).isLt
  obtain ⟨d0, d1⟩ := idx7 t
  have hx : (cfg0.win 7).xinj (grid0.coords t) y = (ix2 ⟨(y 0).val, hy0⟩ ⟨(y 1).val, hy1⟩ : S256x512.Idx) := by
    funext a; apply Fin.ext
    match a with
    | ⟨0, _⟩ => rfl
    | ⟨1, _⟩ => rfl
  have he : ((cfg0.win 7).blk t).view.emb y = (ix2 ⟨256 * t.val + (y 0).val, by omega⟩ ⟨(y 1).val, hy1⟩ : S256x512.Idx) := by
    funext a; apply Fin.ext
    match a with
    | ⟨0, _⟩ => show win0_7.index t 0 * 256 + 1 * (y 0).val = 256 * t.val + (y 0).val; rw [d0]; omega
    | ⟨1, _⟩ => show win0_7.index t 1 * 512 + 1 * (y 1).val = (y 1).val; rw [d1]; omega
  show out0_7 (iblk m c 0 t) (iblk m c 1 t) (iblk m c 2 t) (iblk m c 3 t) (iblk m c 4 t) (iblk m c 5 t) ((cfg0.win 7).xinj (grid0.coords t) y) = G7 m c (((cfg0.win 7).blk t).view.emb y)
  rw [hx, he]
  exact entry7 m c t _ _ _ rfl

theorem mem_blk7 (t : Fin cfg0.N) (i : S256x512.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v38_1).slice (win0_7.rect t)).set ↔ _
  rw [View.set_slice_whole, Rect.mem_set_unit]
  exact Iff.rfl

theorem final7 (c : Dev nD) : (dats m 0 c).arrAt 7 cfg0.N = (G7 m c : Buf (Elt Ideal) ((c : Thread nD τ).loc main_v38_1)) :=
  (dats m 0 c).arrAt_eq_of_cover 7 _ (fun t _ => flushed7 m c t) (fun i => by
    have h0 : (i 0).val < 256 := (i 0).isLt
    have h1 : (i 1).val < 512 := (i 1).isLt
    have hlt : (i 0).val / 256 < cfg0.N := lt_of_lt_of_eq (by omega) N_0.symm
    refine ⟨⟨(i 0).val / 256, hlt⟩, flush0_7 _, ?_⟩
    rw [mem_blk7]
    obtain ⟨d0, d1⟩ := idx7 ⟨(i 0).val / 256, hlt⟩
    intro a
    match a with
    | ⟨0, _⟩ =>
      show win0_7.index _ 0 * 256 ≤ (i 0).val ∧ (i 0).val < win0_7.index _ 0 * 256 + 256
      rw [d0]
      show (i 0).val / 256 * 256 ≤ (i 0).val ∧ (i 0).val < (i 0).val / 256 * 256 + 256
      omega
    | ⟨1, _⟩ =>
      show win0_7.index _ 1 * 512 ≤ (i 1).val ∧ (i 1).val < win0_7.index _ 1 * 512 + 512
      rw [d1]
      omega)

/-- Output window 8's final array is the reference's. -/
abbrev G8 (c : Dev nD) : Vec Ideal S256x256 .f32 := Cert.Reference5Ideal.Read.val_main_v69 (F := Ideal) (X0 m c) (X1 m c) (X3 m c)

theorem idx8 : ∀ t : Fin cfg0.N, win0_8.index t 0 = t.val ∧ win0_8.index t 1 = 0 := (by decide +kernel : ∀ t : Fin grid0.N, _)

theorem entry8 (c : Dev nD) (t : Fin cfg0.N) (r : Fin 256) (j : Fin 256) (R : Fin 256) (hR : R.val = 256 * t.val + r.val) :
    out0_8 (iblk m c 0 t) (iblk m c 1 t) (iblk m c 2 t) (iblk m c 3 t) (iblk m c 4 t) (iblk m c 5 t) (ix2 r j) = G8 m c (ix2 R j) := by
  rw [o8, blk3]
  simp only [zb_eq m c t r R hR]
  exact (Cert.Reference5Ideal.InProj.r69 (X0 m c) (X1 m c) (X3 m c) R j).symm

theorem flushed8 (c : Dev nD) (t : Fin cfg0.N) :
    (dats m 0 c).flushed 8 t = ((cfg0.win 8).blk t).view.read (Elt Ideal) (G8 m c : Buf (Elt Ideal) ((c : Thread nD τ).loc main_v38_2)) := by
  rw [Value.flushed8]
  have hN : t.val < 1 := lt_of_lt_of_eq t.isLt N_0
  funext y
  have hy0 : (y 0).val < 256 := (y 0).isLt
  have hy1 : (y 1).val < 256 := (y 1).isLt
  obtain ⟨d0, d1⟩ := idx8 t
  have hx : (cfg0.win 8).xinj (grid0.coords t) y = (ix2 ⟨(y 0).val, hy0⟩ ⟨(y 1).val, hy1⟩ : S256x256.Idx) := by
    funext a; apply Fin.ext
    match a with
    | ⟨0, _⟩ => rfl
    | ⟨1, _⟩ => rfl
  have he : ((cfg0.win 8).blk t).view.emb y = (ix2 ⟨256 * t.val + (y 0).val, by omega⟩ ⟨(y 1).val, hy1⟩ : S256x256.Idx) := by
    funext a; apply Fin.ext
    match a with
    | ⟨0, _⟩ => show win0_8.index t 0 * 256 + 1 * (y 0).val = 256 * t.val + (y 0).val; rw [d0]; omega
    | ⟨1, _⟩ => show win0_8.index t 1 * 256 + 1 * (y 1).val = (y 1).val; rw [d1]; omega
  show out0_8 (iblk m c 0 t) (iblk m c 1 t) (iblk m c 2 t) (iblk m c 3 t) (iblk m c 4 t) (iblk m c 5 t) ((cfg0.win 8).xinj (grid0.coords t) y) = G8 m c (((cfg0.win 8).blk t).view.emb y)
  rw [hx, he]
  exact entry8 m c t _ _ _ rfl

theorem mem_blk8 (t : Fin cfg0.N) (i : S256x256.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v38_2).slice (win0_8.rect t)).set ↔ _
  rw [View.set_slice_whole, Rect.mem_set_unit]
  exact Iff.rfl

theorem final8 (c : Dev nD) : (dats m 0 c).arrAt 8 cfg0.N = (G8 m c : Buf (Elt Ideal) ((c : Thread nD τ).loc main_v38_2)) :=
  (dats m 0 c).arrAt_eq_of_cover 8 _ (fun t _ => flushed8 m c t) (fun i => by
    have h0 : (i 0).val < 256 := (i 0).isLt
    have h1 : (i 1).val < 256 := (i 1).isLt
    have hlt : (i 0).val / 256 < cfg0.N := lt_of_lt_of_eq (by omega) N_0.symm
    refine ⟨⟨(i 0).val / 256, hlt⟩, flush0_8 _, ?_⟩
    rw [mem_blk8]
    obtain ⟨d0, d1⟩ := idx8 ⟨(i 0).val / 256, hlt⟩
    intro a
    match a with
    | ⟨0, _⟩ =>
      show win0_8.index _ 0 * 256 ≤ (i 0).val ∧ (i 0).val < win0_8.index _ 0 * 256 + 256
      rw [d0]
      show (i 0).val / 256 * 256 ≤ (i 0).val ∧ (i 0).val < (i 0).val / 256 * 256 + 256
      omega
    | ⟨1, _⟩ =>
      show win0_8.index _ 1 * 256 ≤ (i 1).val ∧ (i 1).val < win0_8.index _ 1 * 256 + 256
      rw [d1]
      omega)

/-- Output window 9's final array is the reference's. -/
abbrev G9 (c : Dev nD) : Vec Ideal S256x64 .f32 := Cert.Reference5Ideal.Read.val_main_v70 (F := Ideal) (X0 m c) (X1 m c)

theorem idx9 : ∀ t : Fin cfg0.N, win0_9.index t 0 = t.val ∧ win0_9.index t 1 = 0 := (by decide +kernel : ∀ t : Fin grid0.N, _)

theorem entry9 (c : Dev nD) (t : Fin cfg0.N) (r : Fin 256) (j : Fin 64) (R : Fin 256) (hR : R.val = 256 * t.val + r.val) :
    out0_9 (iblk m c 0 t) (iblk m c 1 t) (iblk m c 2 t) (iblk m c 3 t) (iblk m c 4 t) (iblk m c 5 t) (ix2 r j) = G9 m c (ix2 R j) := by
  have hp : R.val % 32 = (256 * t.val + r.val) % 32 := by rw [hR]
  rw [o9 (iblk m c 0 t) (iblk m c 1 t) (iblk m c 2 t) (iblk m c 3 t) (iblk m c 4 t) (iblk m c 5 t) r j (fun i => cosT (ix2 ⟨R.val % 32, Nat.mod_lt _ (by decide)⟩ i)) (fun i => sinT (ix2 ⟨R.val % 32, Nat.mod_lt _ (by decide)⟩ i))
    (blk4 m c t r _ _ hp) (blk5 m c t r _ _ hp)]
  simp only [zb_eq m c t r R hR]
  exact (Cert.Reference5Ideal.InProj.r70 (X0 m c) (X1 m c) R j).symm

theorem flushed9 (c : Dev nD) (t : Fin cfg0.N) :
    (dats m 0 c).flushed 9 t = ((cfg0.win 9).blk t).view.read (Elt Ideal) (G9 m c : Buf (Elt Ideal) ((c : Thread nD τ).loc main_v38_3)) := by
  rw [Value.flushed9]
  have hN : t.val < 1 := lt_of_lt_of_eq t.isLt N_0
  funext y
  have hy0 : (y 0).val < 256 := (y 0).isLt
  have hy1 : (y 1).val < 64 := (y 1).isLt
  obtain ⟨d0, d1⟩ := idx9 t
  have hx : (cfg0.win 9).xinj (grid0.coords t) y = (ix2 ⟨(y 0).val, hy0⟩ ⟨(y 1).val, hy1⟩ : S256x64.Idx) := by
    funext a; apply Fin.ext
    match a with
    | ⟨0, _⟩ => rfl
    | ⟨1, _⟩ => rfl
  have he : ((cfg0.win 9).blk t).view.emb y = (ix2 ⟨256 * t.val + (y 0).val, by omega⟩ ⟨(y 1).val, hy1⟩ : S256x64.Idx) := by
    funext a; apply Fin.ext
    match a with
    | ⟨0, _⟩ => show win0_9.index t 0 * 256 + 1 * (y 0).val = 256 * t.val + (y 0).val; rw [d0]; omega
    | ⟨1, _⟩ => show win0_9.index t 1 * 64 + 1 * (y 1).val = (y 1).val; rw [d1]; omega
  show out0_9 (iblk m c 0 t) (iblk m c 1 t) (iblk m c 2 t) (iblk m c 3 t) (iblk m c 4 t) (iblk m c 5 t) ((cfg0.win 9).xinj (grid0.coords t) y) = G9 m c (((cfg0.win 9).blk t).view.emb y)
  rw [hx, he]
  exact entry9 m c t _ _ _ rfl

theorem mem_blk9 (t : Fin cfg0.N) (i : S256x64.Idx) :
    i ∈ ((cfg0.win 9).blk t).view.set ↔ ∀ a : Fin 2, win0_9.index t a * S256x64.size a ≤ (i a).val ∧ (i a).val < win0_9.index t a * S256x64.size a + S256x64.size a := by
  show i ∈ ((View.whole main_v38_3).slice (win0_9.rect t)).set ↔ _
  rw [View.set_slice_whole, Rect.mem_set_unit]
  exact Iff.rfl

theorem final9 (c : Dev nD) : (dats m 0 c).arrAt 9 cfg0.N = (G9 m c : Buf (Elt Ideal) ((c : Thread nD τ).loc main_v38_3)) :=
  (dats m 0 c).arrAt_eq_of_cover 9 _ (fun t _ => flushed9 m c t) (fun i => by
    have h0 : (i 0).val < 256 := (i 0).isLt
    have h1 : (i 1).val < 64 := (i 1).isLt
    have hlt : (i 0).val / 256 < cfg0.N := lt_of_lt_of_eq (by omega) N_0.symm
    refine ⟨⟨(i 0).val / 256, hlt⟩, flush0_9 _, ?_⟩
    rw [mem_blk9]
    obtain ⟨d0, d1⟩ := idx9 ⟨(i 0).val / 256, hlt⟩
    intro a
    match a with
    | ⟨0, _⟩ =>
      show win0_9.index _ 0 * 256 ≤ (i 0).val ∧ (i 0).val < win0_9.index _ 0 * 256 + 256
      rw [d0]
      show (i 0).val / 256 * 256 ≤ (i 0).val ∧ (i 0).val < (i 0).val / 256 * 256 + 256
      omega
    | ⟨1, _⟩ =>
      show win0_9.index _ 1 * 64 ≤ (i 1).val ∧ (i 1).val < win0_9.index _ 1 * 64 + 64
      rw [d1]
      omega)

end Cert.Kernel5Ideal.InProj

end
-- ==== Proof.MmLnValue.lean ====
/-
  The output product with its residual, its norm and the query product (Kernel6): a grid point takes 512 rows in two
  halves, multiplies each half's two inputs by the two halves of the matrix, adds the scaled rows, normalises, and
  multiplies what it stored by the second matrix. The reference contracts over the two inputs laid side by side: the
  sum over 2048 columns is the sum over the first 1024 and the last 1024.
-/
module

public import proofs.«01_k».proof.Defs
public import proofs.«01_k».proof.Proof.MlpValue
public import proofs.«01_k».proof.Proof.Gen.Kernel6Ideal.Value
public import proofs.«01_k».proof.Proof.Gen.Reference6Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Kernel2Ideal.Mlp (lnRow)

namespace Cert.Reference6Ideal.MmLn

open Cert.Reference6Ideal Cert.Reference6Ideal.Read

variable (a0 a1 : S8192x1024.Idx → Ideal .bf16) (w : S2048x2048.Idx → Ideal .f32) (x : S8192x2048.Idx → Ideal .f32)
  (g b : S2048.Idx → Ideal .f32) (wq : S2048x2048.Idx → Ideal .f32)

/-- The reference's rows before the norm, its one sum in the two parts the kernel adds. -/
theorem ref_y (r : Fin 8192) (e : Fin 2048) :
    val_main_v7 (F := Ideal) a0 a1 w x (ix2 r e)
      = Ideal.sqrt (Ideal.sqrt (Ideal.ofBits FTy.f32 1090519040#32)) * x (ix2 r e)
        + (∑ k : Fin 1024, a0 (ix2 r k) * w (ix2 ⟨k.val, by omega⟩ e) + ∑ k : Fin 1024, a1 (ix2 r k) * w (ix2 ⟨1024 + k.val, by omega⟩ e)) := by
  have e1 : val_main_v7 (F := Ideal) a0 a1 w x (ix2 r e)
      = Ideal.sqrt (Ideal.sqrt (Ideal.ofBits FTy.f32 1090519040#32)) * x (ix2 r e)
        + ∑ k : Fin 2048, (if h : k.val < 1024 then a0 (ix2 r ⟨k.val, h⟩) else a1 (ix2 r ⟨k.val - 1024, by omega⟩)) * w (ix2 k e) := by
    unfold val_main_v7 val_main_v6 val_main_v5 val_main_v4 val_main_v3 val_main_cst val_main_v2 val_main_v1 val_main_v0
    pointwise
  rw [e1]
  congr 1
  refine (Fin.sum_univ_add (a := 1024) (b := 1024) (M := EReal) fun k : Fin 2048 => (if h : k.val < 1024 then a0 (ix2 r ⟨k.val, h⟩) else a1 (ix2 r ⟨k.val - 1024, by omega⟩)) * w (ix2 k e)).trans ?_
  refine congrArg₂ (· + ·) (Finset.sum_congr (M := EReal) rfl fun k _ => ?_) (Finset.sum_congr (M := EReal) rfl fun k _ => ?_)
  · have h : (Fin.castAdd 1024 k : Fin 2048).val < 1024 := k.isLt
    rw [dif_pos h]
    rfl
  · have h : ¬ (Fin.natAdd 1024 k : Fin 2048).val < 1024 := by show ¬ 1024 + k.val < 1024; omega
    rw [dif_neg h]
    refine congrArg₂ (· * ·) (congrArg a1 (congrArg (ix2 r) (Fin.ext ?_))) rfl
    show 1024 + k.val - 1024 = k.val
    omega

theorem ref_ln (r : Fin 8192) (e : Fin 2048) :
    val_main_v31 (F := Ideal) a0 a1 w x g b (ix2 r e)
      = lnRow (fun e => val_main_v7 (F := Ideal) a0 a1 w x (ix2 r e)) (fun e => g (ix1 e)) (fun e => b (ix1 e)) e := by
  unfold val_main_v31 val_main_v30 val_main_v29 val_main_v28 val_main_v27 val_main_v26 val_main_v25 val_main_v24 val_main_v23 val_main_v22 val_main_v21 val_main_cst_4 val_main_v20 val_main_v19 val_main_v18 val_main_v17 val_main_cst_3 val_main_v16 val_main_v15 val_main_cst_2 val_main_v14 val_main_v13 val_main_v12 val_main_v11 val_main_v10 val_main_cst_1 val_main_v9 val_main_v8 val_main_cst_0
  generalize val_main_v7 (F := Ideal) a0 a1 w x = y
  pointwise
  rfl

theorem ref_q (r : Fin 8192) (e : Fin 2048) :
    val_main_v33 (F := Ideal) a0 a1 w x g b wq (ix2 r e) = ∑ k : Fin 2048, val_main_v31 (F := Ideal) a0 a1 w x g b (ix2 r k) * wq (ix2 k e) := by
  unfold val_main_v33 val_main_v32
  generalize val_main_v31 (F := Ideal) a0 a1 w x g b = y
  pointwise

end Cert.Reference6Ideal.MmLn

namespace Cert.Kernel6Ideal.MmLn

open Cert.Kernel6Ideal Cert.Kernel6Ideal.Gen

variable (m : (ℓ : Loc nD τ sig) → Buf (Elt Ideal) ℓ)

theorem hz2 : (![0, 0] : Fin 2 → ℕ) = fun _ => 0 := by decide
theorem hz3 : (![0, 0, 0] : Fin 3 → ℕ) = fun _ => 0 := by decide

/-- The scale of the kernel's residual. -/
abbrev al : EReal := Named.named (F := Ideal) κ "alpha" (φ := .f32) 1071072509#32

/-- The kernel's named scale is the reference's two roots of eight. -/
theorem al_eq : al = Ideal.sqrt (Ideal.sqrt (Ideal.ofBits FTy.f32 1090519040#32)) := by
  have e8 : Ideal.ofBits FTy.f32 1090519040#32 = ((8 : ℝ) : EReal) := by
    simp [Ideal.ofBits, Ideal.ieee, -EReal.coe_mul]; norm_num
  have ea : al = ((Real.sqrt (Real.sqrt 8) : ℝ) : EReal) := IdealRules.named_const.ideal_named_scalar _ _ _ _ rfl
  rw [ea, e8, Ideal.sqrt_coe, if_neg (by norm_num), Ideal.sqrt_coe, if_neg (not_lt.mpr (Real.sqrt_nonneg 8))]

theorem first_apply (v0 v4 : Vec Ideal S256x1024 .bf16) (v1 v5 : Vec Ideal S1x1024x2048 .bf16) (v9 : Vec Ideal S256x2048 .f32)
    (g b : Vec Ideal S1x1x2048 .f32) (r : Fin 256) (e : Fin 2048) :
    k0_pay7 (k0_pay4 g) (k0_pay5 b) (k0_pay6 v0 v1 v4 v5 v9) (ix2 r e)
      = lnRow (fun e => al * v9 (ix2 r e) + (∑ k : Fin 1024, v0 (ix2 r k) * v1 (ix3 0 k e) + ∑ k : Fin 1024, v4 (ix2 r k) * v5 (ix3 0 k e)))
          (fun e => g (ix3 0 0 e)) (fun e => b (ix3 0 0 e)) e := by
  unfold_payloads
  pointwise
  rfl

theorem second_apply (v0 v4 : Vec Ideal S256x1024 .bf16) (v1 v5 : Vec Ideal S1x1024x2048 .bf16) (v9 : Vec Ideal S256x2048 .f32)
    (g b : Vec Ideal S1x1x2048 .f32) (r : Fin 256) (e : Fin 2048) :
    k0_pay1 (k0_pay8 g) (k0_pay9 b) (k0_pay10 v0 v1 v4 v5 v9) (k0_pay11 v0 v1 v4 v5 v9) k0_pay12 (ix2 r e)
      = lnRow (fun e => al * v9 (ix2 r e) + (∑ k : Fin 1024, v0 (ix2 r k) * v1 (ix3 0 k e) + ∑ k : Fin 1024, v4 (ix2 r k) * v5 (ix3 0 k e)))
          (fun e => g (ix3 0 0 e)) (fun e => b (ix3 0 0 e)) e := by
  unfold_payloads
  pointwise
  rfl

theorem pay2_apply (y : Vec Ideal S256x2048 .f32) (v : Vec Ideal S1x2048x2048 .bf16) (r : Fin 256) (e : Fin 2048) :
    k0_pay2 y v (ix2 r e) = ∑ k : Fin 2048, y (ix2 r k) * v (ix3 0 k e) := by
  unfold k0_pay2
  pointwise

section Blocks

variable (x0 x1 : Vec Ideal S512x1024 .bf16) (x2 : Vec Ideal S1x2048x2048 .bf16) (x3 : Vec Ideal S512x2048 .f32) (x4 x5 : Vec Ideal S1x1x2048 .f32)
  (x6 : Vec Ideal S1x2048x2048 .bf16)

theorem ld0 (X : Vec Ideal S512x1024 .bf16) (r : Fin 256) (k : Fin 1024) : View.ld X r0_0 (ix2 r k) = X (ix2 ⟨r.val, by omega⟩ k) := by
  show X _ = X _
  congr 1
  funext a
  apply Fin.ext
  match a with
  | ⟨0, _⟩ => show 0 + 1 * r.val = r.val; omega
  | ⟨1, _⟩ => show 0 + 1 * k.val = k.val; omega

theorem ld5 (X : Vec Ideal S512x1024 .bf16) (r : Fin 256) (k : Fin 1024) : View.ld X r0_5 (ix2 r k) = X (ix2 ⟨256 + r.val, by omega⟩ k) := by
  show X _ = X _
  congr 1
  funext a
  apply Fin.ext
  match a with
  | ⟨0, _⟩ => show 256 + 1 * r.val = 256 + r.val; omega
  | ⟨1, _⟩ => show 0 + 1 * k.val = k.val; omega

theorem ld3 (X : Vec Ideal S512x2048 .f32) (r : Fin 256) (k : Fin 2048) : View.ld X r0_3 (ix2 r k) = X (ix2 ⟨r.val, by omega⟩ k) := by
  show X _ = X _
  congr 1
  funext a
  apply Fin.ext
  match a with
  | ⟨0, _⟩ => show 0 + 1 * r.val = r.val; omega
  | ⟨1, _⟩ => show 0 + 1 * k.val = k.val; omega

theorem ld6 (X : Vec Ideal S512x2048 .f32) (r : Fin 256) (k : Fin 2048) : View.ld X r0_6 (ix2 r k) = X (ix2 ⟨256 + r.val, by omega⟩ k) := by
  show X _ = X _
  congr 1
  funext a
  apply Fin.ext
  match a with
  | ⟨0, _⟩ => show 256 + 1 * r.val = 256 + r.val; omega
  | ⟨1, _⟩ => show 0 + 1 * k.val = k.val; omega

theorem ld1 (X : Vec Ideal S1x2048x2048 .bf16) (k : Fin 1024) (e : Fin 2048) : View.ld X r0_1 (ix3 0 k e) = X (ix3 0 ⟨k.val, by omega⟩ e) := by
  show X _ = X _
  congr 1
  funext a
  apply Fin.ext
  match a with
  | ⟨0, _⟩ => rfl
  | ⟨1, _⟩ => show 0 + 1 * k.val = k.val; omega
  | ⟨2, _⟩ => show 0 + 1 * e.val = e.val; omega

theorem ld2 (X : Vec Ideal S1x2048x2048 .bf16) (k : Fin 1024) (e : Fin 2048) : View.ld X r0_2 (ix3 0 k e) = X (ix3 0 ⟨1024 + k.val, by omega⟩ e) := by
  show X _ = X _
  congr 1
  funext a
  apply Fin.ext
  match a with
  | ⟨0, _⟩ => rfl
  | ⟨1, _⟩ => show 1024 + 1 * k.val = 1024 + k.val; omega
  | ⟨2, _⟩ => show 0 + 1 * e.val = e.val; omega

theorem ld7 (X : Vec Ideal S1x2048x2048 .bf16) (k e : Fin 2048) : View.ld X r0_7 (ix3 0 k e) = X (ix3 0 k e) := by
  show X _ = X _
  congr 1
  funext a
  apply Fin.ext
  match a with
  | ⟨0, _⟩ => rfl
  | ⟨1, _⟩ => show 0 + 1 * k.val = k.val; omega
  | ⟨2, _⟩ => show 0 + 1 * e.val = e.val; omega

theorem ld4 (X : Vec Ideal S1x1x2048 .f32) (e : Fin 2048) : View.ld X r0_4 (ix3 0 0 e) = X (ix3 0 0 e) := by
  show X _ = X _
  congr 1
  funext a
  apply Fin.ext
  match a with
  | ⟨0, _⟩ => rfl
  | ⟨1, _⟩ => rfl
  | ⟨2, _⟩ => show 0 + 1 * e.val = e.val; omega

/-- Row `r` of the block before the norm. -/
def yB (r : Fin 512) (e : Fin 2048) : EReal :=
  al * x3 (ix2 r e) + (∑ k : Fin 1024, x0 (ix2 r k) * x2 (ix3 0 ⟨k.val, by omega⟩ e) + ∑ k : Fin 1024, x1 (ix2 r k) * x2 (ix3 0 ⟨1024 + k.val, by omega⟩ e))

/-- Row `r` of the block after the norm. -/
def xoB (r : Fin 512) (e : Fin 2048) : EReal := lnRow (yB x0 x1 x2 x3 r) (fun e => x4 (ix3 0 0 e)) (fun e => x5 (ix3 0 0 e)) e

theorem rowCongr {y y' g g' b b' : Fin 2048 → EReal} (hy : y = y') (hg : g = g') (hb : b = b') (e : Fin 2048) : lnRow y g b e = lnRow y' g' b' e := by
  rw [hy, hg, hb]

theorem half1 (r : Fin 256) (e : Fin 2048) :
    k0_pay7 (k0_pay13 x0 x1 x2 x3 x4 x5 x6) (k0_pay14 x0 x1 x2 x3 x4 x5 x6) (k0_pay15 x0 x1 x2 x3 x4 x5 x6) (ix2 r e) = xoB x0 x1 x2 x3 x4 x5 ⟨r.val, by omega⟩ e := by
  unfold k0_pay13 k0_pay14 k0_pay15
  refine (first_apply _ _ _ _ _ _ _ r e).trans ?_
  refine rowCongr (funext fun e => congrArg₂ (· + ·) (congrArg (al * ·) (ld3 x3 r e)) (congrArg₂ (· + ·) (Finset.sum_congr (M := EReal) rfl fun k _ => ?_) (Finset.sum_congr (M := EReal) rfl fun k _ => ?_)))
    (funext fun e => ld4 x4 e) (funext fun e => ld4 x5 e) e
  · exact congrArg₂ (· * ·) (ld0 x0 r k) (ld1 x2 k e)
  · exact congrArg₂ (· * ·) (ld0 x1 r k) (ld2 x2 k e)

theorem half2 (r : Fin 256) (e : Fin 2048) :
    k0_pay1 (k0_pay16 x0 x1 x2 x3 x4 x5 x6) (k0_pay17 x0 x1 x2 x3 x4 x5 x6) (k0_pay18 x0 x1 x2 x3 x4 x5 x6) (k0_pay19 x0 x1 x2 x3 x4 x5 x6) (k0_pay20 x0 x1 x2 x3 x4 x5 x6) (ix2 r e)
      = xoB x0 x1 x2 x3 x4 x5 ⟨256 + r.val, by omega⟩ e := by
  unfold k0_pay16 k0_pay17 k0_pay18 k0_pay19 k0_pay20
  refine (second_apply _ _ _ _ _ _ _ r e).trans ?_
  refine rowCongr (funext fun e => congrArg₂ (· + ·) (congrArg (al * ·) (ld6 x3 r e)) (congrArg₂ (· + ·) (Finset.sum_congr (M := EReal) rfl fun k _ => ?_) (Finset.sum_congr (M := EReal) rfl fun k _ => ?_)))
    (funext fun e => ld4 x4 e) (funext fun e => ld4 x5 e) e
  · exact congrArg₂ (· * ·) (ld5 x0 r k) (ld1 x2 k e)
  · exact congrArg₂ (· * ·) (ld5 x1 r k) (ld2 x2 k e)

/-- A block stored as its lower half and then its upper half, read at a row. -/
theorem halves {η : EltTy} (P Q : Vec Ideal S256x2048 η) (Y : Fin 512 → Fin 2048 → Elt Ideal η)
    (hQ : ∀ r : Fin 256, ∀ e, Q (ix2 r e) = Y ⟨r.val, by omega⟩ e) (hP : ∀ r : Fin 256, ∀ e, P (ix2 r e) = Y ⟨256 + r.val, by omega⟩ e) (r : Fin 512) (e : Fin 2048) :
    View.canon [⟨r0_6, P⟩, ⟨r0_3, Q⟩] (ix2 r e : S512x2048.Idx) = Y r e := by
  by_cases hr : r.val < 256
  · rw [View.canon_cons_of_not_mem _ _ (by
      rw [Rect.mem_set_unit]
      intro h
      have h1 := (h 0).1
      change 256 ≤ r.val at h1
      omega)]
    have ej : (ix2 r e : S512x2048.Idx) = r0_3.emb (ix2 (⟨r.val, hr⟩ : Fin 256) e) := by
      funext a
      apply Fin.ext
      match a with
      | ⟨0, _⟩ => show r.val = 0 + 1 * r.val; omega
      | ⟨1, _⟩ => show e.val = 0 + 1 * e.val; omega
    rw [ej, View.canon_cons_emb, hQ]
  · have ej : (ix2 r e : S512x2048.Idx) = r0_6.emb (ix2 (⟨r.val - 256, by omega⟩ : Fin 256) e) := by
      funext a
      apply Fin.ext
      match a with
      | ⟨0, _⟩ => show r.val = 256 + 1 * (r.val - 256); omega
      | ⟨1, _⟩ => show e.val = 0 + 1 * e.val; omega
    rw [ej, View.canon_cons_emb, hP]
    exact congrArg (fun r => Y r e) (Fin.ext (by show 256 + (r.val - 256) = r.val; omega))

theorem o7 (r : Fin 512) (e : Fin 2048) : out0_7 x0 x1 x2 x3 x4 x5 x6 (ix2 r e) = xoB x0 x1 x2 x3 x4 x5 r e := by
  unfold out0_7
  exact halves (η := .f32) _ _ (xoB x0 x1 x2 x3 x4 x5) (half1 x0 x1 x2 x3 x4 x5 x6) (half2 x0 x1 x2 x3 x4 x5 x6) r e

theorem o8 (r : Fin 512) (e : Fin 2048) : out0_8 x0 x1 x2 x3 x4 x5 x6 (ix2 r e) = ∑ k : Fin 2048, xoB x0 x1 x2 x3 x4 x5 r k * x6 (ix3 0 k e) := by
  unfold out0_8
  refine halves (η := .bf16) _ _ (fun r e => ∑ k : Fin 2048, xoB x0 x1 x2 x3 x4 x5 r k * x6 (ix3 0 k e)) (fun r e => ?_) (fun r e => ?_) r e
  · refine (pay2_apply _ _ r e).trans (Finset.sum_congr (M := EReal) rfl fun k _ => ?_)
    exact congrArg₂ (· * ·) (half1 x0 x1 x2 x3 x4 x5 x6 r k) (ld7 x6 k e)
  · refine (pay2_apply _ _ r e).trans (Finset.sum_congr (M := EReal) rfl fun k _ => ?_)
    exact congrArg₂ (· * ·) (half2 x0 x1 x2 x3 x4 x5 x6 r k) (ld7 x6 k e)

end Blocks

/-! ## The arrays and the blocks of a point -/

abbrev X0 (c : Dev nD) : Vec Ideal S8192x1024 .bf16 := m ((c : Thread nD τ).loc main_arg0)
abbrev X1 (c : Dev nD) : Vec Ideal S8192x1024 .bf16 := m ((c : Thread nD τ).loc main_arg1)
abbrev X2 (c : Dev nD) : Vec Ideal S2048x2048 .f32 := m ((c : Thread nD τ).loc main_arg2)
abbrev X3 (c : Dev nD) : Vec Ideal S8192x2048 .f32 := m ((c : Thread nD τ).loc main_arg3)
abbrev X4 (c : Dev nD) : Vec Ideal S2048 .f32 := m ((c : Thread nD τ).loc main_arg4)
abbrev X5 (c : Dev nD) : Vec Ideal S2048 .f32 := m ((c : Thread nD τ).loc main_arg5)
abbrev X6 (c : Dev nD) : Vec Ideal S2048x2048 .f32 := m ((c : Thread nD τ).loc main_arg6)

theorem hostW (c : Dev nD) (k e : Fin 2048) : (V m c main_v1 : Vec Ideal S1x2048x2048 .bf16) (ix3 0 k e) = X2 m c (ix2 k e) := by
  have e : (V m c main_v1 : Vec Ideal S1x2048x2048 .bf16) = broadcastInDim S1x2048x2048 ![1, 2] bcast_S2048x2048_S1x2048x2048_1_2 (truncf .bf16 (X2 m c : FVec Ideal S2048x2048 .f32) bitsLt_bf16_f32 : FVec Ideal S2048x2048 .bf16) := by
    unfold V hostOps0
    after_results <;> rfl
  rw [e]
  pointwise

theorem hostQ (c : Dev nD) (k e : Fin 2048) : (V m c main_v5 : Vec Ideal S1x2048x2048 .bf16) (ix3 0 k e) = X6 m c (ix2 k e) := by
  have e : (V m c main_v5 : Vec Ideal S1x2048x2048 .bf16) = broadcastInDim S1x2048x2048 ![1, 2] bcast_S2048x2048_S1x2048x2048_1_2 (truncf .bf16 (X6 m c : FVec Ideal S2048x2048 .f32) bitsLt_bf16_f32 : FVec Ideal S2048x2048 .bf16) := by
    unfold V hostOps0
    after_results <;> rfl
  rw [e]
  pointwise

theorem hostG (c : Dev nD) (e : Fin 2048) : (V m c main_v2 : Vec Ideal S1x1x2048 .f32) (ix3 0 0 e) = X4 m c (ix1 e) := by
  have e : (V m c main_v2 : Vec Ideal S1x1x2048 .f32) = broadcastInDim S1x1x2048 ![2] bcast_S2048_S1x1x2048_2 (X4 m c) := by
    unfold V hostOps0
    after_results <;> rfl
  rw [e]
  pointwise

theorem hostB (c : Dev nD) (e : Fin 2048) : (V m c main_v3 : Vec Ideal S1x1x2048 .f32) (ix3 0 0 e) = X5 m c (ix1 e) := by
  have e : (V m c main_v3 : Vec Ideal S1x1x2048 .f32) = broadcastInDim S1x1x2048 ![2] bcast_S2048_S1x1x2048_2 (X5 m c) := by
    unfold V hostOps0
    after_results <;> rfl
  rw [e]
  pointwise

theorem idx0 : ∀ t : Fin cfg0.N, win0_0.index t 0 = t.val ∧ win0_0.index t 1 = 0 := (by decide +kernel : ∀ t : Fin grid0.N, _)

theorem blk0 (c : Dev nD) (t : Fin cfg0.N) (r : Fin 512) (k : Fin 1024) (R : Fin 8192) (hR : R.val = 512 * t.val + r.val) :
    (iblk m c 0 t : Vec Ideal S512x1024 .bf16) (ix2 r k) = X0 m c (ix2 R k) := by
  rw [show X0 m c = V m c main_arg0 from (V_main_arg0 m c).symm]
  unfold iblk
  rw [View.read_apply]
  show V m c main_arg0 _ = V m c main_arg0 _
  congr 1
  funext a
  apply Fin.ext
  match a with
  | ⟨0, _⟩ => show win0_0.index t 0 * 512 + 1 * r.val = R.val; rw [(idx0 t).1]; omega
  | ⟨1, _⟩ => show win0_0.index t 1 * 1024 + 1 * k.val = k.val; rw [(idx0 t).2]; omega

theorem idx1 : ∀ t : Fin cfg0.N, win0_1.index t 0 = t.val ∧ win0_1.index t 1 = 0 := (by decide +kernel : ∀ t : Fin grid0.N, _)

theorem blk1 (c : Dev nD) (t : Fin cfg0.N) (r : Fin 512) (k : Fin 1024) (R : Fin 8192) (hR : R.val = 512 * t.val + r.val) :
    (iblk m c 1 t : Vec Ideal S512x1024 .bf16) (ix2 r k) = X1 m c (ix2 R k) := by
  rw [show X1 m c = V m c main_arg1 from (V_main_arg1 m c).symm]
  unfold iblk
  rw [View.read_apply]
  show V m c main_arg1 _ = V m c main_arg1 _
  congr 1
  funext a
  apply Fin.ext
  match a with
  | ⟨0, _⟩ => show win0_1.index t 0 * 512 + 1 * r.val = R.val; rw [(idx1 t).1]; omega
  | ⟨1, _⟩ => show win0_1.index t 1 * 1024 + 1 * k.val = k.val; rw [(idx1 t).2]; omega

theorem idx3 : ∀ t : Fin cfg0.N, win0_3.index t 0 = t.val ∧ win0_3.index t 1 = 0 := (by decide +kernel : ∀ t : Fin grid0.N, _)

theorem blk3 (c : Dev nD) (t : Fin cfg0.N) (r : Fin 512) (k : Fin 2048) (R : Fin 8192) (hR : R.val = 512 * t.val + r.val) :
    (iblk m c 3 t : Vec Ideal S512x2048 .f32) (ix2 r k) = X3 m c (ix2 R k) := by
  rw [show X3 m c = V m c main_arg3 from (V_main_arg3 m c).symm]
  unfold iblk
  rw [View.read_apply]
  show V m c main_arg3 _ = V m c main_arg3 _
  congr 1
  funext a
  apply Fin.ext
  match a with
  | ⟨0, _⟩ => show win0_3.index t 0 * 512 + 1 * r.val = R.val; rw [(idx3 t).1]; omega
  | ⟨1, _⟩ => show win0_3.index t 1 * 2048 + 1 * k.val = k.val; rw [(idx3 t).2]; omega

theorem idx2 : ∀ t : Fin cfg0.N, win0_2.index t 0 = 0 ∧ win0_2.index t 1 = 0 ∧ win0_2.index t 2 = 0 := (by decide +kernel : ∀ t : Fin grid0.N, _)

theorem blk2 (c : Dev nD) (t : Fin cfg0.N) (k e : Fin 2048) : (iblk m c 2 t : Vec Ideal S1x2048x2048 .bf16) (ix3 0 k e) = X2 m c (ix2 k e) := by
  rw [← hostW]
  unfold iblk
  rw [View.read_apply]
  show V m c main_v1 _ = V m c main_v1 _
  congr 1
  funext a
  apply Fin.ext
  match a with
  | ⟨0, _⟩ => show win0_2.index t 0 * 1 + 1 * 0 = 0; rw [(idx2 t).1]
  | ⟨1, _⟩ => show win0_2.index t 1 * 2048 + 1 * k.val = k.val; rw [(idx2 t).2.1]; omega
  | ⟨2, _⟩ => show win0_2.index t 2 * 2048 + 1 * e.val = e.val; rw [(idx2 t).2.2]; omega

theorem idx6 : ∀ t : Fin cfg0.N, win0_6.index t 0 = 0 ∧ win0_6.index t 1 = 0 ∧ win0_6.index t 2 = 0 := (by decide +kernel : ∀ t : Fin grid0.N, _)

theorem blk6 (c : Dev nD) (t : Fin cfg0.N) (k e : Fin 2048) : (iblk m c 6 t : Vec Ideal S1x2048x2048 .bf16) (ix3 0 k e) = X6 m c (ix2 k e) := by
  rw [← hostQ]
  unfold iblk
  rw [View.read_apply]
  show V m c main_v5 _ = V m c main_v5 _
  congr 1
  funext a
  apply Fin.ext
  match a with
  | ⟨0, _⟩ => show win0_6.index t 0 * 1 + 1 * 0 = 0; rw [(idx6 t).1]
  | ⟨1, _⟩ => show win0_6.index t 1 * 2048 + 1 * k.val = k.val; rw [(idx6 t).2.1]; omega
  | ⟨2, _⟩ => show win0_6.index t 2 * 2048 + 1 * e.val = e.val; rw [(idx6 t).2.2]; omega

theorem idx4 : ∀ t : Fin cfg0.N, win0_4.index t 0 = 0 ∧ win0_4.index t 1 = 0 ∧ win0_4.index t 2 = 0 := (by decide +kernel : ∀ t : Fin grid0.N, _)

theorem blk4 (c : Dev nD) (t : Fin cfg0.N) (e : Fin 2048) : (iblk m c 4 t : Vec Ideal S1x1x2048 .f32) (ix3 0 0 e) = X4 m c (ix1 e) := by
  rw [← hostG]
  unfold iblk
  rw [View.read_apply]
  show V m c main_v2 _ = V m c main_v2 _
  congr 1
  funext a
  apply Fin.ext
  match a with
  | ⟨0, _⟩ => show win0_4.index t 0 * 1 + 1 * 0 = 0; rw [(idx4 t).1]
  | ⟨1, _⟩ => show win0_4.index t 1 * 1 + 1 * 0 = 0; rw [(idx4 t).2.1]
  | ⟨2, _⟩ => show win0_4.index t 2 * 2048 + 1 * e.val = e.val; rw [(idx4 t).2.2]; omega

theorem idx5 : ∀ t : Fin cfg0.N, win0_5.index t 0 = 0 ∧ win0_5.index t 1 = 0 ∧ win0_5.index t 2 = 0 := (by decide +kernel : ∀ t : Fin grid0.N, _)

theorem blk5 (c : Dev nD) (t : Fin cfg0.N) (e : Fin 2048) : (iblk m c 5 t : Vec Ideal S1x1x2048 .f32) (ix3 0 0 e) = X5 m c (ix1 e) := by
  rw [← hostB]
  unfold iblk
  rw [View.read_apply]
  show V m c main_v3 _ = V m c main_v3 _
  congr 1
  funext a
  apply Fin.ext
  match a with
  | ⟨0, _⟩ => show win0_5.index t 0 * 1 + 1 * 0 = 0; rw [(idx5 t).1]
  | ⟨1, _⟩ => show win0_5.index t 1 * 1 + 1 * 0 = 0; rw [(idx5 t).2.1]
  | ⟨2, _⟩ => show win0_5.index t 2 * 2048 + 1 * e.val = e.val; rw [(idx5 t).2.2]; omega

/-- A row of the block after the norm is that row of the reference's. -/
theorem xo_eq (c : Dev nD) (t : Fin cfg0.N) (r : Fin 512) (R : Fin 8192) (hR : R.val = 512 * t.val + r.val) (e : Fin 2048) :
    xoB (iblk m c 0 t) (iblk m c 1 t) (iblk m c 2 t) (iblk m c 3 t) (iblk m c 4 t) (iblk m c 5 t) r e
      = Cert.Reference6Ideal.Read.val_main_v31 (F := Ideal) (X0 m c) (X1 m c) (X2 m c) (X3 m c) (X4 m c) (X5 m c) (ix2 R e) := by
  rw [Cert.Reference6Ideal.MmLn.ref_ln]
  unfold xoB
  have hy : yB (iblk m c 0 t) (iblk m c 1 t) (iblk m c 2 t) (iblk m c 3 t) r = fun e => Cert.Reference6Ideal.Read.val_main_v7 (F := Ideal) (X0 m c) (X1 m c) (X2 m c) (X3 m c) (ix2 R e) := by
    funext e
    rw [Cert.Reference6Ideal.MmLn.ref_y, ← al_eq]
    unfold yB
    refine congrArg₂ (· + ·) (congrArg (al * ·) (blk3 m c t r e R hR)) (congrArg₂ (· + ·) (Finset.sum_congr (M := EReal) rfl fun k _ => ?_) (Finset.sum_congr (M := EReal) rfl fun k _ => ?_))
    · exact congrArg₂ (· * ·) (blk0 m c t r k R hR) (blk2 m c t _ e)
    · exact congrArg₂ (· * ·) (blk1 m c t r k R hR) (blk2 m c t _ e)
  have hg : (fun e => (iblk m c 4 t : Vec Ideal S1x1x2048 .f32) (ix3 0 0 e)) = fun e => X4 m c (ix1 e) := funext fun e => blk4 m c t e
  have hb : (fun e => (iblk m c 5 t : Vec Ideal S1x1x2048 .f32) (ix3 0 0 e)) = fun e => X5 m c (ix1 e) := funext fun e => blk5 m c t e
  exact (congrArg (fun y => lnRow y _ _ e) hy).trans ((congrArg (fun g => lnRow _ g _ e) hg).trans (congrArg (fun b => lnRow _ _ b e) hb))

/-- Output window 7's final array is the reference's. -/
abbrev G7 (c : Dev nD) : Vec Ideal S8192x2048 .f32 := Cert.Reference6Ideal.Read.val_main_v31 (F := Ideal) (X0 m c) (X1 m c) (X2 m c) (X3 m c) (X4 m c) (X5 m c)

theorem idx7 : ∀ t : Fin cfg0.N, win0_7.index t 0 = t.val ∧ win0_7.index t 1 = 0 := (by decide +kernel : ∀ t : Fin grid0.N, _)

theorem entry7 (c : Dev nD) (t : Fin cfg0.N) (r : Fin 512) (j : Fin 2048) (R : Fin 8192) (hR : R.val = 512 * t.val + r.val) :
    out0_7 (iblk m c 0 t) (iblk m c 1 t) (iblk m c 2 t) (iblk m c 3 t) (iblk m c 4 t) (iblk m c 5 t) (iblk m c 6 t) (ix2 r j) = G7 m c (ix2 R j) := by
  rw [o7]
  exact xo_eq m c t r R hR j

theorem flushed7 (c : Dev nD) (t : Fin cfg0.N) :
    (dats m 0 c).flushed 7 t = ((cfg0.win 7).blk t).view.read (Elt Ideal) (G7 m c : Buf (Elt Ideal) ((c : Thread nD τ).loc main_v6_0)) := by
  rw [Value.flushed7]
  have hN : t.val < 16 := lt_of_lt_of_eq t.isLt N_0
  funext y
  have hy0 : (y 0).val < 512 := (y 0).isLt
  have hy1 : (y 1).val < 2048 := (y 1).isLt
  obtain ⟨d0, d1⟩ := idx7 t
  have hx : (cfg0.win 7).xinj (grid0.coords t) y = (ix2 ⟨(y 0).val, hy0⟩ ⟨(y 1).val, hy1⟩ : S512x2048.Idx) := by
    funext a; apply Fin.ext
    match a with
    | ⟨0, _⟩ => rfl
    | ⟨1, _⟩ => rfl
  have he : ((cfg0.win 7).blk t).view.emb y = (ix2 ⟨512 * t.val + (y 0).val, by omega⟩ ⟨(y 1).val, hy1⟩ : S8192x2048.Idx) := by
    funext a; apply Fin.ext
    match a with
    | ⟨0, _⟩ => show win0_7.index t 0 * 512 + 1 * (y 0).val = 512 * t.val + (y 0).val; rw [d0]; omega
    | ⟨1, _⟩ => show win0_7.index t 1 * 2048 + 1 * (y 1).val = (y 1).val; rw [d1]; omega
  show out0_7 (iblk m c 0 t) (iblk m c 1 t) (iblk m c 2 t) (iblk m c 3 t) (iblk m c 4 t) (iblk m c 5 t) (iblk m c 6 t) ((cfg0.win 7).xinj (grid0.coords t) y) = G7 m c (((cfg0.win 7).blk t).view.emb y)
  rw [hx, he]
  exact entry7 m c t _ _ _ rfl

theorem mem_blk7 (t : Fin cfg0.N) (i : S8192x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v6_0).slice (win0_7.rect t)).set ↔ _
  rw [View.set_slice_whole, Rect.mem_set_unit]
  exact Iff.rfl

theorem final7 (c : Dev nD) : (dats m 0 c).arrAt 7 cfg0.N = (G7 m c : Buf (Elt Ideal) ((c : Thread nD τ).loc main_v6_0)) :=
  (dats m 0 c).arrAt_eq_of_cover 7 _ (fun t _ => flushed7 m c t) (fun i => by
    have h0 : (i 0).val < 8192 := (i 0).isLt
    have h1 : (i 1).val < 2048 := (i 1).isLt
    have hlt : (i 0).val / 512 < cfg0.N := lt_of_lt_of_eq (by omega) N_0.symm
    refine ⟨⟨(i 0).val / 512, hlt⟩, flush0_7 _, ?_⟩
    rw [mem_blk7]
    obtain ⟨d0, d1⟩ := idx7 ⟨(i 0).val / 512, hlt⟩
    intro a
    match a with
    | ⟨0, _⟩ =>
      show win0_7.index _ 0 * 512 ≤ (i 0).val ∧ (i 0).val < win0_7.index _ 0 * 512 + 512
      rw [d0]
      show (i 0).val / 512 * 512 ≤ (i 0).val ∧ (i 0).val < (i 0).val / 512 * 512 + 512
      omega
    | ⟨1, _⟩ =>
      show win0_7.index _ 1 * 2048 ≤ (i 1).val ∧ (i 1).val < win0_7.index _ 1 * 2048 + 2048
      rw [d1]
      omega)

/-- Output window 8's final array is the reference's. -/
abbrev G8 (c : Dev nD) : Vec Ideal S8192x2048 .bf16 := Cert.Reference6Ideal.Read.val_main_v33 (F := Ideal) (X0 m c) (X1 m c) (X2 m c) (X3 m c) (X4 m c) (X5 m c) (X6 m c)

theorem idx8 : ∀ t : Fin cfg0.N, win0_8.index t 0 = t.val ∧ win0_8.index t 1 = 0 := (by decide +kernel : ∀ t : Fin grid0.N, _)

theorem entry8 (c : Dev nD) (t : Fin cfg0.N) (r : Fin 512) (j : Fin 2048) (R : Fin 8192) (hR : R.val = 512 * t.val + r.val) :
    out0_8 (iblk m c 0 t) (iblk m c 1 t) (iblk m c 2 t) (iblk m c 3 t) (iblk m c 4 t) (iblk m c 5 t) (iblk m c 6 t) (ix2 r j) = G8 m c (ix2 R j) := by
  rw [o8]
  refine Eq.trans ?_ (Cert.Reference6Ideal.MmLn.ref_q (X0 m c) (X1 m c) (X2 m c) (X3 m c) (X4 m c) (X5 m c) (X6 m c) R j).symm
  exact Finset.sum_congr (M := EReal) rfl fun k _ => congrArg₂ (· * ·) (xo_eq m c t r R hR k) (blk6 m c t k j)

theorem flushed8 (c : Dev nD) (t : Fin cfg0.N) :
    (dats m 0 c).flushed 8 t = ((cfg0.win 8).blk t).view.read (Elt Ideal) (G8 m c : Buf (Elt Ideal) ((c : Thread nD τ).loc main_v6_1)) := by
  rw [Value.flushed8]
  have hN : t.val < 16 := lt_of_lt_of_eq t.isLt N_0
  funext y
  have hy0 : (y 0).val < 512 := (y 0).isLt
  have hy1 : (y 1).val < 2048 := (y 1).isLt
  obtain ⟨d0, d1⟩ := idx8 t
  have hx : (cfg0.win 8).xinj (grid0.coords t) y = (ix2 ⟨(y 0).val, hy0⟩ ⟨(y 1).val, hy1⟩ : S512x2048.Idx) := by
    funext a; apply Fin.ext
    match a with
    | ⟨0, _⟩ => rfl
    | ⟨1, _⟩ => rfl
  have he : ((cfg0.win 8).blk t).view.emb y = (ix2 ⟨512 * t.val + (y 0).val, by omega⟩ ⟨(y 1).val, hy1⟩ : S8192x2048.Idx) := by
    funext a; apply Fin.ext
    match a with
    | ⟨0, _⟩ => show win0_8.index t 0 * 512 + 1 * (y 0).val = 512 * t.val + (y 0).val; rw [d0]; omega
    | ⟨1, _⟩ => show win0_8.index t 1 * 2048 + 1 * (y 1).val = (y 1).val; rw [d1]; omega
  show out0_8 (iblk m c 0 t) (iblk m c 1 t) (iblk m c 2 t) (iblk m c 3 t) (iblk m c 4 t) (iblk m c 5 t) (iblk m c 6 t) ((cfg0.win 8).xinj (grid0.coords t) y) = G8 m c (((cfg0.win 8).blk t).view.emb y)
  rw [hx, he]
  exact entry8 m c t _ _ _ rfl

theorem mem_blk8 (t : Fin cfg0.N) (i : S8192x2048.Idx) :
    i ∈ ((cfg0.win 8).blk t).view.set ↔ ∀ a : Fin 2, win0_8.index t a * S512x2048.size a ≤ (i a).val ∧ (i a).val < win0_8.index t a * S512x2048.size a + S512x2048.size a := by
  show i ∈ ((View.whole main_v6_1).slice (win0_8.rect t)).set ↔ _
  rw [View.set_slice_whole, Rect.mem_set_unit]
  exact Iff.rfl

theorem final8 (c : Dev nD) : (dats m 0 c).arrAt 8 cfg0.N = (G8 m c : Buf (Elt Ideal) ((c : Thread nD τ).loc main_v6_1)) :=
  (dats m 0 c).arrAt_eq_of_cover 8 _ (fun t _ => flushed8 m c t) (fun i => by
    have h0 : (i 0).val < 8192 := (i 0).isLt
    have h1 : (i 1).val < 2048 := (i 1).isLt
    have hlt : (i 0).val / 512 < cfg0.N := lt_of_lt_of_eq (by omega) N_0.symm
    refine ⟨⟨(i 0).val / 512, hlt⟩, flush0_8 _, ?_⟩
    rw [mem_blk8]
    obtain ⟨d0, d1⟩ := idx8 ⟨(i 0).val / 512, hlt⟩
    intro a
    match a with
    | ⟨0, _⟩ =>
      show win0_8.index _ 0 * 512 ≤ (i 0).val ∧ (i 0).val < win0_8.index _ 0 * 512 + 512
      rw [d0]
      show (i 0).val / 512 * 512 ≤ (i 0).val ∧ (i 0).val < (i 0).val / 512 * 512 + 512
      omega
    | ⟨1, _⟩ =>
      show win0_8.index _ 1 * 2048 ≤ (i 1).val ∧ (i 1).val < win0_8.index _ 1 * 2048 + 2048
      rw [d1]
      omega)

end Cert.Kernel6Ideal.MmLn

end
-- ==== Proof.XattnRef.lean ====
/-
  The attention to the memory (Kernel7): what a head computes as a function of its scores and values, in the kernel's order
  and in the reference's, their agreement on real scores, and the reference read at an index.
-/
module

public import proofs.«01_k».proof.Defs
public import proofs.«01_k».proof.Proof.MlpValue
public import proofs.«01_k».proof.Proof.Gen.Reference7Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem
open Cert.Kernel2Ideal.Mlp (lnRow)

namespace Cert.Kernel7Ideal.Xattn

/-- The largest of a row's scores, as both programs fold it. -/
def top (s : Fin 256 → EReal) : EReal := Finset.fold max (Ideal.ofBits FTy.f32 4286578688#32) s Finset.univ

/-- The scale of the kernel's scores. -/
abbrev sc : EReal := Named.named (F := Ideal) κ "scale" (φ := .f32) 1026884851#32

/-- The scale of the reference's scores. -/
abbrev scR : EReal := Ideal.div 1 (Ideal.sqrt (Ideal.ofBits FTy.f32 1140850688#32))

/-- One head's entry as the kernel computes it: the weighted sum, then the division. -/
def headK (s v : Fin 256 → EReal) : EReal :=
  Ideal.div (∑ x, Ideal.exp ((s x - top s) * sc) * v x) (∑ x, Ideal.exp ((s x - top s) * sc))

/-- One head's weights as the reference computes them. -/
def wR (s : Fin 256 → EReal) (j : Fin 256) : EReal :=
  Ideal.div (Ideal.exp (s j - max (Ideal.ofBits FTy.f32 4286578688#32) (top s)))
    (∑ x, Ideal.exp (s x - max (Ideal.ofBits FTy.f32 4286578688#32) (top s)))

theorem sc_eq : sc = (((Real.sqrt 512)⁻¹ : ℝ) : EReal) := IdealRules.named_const.ideal_named_scalar _ _ _ _ rfl

theorem div_pos (x : EReal) (l : ℝ) (h : 0 < l) : Ideal.div x (l : EReal) = x * ((l⁻¹ : ℝ) : EReal) := by
  unfold Ideal.div
  rw [if_neg (by exact_mod_cast h.ne'), EReal.coe_inv]

theorem scR_eq : scR = (((Real.sqrt 512)⁻¹ : ℝ) : EReal) := by
  have e : Ideal.ofBits FTy.f32 1140850688#32 = ((512 : ℝ) : EReal) := by
    simp [Ideal.ofBits, Ideal.ieee, -EReal.coe_mul]; norm_num
  unfold scR
  rw [e, Ideal.sqrt_coe, if_neg (by norm_num), div_pos _ _ (by positivity), one_mul]

theorem bot_eq : Ideal.ofBits FTy.f32 4286578688#32 = (⊥ : EReal) := by
  simp [Ideal.ofBits, Ideal.ieee]

theorem top_eq (s : Fin 256 → EReal) : top s = Finset.univ.sup s := by
  unfold top
  rw [bot_eq]
  rfl

theorem sum_coe {ι : Type} (t : Finset ι) (f : ι → ℝ) : (∑ x ∈ t, (f x : EReal)) = ((∑ x ∈ t, f x : ℝ) : EReal) := by
  classical
  induction t using Finset.induction_on with
  | empty => simp
  | insert a t h ih => rw [Finset.sum_insert h, Finset.sum_insert h, ih, EReal.coe_add]

theorem sum_mul_coe {ι : Type} (t : Finset ι) (g : ι → EReal) (c : ℝ) (hc : 0 ≤ c) : (∑ x ∈ t, g x) * (c : EReal) = ∑ x ∈ t, g x * (c : EReal) := by
  classical
  induction t using Finset.induction_on with
  | empty => simp
  | insert a t h ih =>
    rw [Finset.sum_insert h, Finset.sum_insert h, EReal.right_distrib_of_nonneg_of_ne_top (by exact_mod_cast hc) (EReal.coe_ne_top c), ih]

/-- Of real scores the two programs compute one entry: the scale is positive, so it moves through the largest score, and
    the sum of the weights is a positive real, so the division moves through the sum. -/
theorem head_eq (f : Fin 256 → ℝ) (s : Fin 256 → EReal) (hs : ∀ j, s j = (f j : EReal)) (v : Fin 256 → EReal) :
    headK s v = ∑ j, v j * wR (fun j => s j * scR) j := by
  obtain rfl : s = fun j => (f j : EReal) := funext hs
  have hc : (0 : ℝ) < (Real.sqrt 512)⁻¹ := by positivity
  generalize hcc : (Real.sqrt 512)⁻¹ = c at hc
  have e1 : sc = (c : EReal) := by rw [sc_eq, hcc]
  have e2 : scR = (c : EReal) := by rw [scR_eq, hcc]
  obtain ⟨i, -, hi⟩ := Finset.exists_mem_eq_sup Finset.univ Finset.univ_nonempty fun j => (f j : EReal)
  have hle : ∀ j, f j ≤ f i := fun j => by
    have := Finset.le_sup (f := fun j => (f j : EReal)) (Finset.mem_univ j)
    rw [hi] at this
    exact_mod_cast this
  have t1 : top (fun j => (f j : EReal)) = (f i : EReal) := by rw [top_eq, hi]
  have t2 : max (Ideal.ofBits FTy.f32 4286578688#32) (top fun j => (f j : EReal) * scR) = ((f i * c : ℝ) : EReal) := by
    rw [bot_eq, top_eq, e2]
    refine le_antisymm (max_le bot_le (Finset.sup_le fun j _ => ?_)) (le_trans ?_ (le_max_right _ _))
    · rw [← EReal.coe_mul]
      exact_mod_cast mul_le_mul_of_nonneg_right (hle j) hc.le
    · have := Finset.le_sup (f := fun j => (f j : EReal) * (c : EReal)) (Finset.mem_univ i)
      rw [EReal.coe_mul]
      exact this
  have x1 : ∀ j, Ideal.exp (((f j : EReal) - top fun j => (f j : EReal)) * sc) = ((Real.exp ((f j - f i) * c) : ℝ) : EReal) := fun j => by
    rw [t1, e1, ← EReal.coe_sub, ← EReal.coe_mul, Ideal.exp_coe]
  have x2 : ∀ j, Ideal.exp ((f j : EReal) * scR - max (Ideal.ofBits FTy.f32 4286578688#32) (top fun j => (f j : EReal) * scR)) = ((Real.exp ((f j - f i) * c) : ℝ) : EReal) := fun j => by
    rw [t2, e2, ← EReal.coe_mul, ← EReal.coe_sub, Ideal.exp_coe, sub_mul]
  have hl : 0 < ∑ j, Real.exp ((f j - f i) * c) := Finset.sum_pos (fun j _ => Real.exp_pos _) Finset.univ_nonempty
  unfold headK wR
  simp only [x1, x2, sum_coe, div_pos _ _ hl]
  rw [sum_mul_coe _ _ _ (inv_nonneg.2 hl.le)]
  refine Finset.sum_congr rfl fun j _ => ?_
  rw [mul_comm (((Real.exp ((f j - f i) * c) : ℝ) : EReal)) (v j), mul_assoc]

/-- A number less itself is 0 only where it is real. -/
theorem real_of_sub {x : EReal} (h : x - x = 0) : ∃ r : ℝ, x = (r : EReal) := by
  induction x using EReal.rec with
  | bot => simp at h
  | top => simp at h
  | coe r => exact ⟨r, rfl⟩

/-- A sum of products of real numbers is real. -/
theorem dot_real {n : ℕ} (a b : Fin n → EReal) (ha : ∀ x, ∃ r : ℝ, a x = (r : EReal)) (hb : ∀ x, ∃ r : ℝ, b x = (r : EReal)) :
    ∃ r : ℝ, ∑ x, a x * b x = (r : EReal) := by
  choose f hf using ha
  choose g hg using hb
  refine ⟨∑ x, f x * g x, ?_⟩
  rw [← sum_coe]
  exact Finset.sum_congr rfl fun x _ => by rw [hf, hg, EReal.coe_mul]

theorem ofBool_and {p q : Prop} [Decidable p] [Decidable q] (h : IntOp.andi (BitVec.ofBool (decide p)) (BitVec.ofBool (decide q)) = 1#1) : p ∧ q := by
  by_cases hp : p <;> by_cases hq : q <;> simp [hp, hq, IntOp.andi] at h ⊢

end Cert.Kernel7Ideal.Xattn

namespace Cert.Reference7Ideal.Xattn

open Cert.Reference7Ideal Cert.Reference7Ideal.Gen Cert.Reference7Ideal.Read
open Cert.Kernel7Ideal.Xattn (top wR scR headK head_eq dot_real)

variable (q : S8192x2048.Idx → Ideal .bf16) (k v : S4x256x2048.Idx → Ideal .f32) (wo : S2048x2048.Idx → Ideal .f32)
  (x : S8192x2048.Idx → Ideal .f32) (g b : S2048.Idx → Ideal .f32)

theorem ref_s (n h : Fin 4) (t : Fin 2048) (j : Fin 256) (R : Fin 8192) (hR : R.val = n.val * 2048 + t.val) :
    val_main_v8 (F := Ideal) q k (ix4 n h t j)
      = (∑ x : Fin 512, q (ix2 R ⟨h.val * 512 + x.val, by omega⟩) * k (ix3 n j ⟨h.val * 512 + x.val, by omega⟩)) * scR := by
  rw [show R = (⟨n.val * 2048 + t.val, by omega⟩ : Fin 8192) from Fin.ext hR]
  unfold val_main_v8 val_main_v7 val_main_v6 val_main_cst_0 val_main_v5 val_main_cst val_main_v4 val_main_v2 val_main_v1 val_main_v0
  pointwise

theorem max_read (s : Vec Ideal S4x4x2048x256 .f32) (i0 : Vec Ideal S_ .f32) (n h : Fin 4) (t : Fin 2048) :
    (Host.reduce (FloatOps.maximumf (F := Ideal) (φ := .f32)) s i0 reducesTo_S4x4x2048x256_S4x4x2048_d3 h_S_ : Vec Ideal S4x4x2048 .f32) (ix3 n h t)
      = Finset.fold (FloatOps.maximumf (F := Ideal) (φ := .f32)) (i0 (Shape.Idx.first h_S_)) (fun x => s (ix4 n h t x)) Finset.univ := by
  rw [Host.reduce_eq_fold_single _ s i0 reducesTo_S4x4x2048x256_S4x4x2048_d3 (by decide) h_S_]
  refine congrArg (fun f => Finset.fold (FloatOps.maximumf (F := Ideal) (φ := .f32)) (i0 (Shape.Idx.first h_S_)) f Finset.univ) (funext fun k => ?_)
  exact congrArg s (funext fun a => Fin.ext (by match a with | ⟨0, _⟩ => rfl | ⟨1, _⟩ => rfl | ⟨2, _⟩ => rfl | ⟨3, _⟩ => rfl))

theorem ref_top (n h : Fin 4) (t : Fin 2048) :
    val_main_v11 (F := Ideal) q k (ix3 n h t)
      = max (Ideal.ofBits FTy.f32 4286578688#32) (top fun x => val_main_v8 (F := Ideal) q k (ix4 n h t x)) := by
  rw [val_main_v11_apply]
  unfold val_main_v9
  generalize val_main_v8 (F := Ideal) q k = s
  refine (congrArg (FloatOps.maximumf (F := Ideal) (φ := .f32) (val_main_v10 (F := Ideal) (ix3 n h t))) (max_read s _ n h t)).trans ?_
  rw [val_main_v10_apply]
  rfl

theorem ref_e (n h : Fin 4) (t : Fin 2048) (j : Fin 256) :
    val_main_v15 (F := Ideal) q k (ix4 n h t j)
      = Ideal.exp (val_main_v8 (F := Ideal) q k (ix4 n h t j) - val_main_v11 (F := Ideal) q k (ix3 n h t)) := by
  unfold val_main_v15 val_main_v14 val_main_v13 val_main_v12
  generalize val_main_v8 (F := Ideal) q k = s
  generalize val_main_v11 (F := Ideal) q k = u
  pointwise

theorem ref_d (n h : Fin 4) (t : Fin 2048) (j : Fin 256) :
    val_main_v19 (F := Ideal) q k (ix4 n h t j)
      = Ideal.div (val_main_v15 (F := Ideal) q k (ix4 n h t j)) (∑ x : Fin 256, val_main_v15 (F := Ideal) q k (ix4 n h t x)) := by
  unfold val_main_v19 val_main_v18 val_main_v17 val_main_v16 val_main_cst_3
  generalize val_main_v15 (F := Ideal) q k = s
  pointwise

theorem ref_w (n h : Fin 4) (t : Fin 2048) (j : Fin 256) :
    val_main_v19 (F := Ideal) q k (ix4 n h t j) = wR (fun x => val_main_v8 (F := Ideal) q k (ix4 n h t x)) j := by
  rw [ref_d]
  unfold wR
  rw [← ref_top]
  exact congrArg₂ Ideal.div (ref_e q k n h t j) (Finset.sum_congr (M := EReal) rfl fun x _ => ref_e q k n h t x)

theorem ref_o (R : Fin 8192) (e : Fin 2048) :
    val_main_v22 (F := Ideal) q k v (ix2 R e)
      = ∑ x : Fin 256, v (ix3 ⟨R.val / 2048, by omega⟩ x e) * val_main_v19 (F := Ideal) q k (ix4 ⟨R.val / 2048, by omega⟩ ⟨e.val / 512, by omega⟩ ⟨R.val % 2048, Nat.mod_lt _ (by decide)⟩ x) := by
  unfold val_main_v22 val_main_v21 val_main_v20 val_main_v3
  generalize val_main_v19 (F := Ideal) q k = s
  pointwise

theorem ref_y (R : Fin 8192) (e : Fin 2048) :
    val_main_v28 (F := Ideal) q k v wo x (ix2 R e)
      = Ideal.sqrt (Ideal.sqrt (Ideal.ofBits FTy.f32 1090519040#32)) * x (ix2 R e)
        + ∑ i : Fin 2048, val_main_v22 (F := Ideal) q k v (ix2 R i) * wo (ix2 i e) := by
  unfold val_main_v28 val_main_v27 val_main_v26 val_main_v25 val_main_v24 val_main_v23 val_main_cst_4
  generalize val_main_v22 (F := Ideal) q k v = s
  pointwise

theorem ref_ln (R : Fin 8192) (e : Fin 2048) :
    val_main_v52 (F := Ideal) q k v wo x g b (ix2 R e)
      = lnRow (fun e => val_main_v28 (F := Ideal) q k v wo x (ix2 R e)) (fun e => g (ix1 e)) (fun e => b (ix1 e)) e := by
  unfold val_main_v52 val_main_v51 val_main_v50 val_main_v49 val_main_v48 val_main_v47 val_main_v46 val_main_v45 val_main_v44 val_main_v43 val_main_v42 val_main_cst_9 val_main_v41 val_main_v40 val_main_v39 val_main_v38 val_main_cst_8 val_main_v37 val_main_v36 val_main_cst_7 val_main_v35 val_main_v34 val_main_v33 val_main_v32 val_main_v31 val_main_cst_6 val_main_v30 val_main_v29 val_main_cst_5
  generalize val_main_v28 (F := Ideal) q k v wo x = y
  pointwise
  rfl

/-- The scores of row `R` at head `h` of example `n`, before the scale. -/
def rawS (n : Fin 4) (h : Fin 4) (R : Fin 8192) (j : Fin 256) : EReal :=
  ∑ x : Fin 512, q (ix2 R ⟨h.val * 512 + x.val, by omega⟩) * k (ix3 n j ⟨h.val * 512 + x.val, by omega⟩)

theorem rawS_real (hq : ∀ R d, ∃ a : ℝ, q (ix2 R d) = (a : EReal)) (hk : ∀ n j d, ∃ a : ℝ, k (ix3 n j d) = (a : EReal))
    (n h : Fin 4) (R : Fin 8192) : ∀ j, ∃ a : ℝ, rawS q k n h R j = (a : EReal) := fun j =>
  dot_real (fun x : Fin 512 => q (ix2 R ⟨h.val * 512 + x.val, by omega⟩)) (fun x : Fin 512 => k (ix3 n j ⟨h.val * 512 + x.val, by omega⟩)) (fun x => hq _ _) (fun x => hk _ _ _)

theorem ref_wr (n h : Fin 4) (t : Fin 2048) (j : Fin 256) (R : Fin 8192) (hR : R.val = n.val * 2048 + t.val) :
    val_main_v19 (F := Ideal) q k (ix4 n h t j) = wR (fun x => rawS q k n h R x * scR) j := by
  rw [ref_w]
  exact congrArg (fun s => wR s j) (funext fun x => ref_s q k n h t x R hR)

/-- Of real queries and keys a head's row in the kernel's order is the reference's. -/
theorem ref_head (hq : ∀ R d, ∃ a : ℝ, q (ix2 R d) = (a : EReal)) (hk : ∀ n j d, ∃ a : ℝ, k (ix3 n j d) = (a : EReal))
    (n h : Fin 4) (R : Fin 8192) (e : Fin 2048) (hn : n.val = R.val / 2048) (hh : h.val = e.val / 512) :
    headK (rawS q k n h R) (fun j => v (ix3 n j e)) = val_main_v22 (F := Ideal) q k v (ix2 R e) := by
  choose f hf using rawS_real q k hq hk n h R
  rw [head_eq f _ hf, ref_o]
  rw [show (⟨R.val / 2048, by omega⟩ : Fin 4) = n from Fin.ext hn.symm, show (⟨e.val / 512, by omega⟩ : Fin 4) = h from Fin.ext hh.symm]
  refine Finset.sum_congr (M := EReal) rfl fun j _ => congrArg (v (ix3 n j e) * ·) ?_
  exact (ref_wr q k n h _ j R (by show R.val = n.val * 2048 + R.val % 2048; omega)).symm

end Cert.Reference7Ideal.Xattn

end
-- ==== Proof.XattnValue.lean ====
/-
  The attention to the memory with its output product, residual and norm (Kernel7): a grid point takes 512 rows of one
  example in two halves; each of the four heads weighs the example's 256 values by the exponentials of the scores less the
  largest, divides the weighted sum by the sum of the weights, and the heads side by side are multiplied by the output
  matrix, added to the scaled rows and normalised. The reference scales the scores before it takes the largest and divides
  each weight. Of real queries and keys the scores are real, and there the two orders agree.
-/
module

public import proofs.«01_k».proof.Defs
public import proofs.«01_k».proof.Proof.XattnRef
public import proofs.«01_k».proof.Proof.Gen.Kernel7Ideal.Value
public import proofs.«01_k».proof.Proof.Gen.Reference7Ideal.Read
public import proofs.«01_k».proof.Proof.Gen.Pre_queries_and_keys_finite
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Kernel2Ideal.Mlp (lnRow)

namespace Cert.Kernel7Ideal.Xattn

open Cert.Kernel7Ideal Cert.Kernel7Ideal.Gen

variable (m : (ℓ : Loc nD τ sig) → Buf (Elt Ideal) ℓ)

/-- The scale of the kernel's residual. -/
abbrev al : EReal := Named.named (F := Ideal) κ "alpha" (φ := .f32) 1071072509#32

/-- The kernel's named scale is the reference's two roots of eight. -/
theorem al_eq : al = Ideal.sqrt (Ideal.sqrt (Ideal.ofBits FTy.f32 1090519040#32)) := by
  have e8 : Ideal.ofBits FTy.f32 1090519040#32 = ((8 : ℝ) : EReal) := by
    simp [Ideal.ofBits, Ideal.ieee, -EReal.coe_mul]; norm_num
  have ea : al = ((Real.sqrt (Real.sqrt 8) : ℝ) : EReal) := IdealRules.named_const.ideal_named_scalar _ _ _ _ rfl
  rw [ea, e8, Ideal.sqrt_coe, if_neg (by norm_num), Ideal.sqrt_coe, if_neg (not_lt.mpr (Real.sqrt_nonneg 8))]

theorem headCongr {s s' v v' : Fin 256 → EReal} (hs : ∀ j, s j = s' j) (hv : ∀ j, v j = v' j) : headK s v = headK s' v' := by
  rw [funext hs, funext hv]

/-! ## The heads -/

theorem pay2_apply (X : Vec Ideal S1x1x256x2048 .f32) (j : Fin 256) (e : Fin 2048) : k0_pay2 X (ix2 j e) = X (ix4 0 0 j e) := by
  unfold k0_pay2
  pointwise

theorem pay3_apply (X : Vec Ideal S1x1x256x2048 .f32) (j : Fin 256) (e : Fin 2048) : k0_pay3 X (ix2 j e) = X (ix4 0 0 j e) := by
  unfold k0_pay3
  pointwise

theorem pay4_apply (K : Vec Ideal S1x1x256x2048 .f32) (Q : Vec Ideal S256x512 .bf16) (r j : Fin 256) :
    k0_pay4 K Q (ix2 r j) = ∑ x : Fin 512, Q (ix2 r x) * K (ix4 0 0 j ⟨512 + x.val, by omega⟩) := by
  unfold_payloads
  pointwise

theorem pay5_apply (K : Vec Ideal S1x1x256x2048 .f32) (Q : Vec Ideal S256x512 .bf16) (r j : Fin 256) :
    k0_pay5 K Q (ix2 r j) = ∑ x : Fin 512, Q (ix2 r x) * K (ix4 0 0 j ⟨1024 + x.val, by omega⟩) := by
  unfold_payloads
  pointwise

theorem pay6_apply (K : Vec Ideal S1x1x256x2048 .f32) (Q : Vec Ideal S256x512 .bf16) (r j : Fin 256) :
    k0_pay6 K Q (ix2 r j) = ∑ x : Fin 512, Q (ix2 r x) * K (ix4 0 0 j ⟨1536 + x.val, by omega⟩) := by
  unfold_payloads
  pointwise

theorem pay9_apply (K : FVec Ideal S256x2048 .bf16) (Q : Vec Ideal S256x512 .bf16) (r j : Fin 256) :
    k0_pay9 K Q (ix2 r j) = ∑ x : Fin 512, Q (ix2 r x) * K (ix2 j ⟨1024 + x.val, by omega⟩) := by
  unfold_payloads
  pointwise

theorem pay10_apply (K : FVec Ideal S256x2048 .bf16) (Q : Vec Ideal S256x512 .bf16) (r j : Fin 256) :
    k0_pay10 K Q (ix2 r j) = ∑ x : Fin 512, Q (ix2 r x) * K (ix2 j ⟨1536 + x.val, by omega⟩) := by
  unfold_payloads
  pointwise

theorem pay7_apply (K V : Vec Ideal S1x1x256x2048 .f32) (Q : Vec Ideal S256x512 .bf16) (r : Fin 256) (e : Fin 512) :
    k0_pay7 K V Q (ix2 r e) = headK (fun j => ∑ x : Fin 512, Q (ix2 r x) * K (ix4 0 0 j ⟨x.val, by omega⟩)) (fun j => V (ix4 0 0 j ⟨e.val, by omega⟩)) := by
  unfold_payloads
  pointwise
  rfl

theorem pay11_apply (K V : FVec Ideal S256x2048 .bf16) (Q : Vec Ideal S256x512 .bf16) (r : Fin 256) (e : Fin 512) :
    k0_pay11 K V Q (ix2 r e) = headK (fun j => ∑ x : Fin 512, Q (ix2 r x) * K (ix2 j ⟨x.val, by omega⟩)) (fun j => V (ix2 j ⟨e.val, by omega⟩)) := by
  unfold_payloads
  pointwise
  rfl

theorem pay12_apply (K V : FVec Ideal S256x2048 .bf16) (Q : Vec Ideal S256x512 .bf16) (r : Fin 256) (e : Fin 512) :
    k0_pay12 K V Q (ix2 r e) = headK (fun j => ∑ x : Fin 512, Q (ix2 r x) * K (ix2 j ⟨512 + x.val, by omega⟩)) (fun j => V (ix2 j ⟨512 + e.val, by omega⟩)) := by
  unfold_payloads
  pointwise
  rfl

theorem pay8_apply (V : FVec Ideal S256x2048 .bf16) (s1 s2 s3 : FVec Ideal S256x256 .f32) (o0 : FVec Ideal S256x512 .bf16) (r : Fin 256) (e : Fin 2048) :
    k0_pay8 V s1 s2 s3 o0 (ix2 r e)
      = if h : e.val < 512 then o0 (ix2 r ⟨e.val, h⟩)
        else if h : e.val - 512 < 512 then headK (fun j => s1 (ix2 r j)) (fun j => V (ix2 j ⟨512 + (e.val - 512), by omega⟩))
        else if h : e.val - 512 - 512 < 512 then headK (fun j => s2 (ix2 r j)) (fun j => V (ix2 j ⟨1024 + (e.val - 512 - 512), by omega⟩))
        else headK (fun j => s3 (ix2 r j)) (fun j => V (ix2 j ⟨1536 + (e.val - 512 - 512 - 512), by omega⟩)) := by
  unfold k0_pay8
  pointwise
  rfl

theorem pay13_apply (V : FVec Ideal S256x2048 .bf16) (s2 s3 : FVec Ideal S256x256 .f32) (o0 o1 : FVec Ideal S256x512 .bf16) (r : Fin 256) (e : Fin 2048) :
    k0_pay13 V s2 s3 o0 o1 (ix2 r e)
      = if h : e.val < 512 then o0 (ix2 r ⟨e.val, h⟩)
        else if h : e.val - 512 < 512 then o1 (ix2 r ⟨e.val - 512, h⟩)
        else if h : e.val - 512 - 512 < 512 then headK (fun j => s2 (ix2 r j)) (fun j => V (ix2 j ⟨1024 + (e.val - 512 - 512), by omega⟩))
        else headK (fun j => s3 (ix2 r j)) (fun j => V (ix2 j ⟨1536 + (e.val - 512 - 512 - 512), by omega⟩)) := by
  unfold k0_pay13
  pointwise
  rfl

/-! ## The output product and the norm -/

theorem first_apply (A : FVec Ideal S256x2048 .bf16) (W : Vec Ideal S1x2048x2048 .bf16) (X : Vec Ideal S256x2048 .f32) (g b : Vec Ideal S1x1x2048 .f32)
    (r : Fin 256) (e : Fin 2048) :
    k0_pay16 (k0_pay14 A W X) (k0_pay15 g) b (ix2 r e)
      = lnRow (fun e => al * X (ix2 r e) + ∑ k : Fin 2048, A (ix2 r k) * W (ix3 0 k e)) (fun e => g (ix3 0 0 e)) (fun e => b (ix3 0 0 e)) e := by
  unfold_payloads
  pointwise
  rfl

theorem second_apply (A : FVec Ideal S256x2048 .bf16) (W : Vec Ideal S1x2048x2048 .bf16) (X : Vec Ideal S256x2048 .f32) (g b : Vec Ideal S1x1x2048 .f32)
    (r : Fin 256) (e : Fin 2048) :
    k0_pay1 (k0_pay17 A W X) (k0_pay18 g) (k0_pay19 b) (k0_pay20 A W X) k0_pay21 (ix2 r e)
      = lnRow (fun e => al * X (ix2 r e) + ∑ k : Fin 2048, A (ix2 r k) * W (ix3 0 k e)) (fun e => g (ix3 0 0 e)) (fun e => b (ix3 0 0 e)) e := by
  unfold_payloads
  pointwise
  rfl

section Blocks

variable (x0 : Vec Ideal S512x2048 .bf16) (x1 x2 : Vec Ideal S1x1x256x2048 .f32) (x3 : Vec Ideal S1x2048x2048 .bf16) (x4 : Vec Ideal S512x2048 .f32)
  (x5 x6 : Vec Ideal S1x1x2048 .f32)

theorem ldq1 (r : Fin 256) (x : Fin 512) (d : Fin 2048) (hd : d.val = 0 + x.val) : View.ld x0 r0_1 (ix2 r x) = x0 (ix2 ⟨r.val, by omega⟩ d) := by
  show x0 _ = x0 _
  congr 1
  funext a
  apply Fin.ext
  match a with
  | ⟨0, _⟩ => show 0 + 1 * r.val = r.val; omega
  | ⟨1, _⟩ => show 0 + 1 * x.val = d.val; omega

theorem ldq2 (r : Fin 256) (x : Fin 512) (d : Fin 2048) (hd : d.val = 512 + x.val) : View.ld x0 r0_2 (ix2 r x) = x0 (ix2 ⟨r.val, by omega⟩ d) := by
  show x0 _ = x0 _
  congr 1
  funext a
  apply Fin.ext
  match a with
  | ⟨0, _⟩ => show 0 + 1 * r.val = r.val; omega
  | ⟨1, _⟩ => show 512 + 1 * x.val = d.val; omega

theorem ldq3 (r : Fin 256) (x : Fin 512) (d : Fin 2048) (hd : d.val = 1024 + x.val) : View.ld x0 r0_3 (ix2 r x) = x0 (ix2 ⟨r.val, by omega⟩ d) := by
  show x0 _ = x0 _
  congr 1
  funext a
  apply Fin.ext
  match a with
  | ⟨0, _⟩ => show 0 + 1 * r.val = r.val; omega
  | ⟨1, _⟩ => show 1024 + 1 * x.val = d.val; omega

theorem ldq4 (r : Fin 256) (x : Fin 512) (d : Fin 2048) (hd : d.val = 1536 + x.val) : View.ld x0 r0_4 (ix2 r x) = x0 (ix2 ⟨r.val, by omega⟩ d) := by
  show x0 _ = x0 _
  congr 1
  funext a
  apply Fin.ext
  match a with
  | ⟨0, _⟩ => show 0 + 1 * r.val = r.val; omega
  | ⟨1, _⟩ => show 1536 + 1 * x.val = d.val; omega

theorem ldq5 (r : Fin 256) (x : Fin 512) (d : Fin 2048) (hd : d.val = 0 + x.val) : View.ld x0 r0_5 (ix2 r x) = x0 (ix2 ⟨256 + r.val, by omega⟩ d) := by
  show x0 _ = x0 _
  congr 1
  funext a
  apply Fin.ext
  match a with
  | ⟨0, _⟩ => show 256 + 1 * r.val = 256 + r.val; omega
  | ⟨1, _⟩ => show 0 + 1 * x.val = d.val; omega

theorem ldq6 (r : Fin 256) (x : Fin 512) (d : Fin 2048) (hd : d.val = 512 + x.val) : View.ld x0 r0_6 (ix2 r x) = x0 (ix2 ⟨256 + r.val, by omega⟩ d) := by
  show x0 _ = x0 _
  congr 1
  funext a
  apply Fin.ext
  match a with
  | ⟨0, _⟩ => show 256 + 1 * r.val = 256 + r.val; omega
  | ⟨1, _⟩ => show 512 + 1 * x.val = d.val; omega

theorem ldq7 (r : Fin 256) (x : Fin 512) (d : Fin 2048) (hd : d.val = 1024 + x.val) : View.ld x0 r0_7 (ix2 r x) = x0 (ix2 ⟨256 + r.val, by omega⟩ d) := by
  show x0 _ = x0 _
  congr 1
  funext a
  apply Fin.ext
  match a with
  | ⟨0, _⟩ => show 256 + 1 * r.val = 256 + r.val; omega
  | ⟨1, _⟩ => show 1024 + 1 * x.val = d.val; omega

theorem ldq8 (r : Fin 256) (x : Fin 512) (d : Fin 2048) (hd : d.val = 1536 + x.val) : View.ld x0 r0_8 (ix2 r x) = x0 (ix2 ⟨256 + r.val, by omega⟩ d) := by
  show x0 _ = x0 _
  congr 1
  funext a
  apply Fin.ext
  match a with
  | ⟨0, _⟩ => show 256 + 1 * r.val = 256 + r.val; omega
  | ⟨1, _⟩ => show 1536 + 1 * x.val = d.val; omega

theorem ldk (X : Vec Ideal S1x1x256x2048 .f32) (j : Fin 256) (x d : Fin 2048) (hd : d.val = x.val) : View.ld X r0_0 (ix4 0 0 j x) = X (ix4 0 0 j d) := by
  show X _ = X _
  congr 1
  funext a
  apply Fin.ext
  match a with
  | ⟨0, _⟩ => rfl
  | ⟨1, _⟩ => rfl
  | ⟨2, _⟩ => show 0 + 1 * j.val = j.val; omega
  | ⟨3, _⟩ => show 0 + 1 * x.val = d.val; omega

theorem ldw (X : Vec Ideal S1x2048x2048 .bf16) (k e : Fin 2048) : View.ld X r0_9 (ix3 0 k e) = X (ix3 0 k e) := by
  show X _ = X _
  congr 1
  funext a
  apply Fin.ext
  match a with
  | ⟨0, _⟩ => rfl
  | ⟨1, _⟩ => show 0 + 1 * k.val = k.val; omega
  | ⟨2, _⟩ => show 0 + 1 * e.val = e.val; omega

theorem ldg (X : Vec Ideal S1x1x2048 .f32) (e : Fin 2048) : View.ld X r0_11 (ix3 0 0 e) = X (ix3 0 0 e) := by
  show X _ = X _
  congr 1
  funext a
  apply Fin.ext
  match a with
  | ⟨0, _⟩ => rfl
  | ⟨1, _⟩ => rfl
  | ⟨2, _⟩ => show 0 + 1 * e.val = e.val; omega

theorem ldx1 (X : Vec Ideal S512x2048 .f32) (r : Fin 256) (k : Fin 2048) : View.ld X r0_10 (ix2 r k) = X (ix2 ⟨r.val, by omega⟩ k) := by
  show X _ = X _
  congr 1
  funext a
  apply Fin.ext
  match a with
  | ⟨0, _⟩ => show 0 + 1 * r.val = r.val; omega
  | ⟨1, _⟩ => show 0 + 1 * k.val = k.val; omega

theorem ldx2 (X : Vec Ideal S512x2048 .f32) (r : Fin 256) (k : Fin 2048) : View.ld X r0_12 (ix2 r k) = X (ix2 ⟨256 + r.val, by omega⟩ k) := by
  show X _ = X _
  congr 1
  funext a
  apply Fin.ext
  match a with
  | ⟨0, _⟩ => show 256 + 1 * r.val = 256 + r.val; omega
  | ⟨1, _⟩ => show 0 + 1 * k.val = k.val; omega

/-- Row `r` of the block's heads, side by side: column `e` belongs to head `e / 512`. -/
def oB (r : Fin 512) (e : Fin 2048) : EReal :=
  headK (fun j => ∑ x : Fin 512, x0 (ix2 r ⟨e.val / 512 * 512 + x.val, by omega⟩) * x1 (ix4 0 0 j ⟨e.val / 512 * 512 + x.val, by omega⟩)) (fun j => x2 (ix4 0 0 j e))

theorem att1 (r : Fin 256) (e : Fin 2048) :
    k0_pay8 (k0_pay3 (View.ld x2 r0_0)) (k0_pay4 (View.ld x1 r0_0) (View.ld x0 r0_2)) (k0_pay5 (View.ld x1 r0_0) (View.ld x0 r0_3)) (k0_pay6 (View.ld x1 r0_0) (View.ld x0 r0_4)) (k0_pay7 (View.ld x1 r0_0) (View.ld x2 r0_0) (View.ld x0 r0_1)) (ix2 r e) = oB x0 x1 x2 ⟨r.val, by omega⟩ e := by
  rw [pay8_apply]
  have he : e.val < 2048 := e.isLt
  by_cases h0 : e.val < 512
  · rw [dif_pos h0]
    exact (pay7_apply _ _ _ r _).trans (headCongr (fun j => Finset.sum_congr (M := EReal) rfl fun x _ => congrArg₂ (· * ·) (ldq1 x0 r x _ (by show e.val / 512 * 512 + x.val = 0 + x.val; omega)) (ldk x1 j _ _ (by show e.val / 512 * 512 + x.val = x.val; omega))) (fun j => (ldk x2 j _ _ (by show e.val = e.val; omega))))
  rw [dif_neg h0]
  by_cases h1 : e.val - 512 < 512
  · rw [dif_pos h1]
    exact headCongr (fun j => (pay4_apply _ _ r j).trans (Finset.sum_congr (M := EReal) rfl fun x _ => congrArg₂ (· * ·) (ldq2 x0 r x _ (by show e.val / 512 * 512 + x.val = 512 + x.val; omega)) (ldk x1 j _ _ (by show e.val / 512 * 512 + x.val = 512 + x.val; omega)))) (fun j => (pay3_apply _ j _).trans (ldk x2 j _ _ (by show e.val = 512 + (e.val - 512); omega)))
  rw [dif_neg h1]
  by_cases h2 : e.val - 512 - 512 < 512
  · rw [dif_pos h2]
    exact headCongr (fun j => (pay5_apply _ _ r j).trans (Finset.sum_congr (M := EReal) rfl fun x _ => congrArg₂ (· * ·) (ldq3 x0 r x _ (by show e.val / 512 * 512 + x.val = 1024 + x.val; omega)) (ldk x1 j _ _ (by show e.val / 512 * 512 + x.val = 1024 + x.val; omega)))) (fun j => (pay3_apply _ j _).trans (ldk x2 j _ _ (by show e.val = 1024 + (e.val - 512 - 512); omega)))
  rw [dif_neg h2]
  exact headCongr (fun j => (pay6_apply _ _ r j).trans (Finset.sum_congr (M := EReal) rfl fun x _ => congrArg₂ (· * ·) (ldq4 x0 r x _ (by show e.val / 512 * 512 + x.val = 1536 + x.val; omega)) (ldk x1 j _ _ (by show e.val / 512 * 512 + x.val = 1536 + x.val; omega)))) (fun j => (pay3_apply _ j _).trans (ldk x2 j _ _ (by show e.val = 1536 + (e.val - 512 - 512 - 512); omega)))

theorem att2 (r : Fin 256) (e : Fin 2048) :
    k0_pay13 (k0_pay3 (View.ld x2 r0_0)) (k0_pay9 (k0_pay2 (View.ld x1 r0_0)) (View.ld x0 r0_7)) (k0_pay10 (k0_pay2 (View.ld x1 r0_0)) (View.ld x0 r0_8)) (k0_pay11 (k0_pay2 (View.ld x1 r0_0)) (k0_pay3 (View.ld x2 r0_0)) (View.ld x0 r0_5)) (k0_pay12 (k0_pay2 (View.ld x1 r0_0)) (k0_pay3 (View.ld x2 r0_0)) (View.ld x0 r0_6)) (ix2 r e) = oB x0 x1 x2 ⟨256 + r.val, by omega⟩ e := by
  rw [pay13_apply]
  have he : e.val < 2048 := e.isLt
  by_cases h0 : e.val < 512
  · rw [dif_pos h0]
    exact (pay11_apply _ _ _ r _).trans (headCongr (fun j => Finset.sum_congr (M := EReal) rfl fun x _ => congrArg₂ (· * ·) (ldq5 x0 r x _ (by show e.val / 512 * 512 + x.val = 0 + x.val; omega)) ((pay2_apply _ j _).trans (ldk x1 j _ _ (by show e.val / 512 * 512 + x.val = x.val; omega)))) (fun j => (pay3_apply _ j _).trans (ldk x2 j _ _ (by show e.val = e.val; omega))))
  rw [dif_neg h0]
  by_cases h1 : e.val - 512 < 512
  · rw [dif_pos h1]
    exact (pay12_apply _ _ _ r _).trans (headCongr (fun j => Finset.sum_congr (M := EReal) rfl fun x _ => congrArg₂ (· * ·) (ldq6 x0 r x _ (by show e.val / 512 * 512 + x.val = 512 + x.val; omega)) ((pay2_apply _ j _).trans (ldk x1 j _ _ (by show e.val / 512 * 512 + x.val = 512 + x.val; omega)))) (fun j => (pay3_apply _ j _).trans (ldk x2 j _ _ (by show e.val = 512 + (e.val - 512); omega))))
  rw [dif_neg h1]
  by_cases h2 : e.val - 512 - 512 < 512
  · rw [dif_pos h2]
    exact headCongr (fun j => (pay9_apply _ _ r j).trans (Finset.sum_congr (M := EReal) rfl fun x _ => congrArg₂ (· * ·) (ldq7 x0 r x _ (by show e.val / 512 * 512 + x.val = 1024 + x.val; omega)) ((pay2_apply _ j _).trans (ldk x1 j _ _ (by show e.val / 512 * 512 + x.val = 1024 + x.val; omega))))) (fun j => (pay3_apply _ j _).trans (ldk x2 j _ _ (by show e.val = 1024 + (e.val - 512 - 512); omega)))
  rw [dif_neg h2]
  exact headCongr (fun j => (pay10_apply _ _ r j).trans (Finset.sum_congr (M := EReal) rfl fun x _ => congrArg₂ (· * ·) (ldq8 x0 r x _ (by show e.val / 512 * 512 + x.val = 1536 + x.val; omega)) ((pay2_apply _ j _).trans (ldk x1 j _ _ (by show e.val / 512 * 512 + x.val = 1536 + x.val; omega))))) (fun j => (pay3_apply _ j _).trans (ldk x2 j _ _ (by show e.val = 1536 + (e.val - 512 - 512 - 512); omega)))

/-- Row `r` of the block before the norm. -/
def yB (r : Fin 512) (e : Fin 2048) : EReal := al * x4 (ix2 r e) + ∑ k : Fin 2048, oB x0 x1 x2 r k * x3 (ix3 0 k e)

/-- Row `r` of the block after the norm. -/
def xoB (r : Fin 512) (e : Fin 2048) : EReal := lnRow (yB x0 x1 x2 x3 x4 r) (fun e => x5 (ix3 0 0 e)) (fun e => x6 (ix3 0 0 e)) e

theorem rowCongr {y y' g g' b b' : Fin 2048 → EReal} (hy : y = y') (hg : g = g') (hb : b = b') (e : Fin 2048) : lnRow y g b e = lnRow y' g' b' e := by
  rw [hy, hg, hb]

theorem half1 (r : Fin 256) (e : Fin 2048) :
    k0_pay16 (k0_pay14 (k0_pay8 (k0_pay3 (View.ld x2 r0_0)) (k0_pay4 (View.ld x1 r0_0) (View.ld x0 r0_2)) (k0_pay5 (View.ld x1 r0_0) (View.ld x0 r0_3)) (k0_pay6 (View.ld x1 r0_0) (View.ld x0 r0_4)) (k0_pay7 (View.ld x1 r0_0) (View.ld x2 r0_0) (View.ld x0 r0_1))) (View.ld x3 r0_9) (View.ld x4 r0_10)) (k0_pay15 (View.ld x5 r0_11)) (View.ld x6 r0_11) (ix2 r e)
      = xoB x0 x1 x2 x3 x4 x5 x6 ⟨r.val, by omega⟩ e := by
  refine (first_apply _ _ _ _ _ r e).trans ?_
  exact rowCongr (funext fun e => congrArg₂ (· + ·) (congrArg (al * ·) (ldx1 x4 r e)) (Finset.sum_congr (M := EReal) rfl fun k _ => congrArg₂ (· * ·) (att1 x0 x1 x2 r k) (ldw x3 k e)))
    (funext fun e => ldg x5 e) (funext fun e => ldg x6 e) e

theorem half2 (r : Fin 256) (e : Fin 2048) :
    k0_pay1 (k0_pay17 (k0_pay13 (k0_pay3 (View.ld x2 r0_0)) (k0_pay9 (k0_pay2 (View.ld x1 r0_0)) (View.ld x0 r0_7)) (k0_pay10 (k0_pay2 (View.ld x1 r0_0)) (View.ld x0 r0_8)) (k0_pay11 (k0_pay2 (View.ld x1 r0_0)) (k0_pay3 (View.ld x2 r0_0)) (View.ld x0 r0_5)) (k0_pay12 (k0_pay2 (View.ld x1 r0_0)) (k0_pay3 (View.ld x2 r0_0)) (View.ld x0 r0_6))) (View.ld x3 r0_9) (View.ld x4 r0_12)) (k0_pay18 (View.ld x5 r0_11)) (k0_pay19 (View.ld x6 r0_11))
      (k0_pay20 (k0_pay13 (k0_pay3 (View.ld x2 r0_0)) (k0_pay9 (k0_pay2 (View.ld x1 r0_0)) (View.ld x0 r0_7)) (k0_pay10 (k0_pay2 (View.ld x1 r0_0)) (View.ld x0 r0_8)) (k0_pay11 (k0_pay2 (View.ld x1 r0_0)) (k0_pay3 (View.ld x2 r0_0)) (View.ld x0 r0_5)) (k0_pay12 (k0_pay2 (View.ld x1 r0_0)) (k0_pay3 (View.ld x2 r0_0)) (View.ld x0 r0_6))) (View.ld x3 r0_9) (View.ld x4 r0_12)) k0_pay21 (ix2 r e)
      = xoB x0 x1 x2 x3 x4 x5 x6 ⟨256 + r.val, by omega⟩ e := by
  refine (second_apply _ _ _ _ _ r e).trans ?_
  exact rowCongr (funext fun e => congrArg₂ (· + ·) (congrArg (al * ·) (ldx2 x4 r e)) (Finset.sum_congr (M := EReal) rfl fun k _ => congrArg₂ (· * ·) (att2 x0 x1 x2 r k) (ldw x3 k e)))
    (funext fun e => ldg x5 e) (funext fun e => ldg x6 e) e

/-- A block stored as its lower half and then its upper half, read at a row. -/
theorem halves {η : EltTy} (P Q : Vec Ideal S256x2048 η) (Y : Fin 512 → Fin 2048 → Elt Ideal η)
    (hQ : ∀ r : Fin 256, ∀ e, Q (ix2 r e) = Y ⟨r.val, by omega⟩ e) (hP : ∀ r : Fin 256, ∀ e, P (ix2 r e) = Y ⟨256 + r.val, by omega⟩ e) (r : Fin 512) (e : Fin 2048) :
    View.canon [⟨r0_12, P⟩, ⟨r0_10, Q⟩] (ix2 r e : S512x2048.Idx) = Y r e := by
  by_cases hr : r.val < 256
  · rw [View.canon_cons_of_not_mem _ _ (by
      rw [Rect.mem_set_unit]
      intro h
      have h1 := (h 0).1
      change 256 ≤ r.val at h1
      omega)]
    have ej : (ix2 r e : S512x2048.Idx) = r0_10.emb (ix2 (⟨r.val, hr⟩ : Fin 256) e) := by
      funext a
      apply Fin.ext
      match a with
      | ⟨0, _⟩ => show r.val = 0 + 1 * r.val; omega
      | ⟨1, _⟩ => show e.val = 0 + 1 * e.val; omega
    rw [ej, View.canon_cons_emb, hQ]
  · have ej : (ix2 r e : S512x2048.Idx) = r0_12.emb (ix2 (⟨r.val - 256, by omega⟩ : Fin 256) e) := by
      funext a
      apply Fin.ext
      match a with
      | ⟨0, _⟩ => show r.val = 256 + 1 * (r.val - 256); omega
      | ⟨1, _⟩ => show e.val = 0 + 1 * e.val; omega
    rw [ej, View.canon_cons_emb, hP]
    exact congrArg (fun r => Y r e) (Fin.ext (by show 256 + (r.val - 256) = r.val; omega))

theorem o7 (r : Fin 512) (e : Fin 2048) : out0_7 x0 x1 x2 x3 x4 x5 x6 (ix2 r e) = xoB x0 x1 x2 x3 x4 x5 x6 r e := by
  unfold_out out0_7
  exact halves (η := .f32) _ _ (xoB x0 x1 x2 x3 x4 x5 x6) (half1 x0 x1 x2 x3 x4 x5 x6) (half2 x0 x1 x2 x3 x4 x5 x6) r e

end Blocks

/-! ## The arrays and the blocks of a point -/

abbrev X0 (c : Dev nD) : Vec Ideal S8192x2048 .bf16 := m ((c : Thread nD τ).loc main_arg0)
abbrev X1 (c : Dev nD) : Vec Ideal S4x256x2048 .f32 := m ((c : Thread nD τ).loc main_arg1)
abbrev X2 (c : Dev nD) : Vec Ideal S4x256x2048 .f32 := m ((c : Thread nD τ).loc main_arg2)
abbrev X3 (c : Dev nD) : Vec Ideal S2048x2048 .f32 := m ((c : Thread nD τ).loc main_arg3)
abbrev X4 (c : Dev nD) : Vec Ideal S8192x2048 .f32 := m ((c : Thread nD τ).loc main_arg4)
abbrev X5 (c : Dev nD) : Vec Ideal S2048 .f32 := m ((c : Thread nD τ).loc main_arg5)
abbrev X6 (c : Dev nD) : Vec Ideal S2048 .f32 := m ((c : Thread nD τ).loc main_arg6)

theorem hostK (c : Dev nD) (n : Fin 4) (j : Fin 256) (e : Fin 2048) : (V m c main_v0 : Vec Ideal S1x4x256x2048 .f32) (ix4 0 n j e) = X1 m c (ix3 n j e) := by
  have e : (V m c main_v0 : Vec Ideal S1x4x256x2048 .f32) = broadcastInDim S1x4x256x2048 ![1, 2, 3] bcast_S4x256x2048_S1x4x256x2048_1_2_3 (X1 m c) := by
    unfold V hostOps0
    after_results <;> rfl
  rw [e]
  pointwise

theorem hostV (c : Dev nD) (n : Fin 4) (j : Fin 256) (e : Fin 2048) : (V m c main_v1 : Vec Ideal S1x4x256x2048 .f32) (ix4 0 n j e) = X2 m c (ix3 n j e) := by
  have e : (V m c main_v1 : Vec Ideal S1x4x256x2048 .f32) = broadcastInDim S1x4x256x2048 ![1, 2, 3] bcast_S4x256x2048_S1x4x256x2048_1_2_3 (X2 m c) := by
    unfold V hostOps0
    after_results <;> rfl
  rw [e]
  pointwise

theorem hostW (c : Dev nD) (k e : Fin 2048) : (V m c main_v3 : Vec Ideal S1x2048x2048 .bf16) (ix3 0 k e) = X3 m c (ix2 k e) := by
  have e : (V m c main_v3 : Vec Ideal S1x2048x2048 .bf16) = broadcastInDim S1x2048x2048 ![1, 2] bcast_S2048x2048_S1x2048x2048_1_2 (truncf .bf16 (X3 m c : FVec Ideal S2048x2048 .f32) bitsLt_bf16_f32 : FVec Ideal S2048x2048 .bf16) := by
    unfold V hostOps0
    after_results <;> rfl
  rw [e]
  pointwise

theorem hostG (c : Dev nD) (e : Fin 2048) : (V m c main_v4 : Vec Ideal S1x1x2048 .f32) (ix3 0 0 e) = X5 m c (ix1 e) := by
  have e : (V m c main_v4 : Vec Ideal S1x1x2048 .f32) = broadcastInDim S1x1x2048 ![2] bcast_S2048_S1x1x2048_2 (X5 m c) := by
    unfold V hostOps0
    after_results <;> rfl
  rw [e]
  pointwise

theorem hostB (c : Dev nD) (e : Fin 2048) : (V m c main_v5 : Vec Ideal S1x1x2048 .f32) (ix3 0 0 e) = X6 m c (ix1 e) := by
  have e : (V m c main_v5 : Vec Ideal S1x1x2048 .f32) = broadcastInDim S1x1x2048 ![2] bcast_S2048_S1x1x2048_2 (X6 m c) := by
    unfold V hostOps0
    after_results <;> rfl
  rw [e]
  pointwise

theorem idx0 : ∀ t : Fin cfg0.N, win0_0.index t 0 = t.val ∧ win0_0.index t 1 = 0 := (by decide +kernel : ∀ t : Fin grid0.N, _)

theorem blk0 (c : Dev nD) (t : Fin cfg0.N) (r : Fin 512) (k : Fin 2048) (R : Fin 8192) (hR : R.val = 512 * t.val + r.val) :
    (iblk m c 0 t : Vec Ideal S512x2048 .bf16) (ix2 r k) = X0 m c (ix2 R k) := by
  rw [show X0 m c = V m c main_arg0 from (V_main_arg0 m c).symm]
  unfold iblk
  rw [View.read_apply]
  show V m c main_arg0 _ = V m c main_arg0 _
  congr 1
  funext a
  apply Fin.ext
  match a with
  | ⟨0, _⟩ => show win0_0.index t 0 * 512 + 1 * r.val = R.val; rw [(idx0 t).1]; omega
  | ⟨1, _⟩ => show win0_0.index t 1 * 2048 + 1 * k.val = k.val; rw [(idx0 t).2]; omega

theorem idx4 : ∀ t : Fin cfg0.N, win0_4.index t 0 = t.val ∧ win0_4.index t 1 = 0 := (by decide +kernel : ∀ t : Fin grid0.N, _)

theorem blk4 (c : Dev nD) (t : Fin cfg0.N) (r : Fin 512) (k : Fin 2048) (R : Fin 8192) (hR : R.val = 512 * t.val + r.val) :
    (iblk m c 4 t : Vec Ideal S512x2048 .f32) (ix2 r k) = X4 m c (ix2 R k) := by
  rw [show X4 m c = V m c main_arg4 from (V_main_arg4 m c).symm]
  unfold iblk
  rw [View.read_apply]
  show V m c main_arg4 _ = V m c main_arg4 _
  congr 1
  funext a
  apply Fin.ext
  match a with
  | ⟨0, _⟩ => show win0_4.index t 0 * 512 + 1 * r.val = R.val; rw [(idx4 t).1]; omega
  | ⟨1, _⟩ => show win0_4.index t 1 * 2048 + 1 * k.val = k.val; rw [(idx4 t).2]; omega

theorem idx1 : ∀ t : Fin cfg0.N, win0_1.index t 0 = 0 ∧ win0_1.index t 1 = t.val / 4 ∧ win0_1.index t 2 = 0 ∧ win0_1.index t 3 = 0 := (by decide +kernel : ∀ t : Fin grid0.N, _)

theorem blk1 (c : Dev nD) (t : Fin cfg0.N) (j : Fin 256) (e : Fin 2048) (n : Fin 4) (hn : n.val = t.val / 4) :
    (iblk m c 1 t : Vec Ideal S1x1x256x2048 .f32) (ix4 0 0 j e) = X1 m c (ix3 n j e) := by
  rw [← hostK]
  unfold iblk
  rw [View.read_apply]
  show V m c main_v0 _ = V m c main_v0 _
  congr 1
  funext a
  apply Fin.ext
  match a with
  | ⟨0, _⟩ => show win0_1.index t 0 * 1 + 1 * 0 = 0; rw [(idx1 t).1]
  | ⟨1, _⟩ => show win0_1.index t 1 * 1 + 1 * 0 = n.val; rw [(idx1 t).2.1]; omega
  | ⟨2, _⟩ => show win0_1.index t 2 * 256 + 1 * j.val = j.val; rw [(idx1 t).2.2.1]; omega
  | ⟨3, _⟩ => show win0_1.index t 3 * 2048 + 1 * e.val = e.val; rw [(idx1 t).2.2.2]; omega

theorem idx2 : ∀ t : Fin cfg0.N, win0_2.index t 0 = 0 ∧ win0_2.index t 1 = t.val / 4 ∧ win0_2.index t 2 = 0 ∧ win0_2.index t 3 = 0 := (by decide +kernel : ∀ t : Fin grid0.N, _)

theorem blk2 (c : Dev nD) (t : Fin cfg0.N) (j : Fin 256) (e : Fin 2048) (n : Fin 4) (hn : n.val = t.val / 4) :
    (iblk m c 2 t : Vec Ideal S1x1x256x2048 .f32) (ix4 0 0 j e) = X2 m c (ix3 n j e) := by
  rw [← hostV]
  unfold iblk
  rw [View.read_apply]
  show V m c main_v1 _ = V m c main_v1 _
  congr 1
  funext a
  apply Fin.ext
  match a with
  | ⟨0, _⟩ => show win0_2.index t 0 * 1 + 1 * 0 = 0; rw [(idx2 t).1]
  | ⟨1, _⟩ => show win0_2.index t 1 * 1 + 1 * 0 = n.val; rw [(idx2 t).2.1]; omega
  | ⟨2, _⟩ => show win0_2.index t 2 * 256 + 1 * j.val = j.val; rw [(idx2 t).2.2.1]; omega
  | ⟨3, _⟩ => show win0_2.index t 3 * 2048 + 1 * e.val = e.val; rw [(idx2 t).2.2.2]; omega

theorem idx3 : ∀ t : Fin cfg0.N, win0_3.index t 0 = 0 ∧ win0_3.index t 1 = 0 ∧ win0_3.index t 2 = 0 := (by decide +kernel : ∀ t : Fin grid0.N, _)

theorem blk3 (c : Dev nD) (t : Fin cfg0.N) (k e : Fin 2048) : (iblk m c 3 t : Vec Ideal S1x2048x2048 .bf16) (ix3 0 k e) = X3 m c (ix2 k e) := by
  rw [← hostW]
  unfold iblk
  rw [View.read_apply]
  show V m c main_v3 _ = V m c main_v3 _
  congr 1
  funext a
  apply Fin.ext
  match a with
  | ⟨0, _⟩ => show win0_3.index t 0 * 1 + 1 * 0 = 0; rw [(idx3 t).1]
  | ⟨1, _⟩ => show win0_3.index t 1 * 2048 + 1 * k.val = k.val; rw [(idx3 t).2.1]; omega
  | ⟨2, _⟩ => show win0_3.index t 2 * 2048 + 1 * e.val = e.val; rw [(idx3 t).2.2]; omega

theorem idx5 : ∀ t : Fin cfg0.N, win0_5.index t 0 = 0 ∧ win0_5.index t 1 = 0 ∧ win0_5.index t 2 = 0 := (by decide +kernel : ∀ t : Fin grid0.N, _)

theorem blk5 (c : Dev nD) (t : Fin cfg0.N) (e : Fin 2048) : (iblk m c 5 t : Vec Ideal S1x1x2048 .f32) (ix3 0 0 e) = X5 m c (ix1 e) := by
  rw [← hostG]
  unfold iblk
  rw [View.read_apply]
  show V m c main_v4 _ = V m c main_v4 _
  congr 1
  funext a
  apply Fin.ext
  match a with
  | ⟨0, _⟩ => show win0_5.index t 0 * 1 + 1 * 0 = 0; rw [(idx5 t).1]
  | ⟨1, _⟩ => show win0_5.index t 1 * 1 + 1 * 0 = 0; rw [(idx5 t).2.1]
  | ⟨2, _⟩ => show win0_5.index t 2 * 2048 + 1 * e.val = e.val; rw [(idx5 t).2.2]; omega

theorem idx6 : ∀ t : Fin cfg0.N, win0_6.index t 0 = 0 ∧ win0_6.index t 1 = 0 ∧ win0_6.index t 2 = 0 := (by decide +kernel : ∀ t : Fin grid0.N, _)

theorem blk6 (c : Dev nD) (t : Fin cfg0.N) (e : Fin 2048) : (iblk m c 6 t : Vec Ideal S1x1x2048 .f32) (ix3 0 0 e) = X6 m c (ix1 e) := by
  rw [← hostB]
  unfold iblk
  rw [View.read_apply]
  show V m c main_v5 _ = V m c main_v5 _
  congr 1
  funext a
  apply Fin.ext
  match a with
  | ⟨0, _⟩ => show win0_6.index t 0 * 1 + 1 * 0 = 0; rw [(idx6 t).1]
  | ⟨1, _⟩ => show win0_6.index t 1 * 1 + 1 * 0 = 0; rw [(idx6 t).2.1]
  | ⟨2, _⟩ => show win0_6.index t 2 * 2048 + 1 * e.val = e.val; rw [(idx6 t).2.2]; omega

/-- The heads of a row are that row's of the reference, of real queries and keys. -/
theorem o_eq (c : Dev nD) (t : Fin cfg0.N) (r : Fin 512) (R : Fin 8192) (hR : R.val = 512 * t.val + r.val) (e : Fin 2048)
    (hq : ∀ R d, ∃ a : ℝ, X0 m c (ix2 R d) = (a : EReal)) (hk : ∀ n j d, ∃ a : ℝ, X1 m c (ix3 n j d) = (a : EReal)) :
    oB (iblk m c 0 t) (iblk m c 1 t) (iblk m c 2 t) r e = Cert.Reference7Ideal.Read.val_main_v22 (F := Ideal) (X0 m c) (X1 m c) (X2 m c) (ix2 R e) := by
  have hR' : R.val < 8192 := R.isLt
  refine Eq.trans ?_ (Cert.Reference7Ideal.Xattn.ref_head (X0 m c) (X1 m c) (X2 m c) hq hk ⟨R.val / 2048, by omega⟩ ⟨e.val / 512, by omega⟩ R e rfl rfl)
  exact headCongr (fun j => Finset.sum_congr (M := EReal) rfl fun x _ => congrArg₂ (· * ·) (blk0 m c t r _ R hR) (blk1 m c t j _ ⟨R.val / 2048, by omega⟩ (by show R.val / 2048 = t.val / 4; omega)))
    (fun j => blk2 m c t j e ⟨R.val / 2048, by omega⟩ (by show R.val / 2048 = t.val / 4; omega))

/-- A row of the block after the norm is that row of the reference's. -/
theorem xo_eq (c : Dev nD) (t : Fin cfg0.N) (r : Fin 512) (R : Fin 8192) (hR : R.val = 512 * t.val + r.val) (e : Fin 2048)
    (hq : ∀ R d, ∃ a : ℝ, X0 m c (ix2 R d) = (a : EReal)) (hk : ∀ n j d, ∃ a : ℝ, X1 m c (ix3 n j d) = (a : EReal)) :
    xoB (iblk m c 0 t) (iblk m c 1 t) (iblk m c 2 t) (iblk m c 3 t) (iblk m c 4 t) (iblk m c 5 t) (iblk m c 6 t) r e
      = Cert.Reference7Ideal.Read.val_main_v52 (F := Ideal) (X0 m c) (X1 m c) (X2 m c) (X3 m c) (X4 m c) (X5 m c) (X6 m c) (ix2 R e) := by
  rw [Cert.Reference7Ideal.Xattn.ref_ln]
  unfold xoB
  refine rowCongr (funext fun e => ?_) (funext fun e => blk5 m c t e) (funext fun e => blk6 m c t e) e
  rw [Cert.Reference7Ideal.Xattn.ref_y, ← al_eq]
  unfold yB
  exact congrArg₂ (· + ·) (congrArg (al * ·) (blk4 m c t r e R hR)) (Finset.sum_congr (M := EReal) rfl fun k _ => congrArg₂ (· * ·) (o_eq m c t r R hR k hq hk) (blk3 m c t k e))

/-- Output window 7's final array is the reference's. -/
abbrev G7 (c : Dev nD) : Vec Ideal S8192x2048 .f32 := Cert.Reference7Ideal.Read.val_main_v52 (F := Ideal) (X0 m c) (X1 m c) (X2 m c) (X3 m c) (X4 m c) (X5 m c) (X6 m c)

theorem idx7 : ∀ t : Fin cfg0.N, win0_7.index t 0 = t.val ∧ win0_7.index t 1 = 0 := (by decide +kernel : ∀ t : Fin grid0.N, _)

theorem entry7 (c : Dev nD) (t : Fin cfg0.N) (r : Fin 512) (j : Fin 2048) (R : Fin 8192) (hR : R.val = 512 * t.val + r.val)
    (hq : ∀ R d, ∃ a : ℝ, X0 m c (ix2 R d) = (a : EReal)) (hk : ∀ n j d, ∃ a : ℝ, X1 m c (ix3 n j d) = (a : EReal)) :
    out0_7 (iblk m c 0 t) (iblk m c 1 t) (iblk m c 2 t) (iblk m c 3 t) (iblk m c 4 t) (iblk m c 5 t) (iblk m c 6 t) (ix2 r j) = G7 m c (ix2 R j) := by
  rw [o7]
  exact xo_eq m c t r R hR j hq hk

theorem flushed7 (c : Dev nD) (t : Fin cfg0.N)
    (hq : ∀ R d, ∃ a : ℝ, X0 m c (ix2 R d) = (a : EReal)) (hk : ∀ n j d, ∃ a : ℝ, X1 m c (ix3 n j d) = (a : EReal)) :
    (dats m 0 c).flushed 7 t = ((cfg0.win 7).blk t).view.read (Elt Ideal) (G7 m c : Buf (Elt Ideal) ((c : Thread nD τ).loc main_v6)) := by
  rw [Value.flushed7]
  have hN : t.val < 16 := lt_of_lt_of_eq t.isLt N_0
  funext y
  have hy0 : (y 0).val < 512 := (y 0).isLt
  have hy1 : (y 1).val < 2048 := (y 1).isLt
  obtain ⟨d0, d1⟩ := idx7 t
  have hx : (cfg0.win 7).xinj (grid0.coords t) y = (ix2 ⟨(y 0).val, hy0⟩ ⟨(y 1).val, hy1⟩ : S512x2048.Idx) := by
    funext a; apply Fin.ext
    match a with
    | ⟨0, _⟩ => rfl
    | ⟨1, _⟩ => rfl
  have he : ((cfg0.win 7).blk t).view.emb y = (ix2 ⟨512 * t.val + (y 0).val, by omega⟩ ⟨(y 1).val, hy1⟩ : S8192x2048.Idx) := by
    funext a; apply Fin.ext
    match a with
    | ⟨0, _⟩ => show win0_7.index t 0 * 512 + 1 * (y 0).val = 512 * t.val + (y 0).val; rw [d0]; omega
    | ⟨1, _⟩ => show win0_7.index t 1 * 2048 + 1 * (y 1).val = (y 1).val; rw [d1]; omega
  show out0_7 (iblk m c 0 t) (iblk m c 1 t) (iblk m c 2 t) (iblk m c 3 t) (iblk m c 4 t) (iblk m c 5 t) (iblk m c 6 t) ((cfg0.win 7).xinj (grid0.coords t) y) = G7 m c (((cfg0.win 7).blk t).view.emb y)
  rw [hx, he]
  exact entry7 m c t _ _ _ rfl hq hk

theorem mem_blk7 (t : Fin cfg0.N) (i : S8192x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v6).slice (win0_7.rect t)).set ↔ _
  rw [View.set_slice_whole, Rect.mem_set_unit]
  exact Iff.rfl

theorem final7 (c : Dev nD)
    (hq : ∀ R d, ∃ a : ℝ, X0 m c (ix2 R d) = (a : EReal)) (hk : ∀ n j d, ∃ a : ℝ, X1 m c (ix3 n j d) = (a : EReal)) : (dats m 0 c).arrAt 7 cfg0.N = (G7 m c : Buf (Elt Ideal) ((c : Thread nD τ).loc main_v6)) :=
  (dats m 0 c).arrAt_eq_of_cover 7 _ (fun t _ => flushed7 m c t hq hk) (fun i => by
    have h0 : (i 0).val < 8192 := (i 0).isLt
    have h1 : (i 1).val < 2048 := (i 1).isLt
    have hlt : (i 0).val / 512 < cfg0.N := lt_of_lt_of_eq (by omega) N_0.symm
    refine ⟨⟨(i 0).val / 512, hlt⟩, flush0_7 _, ?_⟩
    rw [mem_blk7]
    obtain ⟨d0, d1⟩ := idx7 ⟨(i 0).val / 512, hlt⟩
    intro a
    match a with
    | ⟨0, _⟩ =>
      show win0_7.index _ 0 * 512 ≤ (i 0).val ∧ (i 0).val < win0_7.index _ 0 * 512 + 512
      rw [d0]
      show (i 0).val / 512 * 512 ≤ (i 0).val ∧ (i 0).val < (i 0).val / 512 * 512 + 512
      omega
    | ⟨1, _⟩ =>
      show win0_7.index _ 1 * 2048 ≤ (i 1).val ∧ (i 1).val < win0_7.index _ 1 * 2048 + 2048
      rw [d1]
      omega)

/-- What the precondition says of the arguments: every query and every key is real. -/
theorem real_args (c : Dev nD) [hp : Cert.Pre_queries_and_keys_finite.Facts] (h : Cert.Pre_Kernel7Ideal_queries_and_keys_finite m) :
    (∀ R d, ∃ a : ℝ, X0 m c (ix2 R d) = (a : EReal)) ∧ (∀ n j d, ∃ a : ℝ, X1 m c (ix3 n j d) = (a : EReal)) := by
  have key : ∀ (n : Fin 4) (u : Fin 8) (j : Fin 256) (d : Fin 2048),
      (X0 m c (ix2 ⟨n.val * 2048 + u.val * 256 + j.val, by omega⟩ d) : EReal) - X0 m c (ix2 ⟨n.val * 2048 + u.val * 256 + j.val, by omega⟩ d) = 0
        ∧ (X1 m c (ix3 n j d) : EReal) - X1 m c (ix3 n j d) = 0 := fun n u j d => by
    have e := congrFun (h c) (ix4 n u j d)
    refine ofBool_and (Eq.trans ?_ e)
    unfold Cert.Pre_queries_and_keys_finite.fn
    pointwise
  refine ⟨fun R d => ?_, fun n j d => real_of_sub (key n 0 j d).2⟩
  have hR : R.val < 8192 := R.isLt
  have e := (key ⟨R.val / 2048, by omega⟩ ⟨R.val % 2048 / 256, by omega⟩ ⟨R.val % 256, Nat.mod_lt _ (by decide)⟩ d).1
  have eR : (⟨R.val / 2048 * 2048 + R.val % 2048 / 256 * 256 + R.val % 256, by omega⟩ : Fin 8192) = R := Fin.ext (by show _ + _ + _ = R.val; omega)
  rw [eR] at e
  exact real_of_sub e

end Cert.Kernel7Ideal.Xattn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel3.Frame
public import proofs.«01_k».proof.Proof.Gen.Reference2Ideal
public import proofs.«01_k».proof.Proof.Gen.Reference3Ideal
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Kernel4.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Kernel5.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Kernel6.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Kernel7.Frame
public import proofs.«01_k».proof.Proof.Gen.Reference7Ideal
public import proofs.«01_k».proof.Proof.Gen.Reference7Ideal.Run
public import proofs.«01_k».proof.Proof.Gen.Reference7Ideal.Read
public import proofs.«01_k».proof.Proof.LruFrame
public import proofs.«01_k».proof.Proof.LruValue
public import proofs.«01_k».proof.Proof.LruRef
public import proofs.«01_k».proof.Proof.MemValue
public import proofs.«01_k».proof.Proof.MlpValue
public import proofs.«01_k».proof.Proof.InProjValue
public import proofs.«01_k».proof.Proof.InProjSample
public import proofs.«01_k».proof.Proof.MmLnValue
public import proofs.«01_k».proof.Proof.XattnValue
public import proofs.«01_k».proof.Proof.Gen.Pre_queries_and_keys_finite
public import Idealize.ShloMosaic.Adequacy
public import Idealize.ShloMosaic.Init

@[expose] public section

noncomputable section

namespace Cert.Proof

open Idealize.ShloMosaic Idealize.SL.Sem Cert.Kernel

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts
instance : Cert.Kernel6.Facts := Cert.Kernel6.Gen.facts
instance : Cert.Kernel6Ideal.Facts := Cert.Kernel6Ideal.Gen.facts
instance : Cert.Reference6Ideal.Facts := Cert.Reference6Ideal.Gen.facts
instance : Cert.Kernel7.Facts := Cert.Kernel7.Gen.facts
instance : Cert.Kernel7Ideal.Facts := Cert.Kernel7Ideal.Gen.facts
instance : Cert.Reference7Ideal.Facts := Cert.Reference7Ideal.Gen.facts
instance : Cert.Pre_queries_and_keys_finite.Facts := Cert.Pre_queries_and_keys_finite.Gen.facts

/-- The grid's body is one text in both printed kernels. -/
theorem defs₀_eq : Cert.Kernel.defs₀ (F := Bits) = Cert.KernelIdeal.defs₀ (F := Bits) := by
  refine congrArg Defs.onTc (funext fun l => funext fun x => ?_)
  match l, x with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) defs₀_eq

/-- The two printed kernels are one text, so the run of the one over any values is the run of the other. -/
theorem frame_kernel : Cert.quiescent_Kernel := fun m ρ _ => by
  rw [defs_eq]
  exact (θ_run Cert.KernelIdeal.defs _ _).mono (fun _ h => h) (Cert.KernelIdeal.Lru.frame_run (F := Bits) m ρ)

theorem frame_ideal : Cert.quiescent_KernelIdeal := fun m ρ _ => Cert.KernelIdeal.Lru.frame_run (F := Ideal) m ρ

/-- The reference's run, read off the arguments it leaves, with its counters. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Both launches' results are the recurrence's values at the arguments they start from. -/
theorem algebraic1 : Cert.algebraic_KernelIdeal_ReferenceIdeal := by
  intro m ρ m' ρ' _ hagree
  refine ⟨fun c => Cert.KernelIdeal.Lru.outY (Cert.KernelIdeal.Lru.inp m c), fun c => Cert.KernelIdeal.Lru.outH (Cert.KernelIdeal.Lru.inp m c), ?_, ?_⟩
  · exact (θ_run Cert.KernelIdeal.defs _ _).mono (fun _ h c => ⟨(h c).1.1, (h c).1.2, (h c).2⟩) (Cert.KernelIdeal.Lru.value_run m ρ)
  · refine (θ_run Cert.ReferenceIdeal.defs _ _).mono (fun _ h c => ?_) (Cert.ReferenceIdeal.Value.run (F := Ideal) m' ρ')
    have e : Cert.ReferenceIdeal.LruRef.inp m' c = Cert.KernelIdeal.Lru.inp m c := by
      obtain ⟨h0, h1, h2, h3, h4, h5, h6, h7, h8, h9⟩ := hagree c
      unfold Cert.ReferenceIdeal.LruRef.inp Cert.KernelIdeal.Lru.inp
      rw [show Cert.ReferenceIdeal.LruRef.a0 m' c = Cert.KernelIdeal.Lru.x0 m c from h0, show Cert.ReferenceIdeal.LruRef.a1 m' c = Cert.KernelIdeal.Lru.x1 m c from h1,
        show Cert.ReferenceIdeal.LruRef.a2 m' c = Cert.KernelIdeal.Lru.x2 m c from h2, show Cert.ReferenceIdeal.LruRef.a3 m' c = Cert.KernelIdeal.Lru.x3 m c from h3,
        show Cert.ReferenceIdeal.LruRef.a4 m' c = Cert.KernelIdeal.Lru.x4 m c from h4, show Cert.ReferenceIdeal.LruRef.a5 m' c = Cert.KernelIdeal.Lru.x5 m c from h5,
        show Cert.ReferenceIdeal.LruRef.a6 m' c = Cert.KernelIdeal.Lru.x6 m c from h6, show Cert.ReferenceIdeal.LruRef.a7 m' c = Cert.KernelIdeal.Lru.x7 m c from h7,
        show Cert.ReferenceIdeal.LruRef.a8 m' c = Cert.KernelIdeal.Lru.x8 m c from h8, show Cert.ReferenceIdeal.LruRef.a9 m' c = Cert.KernelIdeal.Lru.x9 m c from h9]
    exact ⟨(h c).1.trans ((Cert.ReferenceIdeal.LruRef.result_y m' c).trans (congrArg _ e)),
      (h c).2.1.trans ((Cert.ReferenceIdeal.LruRef.result_h m' c).trans (congrArg _ e)), (h c).2.2⟩

/-! ## The perceptron -/

theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel's `alpha` is named as the fourth root of eight, and its printed word is that value rounded. -/
theorem preserves2 : Cert.preserves_Kernel2_Kernel2Ideal :=
  IdealRules.named_const.statement Cert.Kernel2Ideal.κ "alpha" .f32 0x3FD744FD#32 ((Real.sqrt (Real.sqrt 8) : ℝ) : EReal) rfl

theorem algebraic2 : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4⟩ := hagree c
  rw [Cert.Reference2Ideal.Read.val_main_v32_eq, h0, h1, h2, h3, h4]
  exact (Cert.Kernel2Ideal.Mlp.value m c).symm

/-! ## The memory keys and values -/

theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic3 : Cert.algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨h0, h1⟩ := hagree c
  rw [h0, h1]
  exact (Cert.Reference3Ideal.Read.val_main_v2_eq _ _).trans (Cert.Kernel3Ideal.Mem.value m c).symm

/-! ## The input product of the prompt rows -/

theorem frame_reference4 : Cert.quiescent_Reference4Ideal := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

theorem algebraic4 : Cert.algebraic_Kernel4Ideal_Reference4Ideal := by
  intro m ρ m' ρ' _ hagree
  refine ⟨fun c => Cert.Kernel4Ideal.InProj.G6 m c, fun c => Cert.Kernel4Ideal.InProj.G7 m c, fun c => Cert.Kernel4Ideal.InProj.G8 m c, fun c => Cert.Kernel4Ideal.InProj.G9 m c, ?_, ?_⟩
  · exact (θ_run Cert.Kernel4Ideal.defs _ _).mono (fun _ h c => ⟨(h c).1.trans (Cert.Kernel4Ideal.InProj.final6 m c), (h c).2.1.trans (Cert.Kernel4Ideal.InProj.final7 m c),
      (h c).2.2.1.trans (Cert.Kernel4Ideal.InProj.final8 m c), (h c).2.2.2.1.trans (Cert.Kernel4Ideal.InProj.final9 m c), (h c).2.2.2.2⟩) (Cert.Kernel4Ideal.Value.run_blocks (F := Ideal) m ρ)
  · refine (θ_run Cert.Reference4Ideal.defs _ _).mono (fun _ h c => ?_) (Cert.Reference4Ideal.Value.run (F := Ideal) m' ρ')
    obtain ⟨h0, h1, h2, h3⟩ := hagree c
    refine ⟨(h c).1.trans ?_, (h c).2.1.trans ?_, (h c).2.2.1.trans ?_, (h c).2.2.2.1.trans ?_, (h c).2.2.2.2⟩
    · rw [Cert.Reference4Ideal.Read.val_main_v40_eq, h0, h1]
    · rw [Cert.Reference4Ideal.Read.val_main_v55_eq, h0, h1, h2]
    · rw [Cert.Reference4Ideal.Read.val_main_v69_eq, h0, h1, h3]
    · rw [Cert.Reference4Ideal.Read.val_main_v70_eq, h0, h1]

/-! ## The input product of the sample rows -/

theorem frame_reference5 : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

theorem algebraic5 : Cert.algebraic_Kernel5Ideal_Reference5Ideal := by
  intro m ρ m' ρ' _ hagree
  refine ⟨fun c => Cert.Kernel5Ideal.InProj.G6 m c, fun c => Cert.Kernel5Ideal.InProj.G7 m c, fun c => Cert.Kernel5Ideal.InProj.G8 m c, fun c => Cert.Kernel5Ideal.InProj.G9 m c, ?_, ?_⟩
  · exact (θ_run Cert.Kernel5Ideal.defs _ _).mono (fun _ h c => ⟨(h c).1.trans (Cert.Kernel5Ideal.InProj.final6 m c), (h c).2.1.trans (Cert.Kernel5Ideal.InProj.final7 m c),
      (h c).2.2.1.trans (Cert.Kernel5Ideal.InProj.final8 m c), (h c).2.2.2.1.trans (Cert.Kernel5Ideal.InProj.final9 m c), (h c).2.2.2.2⟩) (Cert.Kernel5Ideal.Value.run_blocks (F := Ideal) m ρ)
  · refine (θ_run Cert.Reference5Ideal.defs _ _).mono (fun _ h c => ?_) (Cert.Reference5Ideal.Value.run (F := Ideal) m' ρ')
    obtain ⟨h0, h1, h2, h3⟩ := hagree c
    refine ⟨(h c).1.trans ?_, (h c).2.1.trans ?_, (h c).2.2.1.trans ?_, (h c).2.2.2.1.trans ?_, (h c).2.2.2.2⟩
    · rw [Cert.Reference5Ideal.Read.val_main_v40_eq, h0, h1]
    · rw [Cert.Reference5Ideal.Read.val_main_v55_eq, h0, h1, h2]
    · rw [Cert.Reference5Ideal.Read.val_main_v69_eq, h0, h1, h3]
    · rw [Cert.Reference5Ideal.Read.val_main_v70_eq, h0, h1]

/-! ## The output product with its norm and the query product -/

theorem frame_reference6 : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- The kernel's `alpha` is named as the fourth root of eight, and its printed word is that value rounded. -/
theorem preserves6 : Cert.preserves_Kernel6_Kernel6Ideal :=
  IdealRules.named_const.statement Cert.Kernel6Ideal.κ "alpha" .f32 0x3FD744FD#32 ((Real.sqrt (Real.sqrt 8) : ℝ) : EReal) rfl

theorem algebraic6 : Cert.algebraic_Kernel6Ideal_Reference6Ideal := by
  intro m ρ m' ρ' _ hagree
  refine ⟨fun c => Cert.Kernel6Ideal.MmLn.G7 m c, fun c => Cert.Kernel6Ideal.MmLn.G8 m c, ?_, ?_⟩
  · exact (θ_run Cert.Kernel6Ideal.defs _ _).mono (fun _ h c => ⟨(h c).1.trans (Cert.Kernel6Ideal.MmLn.final7 m c), (h c).2.1.trans (Cert.Kernel6Ideal.MmLn.final8 m c), (h c).2.2⟩)
      (Cert.Kernel6Ideal.Value.run_blocks (F := Ideal) m ρ)
  · refine (θ_run Cert.Reference6Ideal.defs _ _).mono (fun _ h c => ?_) (Cert.Reference6Ideal.Value.run (F := Ideal) m' ρ')
    obtain ⟨h0, h1, h2, h3, h4, h5, h6⟩ := hagree c
    refine ⟨(h c).1.trans ?_, (h c).2.1.trans ?_, (h c).2.2⟩
    · rw [Cert.Reference6Ideal.Read.val_main_v31_eq, h0, h1, h2, h3, h4, h5]
    · rw [Cert.Reference6Ideal.Read.val_main_v33_eq, h0, h1, h2, h3, h4, h5, h6]

/-! ## The attention to the memory with its output product, residual and norm -/

theorem frame_reference7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The kernel's `scale` is named as the inverse root of 512 and its `alpha` as the fourth root of eight; the printed words are those values rounded. -/
theorem preserves7 : Cert.preserves_Kernel7_Kernel7Ideal :=
  ⟨IdealRules.named_const.statement Cert.Kernel7Ideal.κ "scale" .f32 0x3D3504F3#32 (((Real.sqrt 512)⁻¹ : ℝ) : EReal) rfl,
    IdealRules.named_const.statement Cert.Kernel7Ideal.κ "alpha" .f32 0x3FD744FD#32 ((Real.sqrt (Real.sqrt 8) : ℝ) : EReal) rfl⟩

theorem algebraic7 : Cert.algebraic_Kernel7Ideal_Reference7Ideal_pre_queries_and_keys_finite := by
  intro m ρ m' ρ' hpre hagree
  refine ⟨fun c => Cert.Kernel7Ideal.Xattn.G7 m c, ?_, ?_⟩
  · exact (θ_run Cert.Kernel7Ideal.defs _ _).mono
      (fun _ h c => ⟨(h c).1.trans (Cert.Kernel7Ideal.Xattn.final7 m c (Cert.Kernel7Ideal.Xattn.real_args m c hpre).1 (Cert.Kernel7Ideal.Xattn.real_args m c hpre).2), (h c).2⟩)
      (Cert.Kernel7Ideal.Value.run_blocks (F := Ideal) m ρ)
  · refine (θ_run Cert.Reference7Ideal.defs _ _).mono (fun _ h c => ?_) (Cert.Reference7Ideal.Value.run (F := Ideal) m' ρ')
    obtain ⟨h0, h1, h2, h3, h4, h5, h6⟩ := hagree c
    refine ⟨(h c).1.trans ?_, (h c).2⟩
    rw [Cert.Reference7Ideal.Read.val_main_v52_eq, h0, h1, h2, h3, h4, h5, h6]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_queries_and_keys_finite.Gen.facts,
  frame_kernel, frame_ideal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, fun m ρ _ => Cert.Kernel7Ideal.Gen.frame m ρ, frame_reference7, fun m ρ _ => frame_reference7 m ρ trivial,
  trivial, algebraic1, preserves2, algebraic2, trivial, algebraic3, trivial, algebraic4, trivial, algebraic5, preserves6, algebraic6, preserves7, algebraic7⟩

end Cert.Proof

end
